-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x7168 : Shape := ⟨3, ![1, 2048, 7168]⟩
abbrev S4608x3584 : Shape := ⟨2, ![4608, 3584]⟩
abbrev S4608x448 : Shape := ⟨2, ![4608, 448]⟩
abbrev S1 : Shape := ⟨1, ![1]⟩
abbrev S1x2048x3584 : Shape := ⟨3, ![1, 2048, 3584]⟩
abbrev S1x2048x448 : Shape := ⟨3, ![1, 2048, 448]⟩
abbrev S8x8x128 : Shape := ⟨3, ![8, 8, 128]⟩
abbrev S28x2048x256 : Shape := ⟨3, ![28, 2048, 256]⟩
abbrev S1x256x7168 : Shape := ⟨3, ![1, 256, 7168]⟩
abbrev S1x256x3584 : Shape := ⟨3, ![1, 256, 3584]⟩
abbrev S1x256x448 : Shape := ⟨3, ![1, 256, 448]⟩
abbrev S1x8x128 : Shape := ⟨3, ![1, 8, 128]⟩
abbrev S28x256x256 : Shape := ⟨3, ![28, 256, 256]⟩
abbrev S32x7168 : Shape := ⟨2, ![32, 7168]⟩
abbrev S1x32x7168 : Shape := ⟨3, ![1, 32, 7168]⟩
abbrev S1x1x1 : Shape := ⟨3, ![1, 1, 1]⟩
abbrev S32x128 : Shape := ⟨2, ![32, 128]⟩
abbrev S8x128 : Shape := ⟨2, ![8, 128]⟩
abbrev S1x32x256 : Shape := ⟨3, ![1, 32, 256]⟩
abbrev S32x256 : Shape := ⟨2, ![32, 256]⟩
abbrev S32x128x1 : Shape := ⟨3, ![32, 128, 1]⟩
abbrev S64x128 : Shape := ⟨2, ![64, 128]⟩
abbrev S1x32x128 : Shape := ⟨3, ![1, 32, 128]⟩
abbrev S32x64 : Shape := ⟨2, ![32, 64]⟩
abbrev S1x32x64 : Shape := ⟨3, ![1, 32, 64]⟩
abbrev S8x1x1 : Shape := ⟨3, ![8, 1, 1]⟩
abbrev S8 : Shape := ⟨1, ![8]⟩
abbrev S1x2048x4608 : Shape := ⟨3, ![1, 2048, 4608]⟩
abbrev S28x512x256 : Shape := ⟨3, ![28, 512, 256]⟩
abbrev S512x3584 : Shape := ⟨2, ![512, 3584]⟩
abbrev S512x448 : Shape := ⟨2, ![512, 448]⟩
abbrev S1x512x512 : Shape := ⟨3, ![1, 512, 512]⟩
abbrev S1x512x256 : Shape := ⟨3, ![1, 512, 256]⟩
abbrev S512x256 : Shape := ⟨2, ![512, 256]⟩
abbrev S512x512 : Shape := ⟨2, ![512, 512]⟩
abbrev S256x512 : Shape := ⟨2, ![256, 512]⟩
abbrev S1x256x512 : Shape := ⟨3, ![1, 256, 512]⟩

abbrev nBuf : Space → Nat
  | .hbm => 11
  | .vmem => 19
  | .smem => 2
  | _ => 0

abbrev bufTy : (tb : Table) → Fin (tcTables nBuf tb) → BufTy
  | .hbm, ⟨0, _⟩ => ⟨S1x2048x7168, .bf16⟩
  | .hbm, ⟨1, _⟩ => ⟨S4608x3584, .i8⟩
  | .hbm, ⟨2, _⟩ => ⟨S4608x448, .fp8e4m3⟩
  | .hbm, ⟨3, _⟩ => ⟨S1, .f32⟩
  | .hbm, ⟨4, _⟩ => ⟨S1x2048x3584, .i8⟩
  | .hbm, ⟨5, _⟩ => ⟨S1x2048x448, .fp8e4m3⟩
  | .hbm, ⟨6, _⟩ => ⟨S8x8x128, .f32⟩
  | .hbm, ⟨7, _⟩ => ⟨S28x2048x256, .bf16⟩
  | .hbm, ⟨8, _⟩ => ⟨S8x1x1, .f32⟩
  | .hbm, ⟨9, _⟩ => ⟨S8, .f32⟩
  | .hbm, ⟨10, _⟩ => ⟨S1x2048x4608, .bf16⟩
  | .local _ .vmem, ⟨0, _⟩ => ⟨S1x256x7168, .bf16⟩
  | .local _ .vmem, ⟨1, _⟩ => ⟨S1x256x7168, .bf16⟩
  | .local _ .vmem, ⟨2, _⟩ => ⟨S1x256x3584, .i8⟩
  | .local _ .vmem, ⟨3, _⟩ => ⟨S1x256x3584, .i8⟩
  | .local _ .vmem, ⟨4, _⟩ => ⟨S1x256x448, .fp8e4m3⟩
  | .local _ .vmem, ⟨5, _⟩ => ⟨S1x256x448, .fp8e4m3⟩
  | .local _ .vmem, ⟨6, _⟩ => ⟨S1x8x128, .f32⟩
  | .local _ .vmem, ⟨7, _⟩ => ⟨S1x8x128, .f32⟩
  | .local _ .vmem, ⟨8, _⟩ => ⟨S28x256x256, .bf16⟩
  | .local _ .vmem, ⟨9, _⟩ => ⟨S28x256x256, .bf16⟩
  | .local _ .vmem, ⟨10, _⟩ => ⟨S28x512x256, .bf16⟩
  | .local _ .vmem, ⟨11, _⟩ => ⟨S28x512x256, .bf16⟩
  | .local _ .vmem, ⟨12, _⟩ => ⟨S512x3584, .i8⟩
  | .local _ .vmem, ⟨13, _⟩ => ⟨S512x3584, .i8⟩
  | .local _ .vmem, ⟨14, _⟩ => ⟨S512x448, .fp8e4m3⟩
  | .local _ .vmem, ⟨15, _⟩ => ⟨S512x448, .fp8e4m3⟩
  | .local _ .vmem, ⟨16, _⟩ => ⟨S1x512x512, .bf16⟩
  | .local _ .vmem, ⟨17, _⟩ => ⟨S1x512x512, .bf16⟩
  | .local _ .vmem, ⟨18, _⟩ => ⟨S28x512x256, .bf16⟩
  | .local _ .smem, ⟨0, _⟩ => ⟨S1, .f32⟩
  | .local _ .smem, ⟨1, _⟩ => ⟨S8, .f32⟩
  | _, _ => ⟨S1x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) : Fin 3 → Nat :=
  let c0_11 : Index := 0#32
  let c0_i32 : BitVec 32 := 0#32
  let c1_i32 : BitVec 32 := 1#32
  let arg6 : BitVec 32 := Scf.iv c0_i32 c1_i32 k0_t1
  let c32_i32 : BitVec 32 := 32#32
  let v20 : BitVec 32 := Scalar.muli arg6 c32_i32
  let v21 : Index := Scalar.indexCast v20
  let c0_12 : Index := 0#32
  ![0, v21.toNat, 0]
@[reducible] def k0_t2_loop : Scf.Loop 32 :=
  let c0_i32_7 : BitVec 32 := 0#32
  let c8_i32_8 : BitVec 32 := 8#32
  let v19 : BitVec 32 := Scalar.addi c0_i32_7 c8_i32_8
  let c1_i32_9 : BitVec 32 := 1#32
  ⟨c0_i32_7, v19, c1_i32_9⟩
def k0_mult1 (k0_t2 : Fin k0_t2_loop.trips) : BitVec 32 :=
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  v20
def k0_off2 (k0_t2 : Fin k0_t2_loop.trips) : Fin 3 → Nat :=
  let c0_11 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v25 : Index := Scalar.indexCast v21
  let c0_12 : Index := 0#32
  ![0, v25.toNat, 0]
def k0_off3 (k0_t2 : Fin k0_t2_loop.trips) : Fin 3 → Nat :=
  let c0_23 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v78 : Index := Scalar.indexCast v21
  let c256 : Index := 256#32
  ![0, v78.toNat, 256]
def k0_off4 (k0_t2 : Fin k0_t2_loop.trips) : Fin 3 → Nat :=
  let c0_37 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v131 : Index := Scalar.indexCast v21
  let c512 : Index := 512#32
  ![0, v131.toNat, 512]
def k0_off5 (k0_t2 : Fin k0_t2_loop.trips) : Fin 3 → Nat :=
  let c0_51 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v184 : Index := Scalar.indexCast v21
  let c768 : Index := 768#32
  ![0, v184.toNat, 768]
def k0_off6 (k0_t2 : Fin k0_t2_loop.trips) : Fin 3 → Nat :=
  let c0_113 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v441 : Index := Scalar.indexCast v21
  let c0_114 : Index := 0#32
  ![0, v441.toNat, 0]
def k0_off7 (k0_t2 : Fin k0_t2_loop.trips) : Fin 3 → Nat :=
  let c0_115 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v445 : Index := Scalar.indexCast v21
  let c0_116 : Index := 0#32
  ![0, v445.toNat, 0]
def k0_off8 (k0_t2 : Fin k0_t2_loop.trips) : Fin 3 → Nat :=
  let c0_117 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v449 : Index := Scalar.indexCast v21
  let c128 : Index := 128#32
  ![0, v449.toNat, 128]
def k0_off9 (k0_t2 : Fin k0_t2_loop.trips) : Fin 3 → Nat :=
  let c0_148 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v559 : Index := Scalar.indexCast v21
  let c128_149 : Index := 128#32
  ![0, v559.toNat, 128]
def k0_off10 (k0_t2 : Fin k0_t2_loop.trips) : Fin 3 → Nat :=
  let c1 : Index := 1#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v563 : Index := Scalar.indexCast v21
  let c0_150 : Index := 0#32
  ![1, v563.toNat, 0]
def k0_off11 (k0_t2 : Fin k0_t2_loop.trips) : Fin 3 → Nat :=
  let c1_151 : Index := 1#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v567 : Index := Scalar.indexCast v21
  let c128_152 : Index := 128#32
  ![1, v567.toNat, 128]
def k0_off12 (k0_t2 : Fin k0_t2_loop.trips) : Fin 3 → Nat :=
  let c0_183 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v677 : Index := Scalar.indexCast v21
  let c256_184 : Index := 256#32
  ![0, v677.toNat, 256]
def k0_off13 (k0_t2 : Fin k0_t2_loop.trips) : Fin 3 → Nat :=
  let c2 : Index := 2#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v681 : Index := Scalar.indexCast v21
  let c0_185 : Index := 0#32
  ![2, v681.toNat, 0]
def k0_off14 (k0_t2 : Fin k0_t2_loop.trips) : Fin 3 → Nat :=
  let c2_186 : Index := 2#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v685 : Index := Scalar.indexCast v21
  let c128_187 : Index := 128#32
  ![2, v685.toNat, 128]
def k0_off15 (k0_t2 : Fin k0_t2_loop.trips) : Fin 3 → Nat :=
  let c0_217 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v795 : Index := Scalar.indexCast v21
  let c384 : Index := 384#32
  ![0, v795.toNat, 384]
def k0_off16 (k0_t2 : Fin k0_t2_loop.trips) : Fin 3 → Nat :=
  let c3 : Index := 3#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v799 : Index := Scalar.indexCast v21
  let c0_218 : Index := 0#32
  ![3, v799.toNat, 0]
def k0_off17 (k0_t2 : Fin k0_t2_loop.trips) : Fin 3 → Nat :=
  let c3_219 : Index := 3#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v803 : Index := Scalar.indexCast v21
  let c128_220 : Index := 128#32
  ![3, v803.toNat, 128]
def k0_off18 (k0_t2 : Fin k0_t2_loop.trips) : Fin 3 → Nat :=
  let c0_227 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v827 : Index := Scalar.indexCast v21
  let c1024 : Index := 1024#32
  ![0, v827.toNat, 1024]
def k0_off19 (k0_t2 : Fin k0_t2_loop.trips) : Fin 3 → Nat :=
  let c0_241 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v880 : Index := Scalar.indexCast v21
  let c1280 : Index := 1280#32
  ![0, v880.toNat, 1280]
def k0_off20 (k0_t2 : Fin k0_t2_loop.trips) : Fin 3 → Nat :=
  let c0_255 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v933 : Index := Scalar.indexCast v21
  let c1536 : Index := 1536#32
  ![0, v933.toNat, 1536]
def k0_off21 (k0_t2 : Fin k0_t2_loop.trips) : Fin 3 → Nat :=
  let c0_269 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v986 : Index := Scalar.indexCast v21
  let c1792 : Index := 1792#32
  ![0, v986.toNat, 1792]
def k0_off22 (k0_t2 : Fin k0_t2_loop.trips) : Fin 3 → Nat :=
  let c0_336 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1243 : Index := Scalar.indexCast v21
  let c512_337 : Index := 512#32
  ![0, v1243.toNat, 512]
def k0_off23 (k0_t2 : Fin k0_t2_loop.trips) : Fin 3 → Nat :=
  let c4 : Index := 4#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1247 : Index := Scalar.indexCast v21
  let c0_338 : Index := 0#32
  ![4, v1247.toNat, 0]
def k0_off24 (k0_t2 : Fin k0_t2_loop.trips) : Fin 3 → Nat :=
  let c4_339 : Index := 4#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1251 : Index := Scalar.indexCast v21
  let c128_340 : Index := 128#32
  ![4, v1251.toNat, 128]
def k0_off25 (k0_t2 : Fin k0_t2_loop.trips) : Fin 3 → Nat :=
  let c0_371 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1361 : Index := Scalar.indexCast v21
  let c640 : Index := 640#32
  ![0, v1361.toNat, 640]
def k0_off26 (k0_t2 : Fin k0_t2_loop.trips) : Fin 3 → Nat :=
  let c5 : Index := 5#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1365 : Index := Scalar.indexCast v21
  let c0_372 : Index := 0#32
  ![5, v1365.toNat, 0]
def k0_off27 (k0_t2 : Fin k0_t2_loop.trips) : Fin 3 → Nat :=
  let c5_373 : Index := 5#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1369 : Index := Scalar.indexCast v21
  let c128_374 : Index := 128#32
  ![5, v1369.toNat, 128]
def k0_off28 (k0_t2 : Fin k0_t2_loop.trips) : Fin 3 → Nat :=
  let c0_405 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1479 : Index := Scalar.indexCast v21
  let c768_406 : Index := 768#32
  ![0, v1479.toNat, 768]
def k0_off29 (k0_t2 : Fin k0_t2_loop.trips) : Fin 3 → Nat :=
  let c6 : Index := 6#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1483 : Index := Scalar.indexCast v21
  let c0_407 : Index := 0#32
  ![6, v1483.toNat, 0]
def k0_off30 (k0_t2 : Fin k0_t2_loop.trips) : Fin 3 → Nat :=
  let c6_408 : Index := 6#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1487 : Index := Scalar.indexCast v21
  let c128_409 : Index := 128#32
  ![6, v1487.toNat, 128]
def k0_off31 (k0_t2 : Fin k0_t2_loop.trips) : Fin 3 → Nat :=
  let c0_440 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1597 : Index := Scalar.indexCast v21
  let c896 : Index := 896#32
  ![0, v1597.toNat, 896]
def k0_off32 (k0_t2 : Fin k0_t2_loop.trips) : Fin 3 → Nat :=
  let c7 : Index := 7#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1601 : Index := Scalar.indexCast v21
  let c0_441 : Index := 0#32
  ![7, v1601.toNat, 0]
def k0_off33 (k0_t2 : Fin k0_t2_loop.trips) : Fin 3 → Nat :=
  let c7_442 : Index := 7#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1605 : Index := Scalar.indexCast v21
  let c128_443 : Index := 128#32
  ![7, v1605.toNat, 128]
def k0_off34 (k0_t2 : Fin k0_t2_loop.trips) : Fin 3 → Nat :=
  let c0_450 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1630 : Index := Scalar.indexCast v21
  let c0_451 : Index := 0#32
  ![0, v1630.toNat, 0]
def k0_off35 (k0_t2 : Fin k0_t2_loop.trips) : Fin 3 → Nat :=
  let c0_452 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1634 : Index := Scalar.indexCast v21
  let c2048 : Index := 2048#32
  ![0, v1634.toNat, 2048]
def k0_off36 (k0_t2 : Fin k0_t2_loop.trips) : Fin 3 → Nat :=
  let c0_466 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1687 : Index := Scalar.indexCast v21
  let c2304 : Index := 2304#32
  ![0, v1687.toNat, 2304]
def k0_off37 (k0_t2 : Fin k0_t2_loop.trips) : Fin 3 → Nat :=
  let c0_480 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1740 : Index := Scalar.indexCast v21
  let c2560 : Index := 2560#32
  ![0, v1740.toNat, 2560]
def k0_off38 (k0_t2 : Fin k0_t2_loop.trips) : Fin 3 → Nat :=
  let c0_494 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v1793 : Index := Scalar.indexCast v21
  let c2816 : Index := 2816#32
  ![0, v1793.toNat, 2816]
def k0_off39 (k0_t2 : Fin k0_t2_loop.trips) : Fin 3 → Nat :=
  let c0_561 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2050 : Index := Scalar.indexCast v21
  let c1024_562 : Index := 1024#32
  ![0, v2050.toNat, 1024]
def k0_off40 (k0_t2 : Fin k0_t2_loop.trips) : Fin 3 → Nat :=
  let c8 : Index := 8#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2054 : Index := Scalar.indexCast v21
  let c0_563 : Index := 0#32
  ![8, v2054.toNat, 0]
def k0_off41 (k0_t2 : Fin k0_t2_loop.trips) : Fin 3 → Nat :=
  let c8_564 : Index := 8#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2058 : Index := Scalar.indexCast v21
  let c128_565 : Index := 128#32
  ![8, v2058.toNat, 128]
def k0_off42 (k0_t2 : Fin k0_t2_loop.trips) : Fin 3 → Nat :=
  let c0_596 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2168 : Index := Scalar.indexCast v21
  let c1152 : Index := 1152#32
  ![0, v2168.toNat, 1152]
def k0_off43 (k0_t2 : Fin k0_t2_loop.trips) : Fin 3 → Nat :=
  let c9 : Index := 9#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2172 : Index := Scalar.indexCast v21
  let c0_597 : Index := 0#32
  ![9, v2172.toNat, 0]
def k0_off44 (k0_t2 : Fin k0_t2_loop.trips) : Fin 3 → Nat :=
  let c9_598 : Index := 9#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2176 : Index := Scalar.indexCast v21
  let c128_599 : Index := 128#32
  ![9, v2176.toNat, 128]
def k0_off45 (k0_t2 : Fin k0_t2_loop.trips) : Fin 3 → Nat :=
  let c0_630 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2286 : Index := Scalar.indexCast v21
  let c1280_631 : Index := 1280#32
  ![0, v2286.toNat, 1280]
def k0_off46 (k0_t2 : Fin k0_t2_loop.trips) : Fin 3 → Nat :=
  let c10 : Index := 10#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2290 : Index := Scalar.indexCast v21
  let c0_632 : Index := 0#32
  ![10, v2290.toNat, 0]
def k0_off47 (k0_t2 : Fin k0_t2_loop.trips) : Fin 3 → Nat :=
  let c10_633 : Index := 10#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2294 : Index := Scalar.indexCast v21
  let c128_634 : Index := 128#32
  ![10, v2294.toNat, 128]
def k0_off48 (k0_t2 : Fin k0_t2_loop.trips) : Fin 3 → Nat :=
  let c0_665 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2404 : Index := Scalar.indexCast v21
  let c1408 : Index := 1408#32
  ![0, v2404.toNat, 1408]
def k0_off49 (k0_t2 : Fin k0_t2_loop.trips) : Fin 3 → Nat :=
  let c11 : Index := 11#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2408 : Index := Scalar.indexCast v21
  let c0_666 : Index := 0#32
  ![11, v2408.toNat, 0]
def k0_off50 (k0_t2 : Fin k0_t2_loop.trips) : Fin 3 → Nat :=
  let c11_667 : Index := 11#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2412 : Index := Scalar.indexCast v21
  let c128_668 : Index := 128#32
  ![11, v2412.toNat, 128]
def k0_off51 (k0_t2 : Fin k0_t2_loop.trips) : Fin 3 → Nat :=
  let c0_675 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2436 : Index := Scalar.indexCast v21
  let c3072 : Index := 3072#32
  ![0, v2436.toNat, 3072]
def k0_off52 (k0_t2 : Fin k0_t2_loop.trips) : Fin 3 → Nat :=
  let c0_689 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2489 : Index := Scalar.indexCast v21
  let c3328 : Index := 3328#32
  ![0, v2489.toNat, 3328]
def k0_off53 (k0_t2 : Fin k0_t2_loop.trips) : Fin 3 → Nat :=
  let c0_703 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2542 : Index := Scalar.indexCast v21
  let c3584 : Index := 3584#32
  ![0, v2542.toNat, 3584]
def k0_off54 (k0_t2 : Fin k0_t2_loop.trips) : Fin 3 → Nat :=
  let c0_717 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2595 : Index := Scalar.indexCast v21
  let c3840 : Index := 3840#32
  ![0, v2595.toNat, 3840]
def k0_off55 (k0_t2 : Fin k0_t2_loop.trips) : Fin 3 → Nat :=
  let c0_784 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2852 : Index := Scalar.indexCast v21
  let c1536_785 : Index := 1536#32
  ![0, v2852.toNat, 1536]
def k0_off56 (k0_t2 : Fin k0_t2_loop.trips) : Fin 3 → Nat :=
  let c12 : Index := 12#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2856 : Index := Scalar.indexCast v21
  let c0_786 : Index := 0#32
  ![12, v2856.toNat, 0]
def k0_off57 (k0_t2 : Fin k0_t2_loop.trips) : Fin 3 → Nat :=
  let c12_787 : Index := 12#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2860 : Index := Scalar.indexCast v21
  let c128_788 : Index := 128#32
  ![12, v2860.toNat, 128]
def k0_off58 (k0_t2 : Fin k0_t2_loop.trips) : Fin 3 → Nat :=
  let c0_819 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2970 : Index := Scalar.indexCast v21
  let c1664 : Index := 1664#32
  ![0, v2970.toNat, 1664]
def k0_off59 (k0_t2 : Fin k0_t2_loop.trips) : Fin 3 → Nat :=
  let c13 : Index := 13#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2974 : Index := Scalar.indexCast v21
  let c0_820 : Index := 0#32
  ![13, v2974.toNat, 0]
def k0_off60 (k0_t2 : Fin k0_t2_loop.trips) : Fin 3 → Nat :=
  let c13_821 : Index := 13#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v2978 : Index := Scalar.indexCast v21
  let c128_822 : Index := 128#32
  ![13, v2978.toNat, 128]
def k0_off61 (k0_t2 : Fin k0_t2_loop.trips) : Fin 3 → Nat :=
  let c0_853 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3088 : Index := Scalar.indexCast v21
  let c1792_854 : Index := 1792#32
  ![0, v3088.toNat, 1792]
def k0_off62 (k0_t2 : Fin k0_t2_loop.trips) : Fin 3 → Nat :=
  let c14 : Index := 14#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3092 : Index := Scalar.indexCast v21
  let c0_855 : Index := 0#32
  ![14, v3092.toNat, 0]
def k0_off63 (k0_t2 : Fin k0_t2_loop.trips) : Fin 3 → Nat :=
  let c14_856 : Index := 14#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3096 : Index := Scalar.indexCast v21
  let c128_857 : Index := 128#32
  ![14, v3096.toNat, 128]
def k0_off64 (k0_t2 : Fin k0_t2_loop.trips) : Fin 3 → Nat :=
  let c0_888 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3206 : Index := Scalar.indexCast v21
  let c1920 : Index := 1920#32
  ![0, v3206.toNat, 1920]
def k0_off65 (k0_t2 : Fin k0_t2_loop.trips) : Fin 3 → Nat :=
  let c15 : Index := 15#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3210 : Index := Scalar.indexCast v21
  let c0_889 : Index := 0#32
  ![15, v3210.toNat, 0]
def k0_off66 (k0_t2 : Fin k0_t2_loop.trips) : Fin 3 → Nat :=
  let c15_890 : Index := 15#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3214 : Index := Scalar.indexCast v21
  let c128_891 : Index := 128#32
  ![15, v3214.toNat, 128]
def k0_off67 (k0_t2 : Fin k0_t2_loop.trips) : Fin 3 → Nat :=
  let c0_898 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3239 : Index := Scalar.indexCast v21
  let c128_899 : Index := 128#32
  ![0, v3239.toNat, 128]
def k0_off68 (k0_t2 : Fin k0_t2_loop.trips) : Fin 3 → Nat :=
  let c0_900 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3243 : Index := Scalar.indexCast v21
  let c4096 : Index := 4096#32
  ![0, v3243.toNat, 4096]
def k0_off69 (k0_t2 : Fin k0_t2_loop.trips) : Fin 3 → Nat :=
  let c0_914 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3296 : Index := Scalar.indexCast v21
  let c4352 : Index := 4352#32
  ![0, v3296.toNat, 4352]
def k0_off70 (k0_t2 : Fin k0_t2_loop.trips) : Fin 3 → Nat :=
  let c0_928 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3349 : Index := Scalar.indexCast v21
  let c4608 : Index := 4608#32
  ![0, v3349.toNat, 4608]
def k0_off71 (k0_t2 : Fin k0_t2_loop.trips) : Fin 3 → Nat :=
  let c0_942 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3402 : Index := Scalar.indexCast v21
  let c4864 : Index := 4864#32
  ![0, v3402.toNat, 4864]
def k0_off72 (k0_t2 : Fin k0_t2_loop.trips) : Fin 3 → Nat :=
  let c0_1009 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3659 : Index := Scalar.indexCast v21
  let c2048_1010 : Index := 2048#32
  ![0, v3659.toNat, 2048]
def k0_off73 (k0_t2 : Fin k0_t2_loop.trips) : Fin 3 → Nat :=
  let c16 : Index := 16#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3663 : Index := Scalar.indexCast v21
  let c0_1011 : Index := 0#32
  ![16, v3663.toNat, 0]
def k0_off74 (k0_t2 : Fin k0_t2_loop.trips) : Fin 3 → Nat :=
  let c16_1012 : Index := 16#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3667 : Index := Scalar.indexCast v21
  let c128_1013 : Index := 128#32
  ![16, v3667.toNat, 128]
def k0_off75 (k0_t2 : Fin k0_t2_loop.trips) : Fin 3 → Nat :=
  let c0_1044 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3777 : Index := Scalar.indexCast v21
  let c2176 : Index := 2176#32
  ![0, v3777.toNat, 2176]
def k0_off76 (k0_t2 : Fin k0_t2_loop.trips) : Fin 3 → Nat :=
  let c17 : Index := 17#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3781 : Index := Scalar.indexCast v21
  let c0_1045 : Index := 0#32
  ![17, v3781.toNat, 0]
def k0_off77 (k0_t2 : Fin k0_t2_loop.trips) : Fin 3 → Nat :=
  let c17_1046 : Index := 17#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3785 : Index := Scalar.indexCast v21
  let c128_1047 : Index := 128#32
  ![17, v3785.toNat, 128]
def k0_off78 (k0_t2 : Fin k0_t2_loop.trips) : Fin 3 → Nat :=
  let c0_1078 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3895 : Index := Scalar.indexCast v21
  let c2304_1079 : Index := 2304#32
  ![0, v3895.toNat, 2304]
def k0_off79 (k0_t2 : Fin k0_t2_loop.trips) : Fin 3 → Nat :=
  let c18 : Index := 18#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3899 : Index := Scalar.indexCast v21
  let c0_1080 : Index := 0#32
  ![18, v3899.toNat, 0]
def k0_off80 (k0_t2 : Fin k0_t2_loop.trips) : Fin 3 → Nat :=
  let c18_1081 : Index := 18#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v3903 : Index := Scalar.indexCast v21
  let c128_1082 : Index := 128#32
  ![18, v3903.toNat, 128]
def k0_off81 (k0_t2 : Fin k0_t2_loop.trips) : Fin 3 → Nat :=
  let c0_1113 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4013 : Index := Scalar.indexCast v21
  let c2432 : Index := 2432#32
  ![0, v4013.toNat, 2432]
def k0_off82 (k0_t2 : Fin k0_t2_loop.trips) : Fin 3 → Nat :=
  let c19 : Index := 19#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4017 : Index := Scalar.indexCast v21
  let c0_1114 : Index := 0#32
  ![19, v4017.toNat, 0]
def k0_off83 (k0_t2 : Fin k0_t2_loop.trips) : Fin 3 → Nat :=
  let c19_1115 : Index := 19#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4021 : Index := Scalar.indexCast v21
  let c128_1116 : Index := 128#32
  ![19, v4021.toNat, 128]
def k0_off84 (k0_t2 : Fin k0_t2_loop.trips) : Fin 3 → Nat :=
  let c0_1123 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4045 : Index := Scalar.indexCast v21
  let c5120 : Index := 5120#32
  ![0, v4045.toNat, 5120]
def k0_off85 (k0_t2 : Fin k0_t2_loop.trips) : Fin 3 → Nat :=
  let c0_1137 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4098 : Index := Scalar.indexCast v21
  let c5376 : Index := 5376#32
  ![0, v4098.toNat, 5376]
def k0_off86 (k0_t2 : Fin k0_t2_loop.trips) : Fin 3 → Nat :=
  let c0_1151 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4151 : Index := Scalar.indexCast v21
  let c5632 : Index := 5632#32
  ![0, v4151.toNat, 5632]
def k0_off87 (k0_t2 : Fin k0_t2_loop.trips) : Fin 3 → Nat :=
  let c0_1165 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4204 : Index := Scalar.indexCast v21
  let c5888 : Index := 5888#32
  ![0, v4204.toNat, 5888]
def k0_off88 (k0_t2 : Fin k0_t2_loop.trips) : Fin 3 → Nat :=
  let c0_1232 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4461 : Index := Scalar.indexCast v21
  let c2560_1233 : Index := 2560#32
  ![0, v4461.toNat, 2560]
def k0_off89 (k0_t2 : Fin k0_t2_loop.trips) : Fin 3 → Nat :=
  let c20 : Index := 20#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4465 : Index := Scalar.indexCast v21
  let c0_1234 : Index := 0#32
  ![20, v4465.toNat, 0]
def k0_off90 (k0_t2 : Fin k0_t2_loop.trips) : Fin 3 → Nat :=
  let c20_1235 : Index := 20#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4469 : Index := Scalar.indexCast v21
  let c128_1236 : Index := 128#32
  ![20, v4469.toNat, 128]
def k0_off91 (k0_t2 : Fin k0_t2_loop.trips) : Fin 3 → Nat :=
  let c0_1267 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4579 : Index := Scalar.indexCast v21
  let c2688 : Index := 2688#32
  ![0, v4579.toNat, 2688]
def k0_off92 (k0_t2 : Fin k0_t2_loop.trips) : Fin 3 → Nat :=
  let c21 : Index := 21#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4583 : Index := Scalar.indexCast v21
  let c0_1268 : Index := 0#32
  ![21, v4583.toNat, 0]
def k0_off93 (k0_t2 : Fin k0_t2_loop.trips) : Fin 3 → Nat :=
  let c21_1269 : Index := 21#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4587 : Index := Scalar.indexCast v21
  let c128_1270 : Index := 128#32
  ![21, v4587.toNat, 128]
def k0_off94 (k0_t2 : Fin k0_t2_loop.trips) : Fin 3 → Nat :=
  let c0_1301 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4697 : Index := Scalar.indexCast v21
  let c2816_1302 : Index := 2816#32
  ![0, v4697.toNat, 2816]
def k0_off95 (k0_t2 : Fin k0_t2_loop.trips) : Fin 3 → Nat :=
  let c22 : Index := 22#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4701 : Index := Scalar.indexCast v21
  let c0_1303 : Index := 0#32
  ![22, v4701.toNat, 0]
def k0_off96 (k0_t2 : Fin k0_t2_loop.trips) : Fin 3 → Nat :=
  let c22_1304 : Index := 22#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4705 : Index := Scalar.indexCast v21
  let c128_1305 : Index := 128#32
  ![22, v4705.toNat, 128]
def k0_off97 (k0_t2 : Fin k0_t2_loop.trips) : Fin 3 → Nat :=
  let c0_1336 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4815 : Index := Scalar.indexCast v21
  let c2944 : Index := 2944#32
  ![0, v4815.toNat, 2944]
def k0_off98 (k0_t2 : Fin k0_t2_loop.trips) : Fin 3 → Nat :=
  let c23 : Index := 23#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4819 : Index := Scalar.indexCast v21
  let c0_1337 : Index := 0#32
  ![23, v4819.toNat, 0]
def k0_off99 (k0_t2 : Fin k0_t2_loop.trips) : Fin 3 → Nat :=
  let c23_1338 : Index := 23#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4823 : Index := Scalar.indexCast v21
  let c128_1339 : Index := 128#32
  ![23, v4823.toNat, 128]
def k0_off100 (k0_t2 : Fin k0_t2_loop.trips) : Fin 3 → Nat :=
  let c0_1346 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4848 : Index := Scalar.indexCast v21
  let c256_1347 : Index := 256#32
  ![0, v4848.toNat, 256]
def k0_off101 (k0_t2 : Fin k0_t2_loop.trips) : Fin 3 → Nat :=
  let c0_1348 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4852 : Index := Scalar.indexCast v21
  let c6144 : Index := 6144#32
  ![0, v4852.toNat, 6144]
def k0_off102 (k0_t2 : Fin k0_t2_loop.trips) : Fin 3 → Nat :=
  let c0_1362 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4905 : Index := Scalar.indexCast v21
  let c6400 : Index := 6400#32
  ![0, v4905.toNat, 6400]
def k0_off103 (k0_t2 : Fin k0_t2_loop.trips) : Fin 3 → Nat :=
  let c0_1376 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v4958 : Index := Scalar.indexCast v21
  let c6656 : Index := 6656#32
  ![0, v4958.toNat, 6656]
def k0_off104 (k0_t2 : Fin k0_t2_loop.trips) : Fin 3 → Nat :=
  let c0_1390 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5011 : Index := Scalar.indexCast v21
  let c6912 : Index := 6912#32
  ![0, v5011.toNat, 6912]
def k0_off105 (k0_t2 : Fin k0_t2_loop.trips) : Fin 3 → Nat :=
  let c0_1457 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5268 : Index := Scalar.indexCast v21
  let c3072_1458 : Index := 3072#32
  ![0, v5268.toNat, 3072]
def k0_off106 (k0_t2 : Fin k0_t2_loop.trips) : Fin 3 → Nat :=
  let c24 : Index := 24#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5272 : Index := Scalar.indexCast v21
  let c0_1459 : Index := 0#32
  ![24, v5272.toNat, 0]
def k0_off107 (k0_t2 : Fin k0_t2_loop.trips) : Fin 3 → Nat :=
  let c24_1460 : Index := 24#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5276 : Index := Scalar.indexCast v21
  let c128_1461 : Index := 128#32
  ![24, v5276.toNat, 128]
def k0_off108 (k0_t2 : Fin k0_t2_loop.trips) : Fin 3 → Nat :=
  let c0_1492 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5386 : Index := Scalar.indexCast v21
  let c3200 : Index := 3200#32
  ![0, v5386.toNat, 3200]
def k0_off109 (k0_t2 : Fin k0_t2_loop.trips) : Fin 3 → Nat :=
  let c25 : Index := 25#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5390 : Index := Scalar.indexCast v21
  let c0_1493 : Index := 0#32
  ![25, v5390.toNat, 0]
def k0_off110 (k0_t2 : Fin k0_t2_loop.trips) : Fin 3 → Nat :=
  let c25_1494 : Index := 25#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5394 : Index := Scalar.indexCast v21
  let c128_1495 : Index := 128#32
  ![25, v5394.toNat, 128]
def k0_off111 (k0_t2 : Fin k0_t2_loop.trips) : Fin 3 → Nat :=
  let c0_1526 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5504 : Index := Scalar.indexCast v21
  let c3328_1527 : Index := 3328#32
  ![0, v5504.toNat, 3328]
def k0_off112 (k0_t2 : Fin k0_t2_loop.trips) : Fin 3 → Nat :=
  let c26 : Index := 26#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5508 : Index := Scalar.indexCast v21
  let c0_1528 : Index := 0#32
  ![26, v5508.toNat, 0]
def k0_off113 (k0_t2 : Fin k0_t2_loop.trips) : Fin 3 → Nat :=
  let c26_1529 : Index := 26#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5512 : Index := Scalar.indexCast v21
  let c128_1530 : Index := 128#32
  ![26, v5512.toNat, 128]
def k0_off114 (k0_t2 : Fin k0_t2_loop.trips) : Fin 3 → Nat :=
  let c0_1561 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5622 : Index := Scalar.indexCast v21
  let c3456 : Index := 3456#32
  ![0, v5622.toNat, 3456]
def k0_off115 (k0_t2 : Fin k0_t2_loop.trips) : Fin 3 → Nat :=
  let c27 : Index := 27#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5626 : Index := Scalar.indexCast v21
  let c0_1562 : Index := 0#32
  ![27, v5626.toNat, 0]
def k0_off116 (k0_t2 : Fin k0_t2_loop.trips) : Fin 3 → Nat :=
  let c27_1563 : Index := 27#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5630 : Index := Scalar.indexCast v21
  let c128_1564 : Index := 128#32
  ![27, v5630.toNat, 128]
def k0_off117 (k0_t2 : Fin k0_t2_loop.trips) : Fin 3 → Nat :=
  let c0_1571 : Index := 0#32
  let c0_i32_7 : BitVec 32 := 0#32
  let c1_i32_9 : BitVec 32 := 1#32
  let arg6 : BitVec 32 := Scf.iv c0_i32_7 c1_i32_9 k0_t2
  let c32_i32 : BitVec 32 := 32#32
  let v20 : BitVec 32 := Scalar.muli arg6 c32_i32
  let v21 : BitVec 32 := v20
  let v5655 : Index := Scalar.indexCast v21
  let c384_1572 : Index := 384#32
  ![0, v5655.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x448 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 9], ![false, false]⟩

@[reducible] def k1_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  v197
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v199 : Index := Scalar.indexCast v198
  let c0_178 : Index := 0#32
  ![v199.toNat, 0]
def k1_off2 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v216 : Index := Scalar.indexCast v198
  let c0_181 : Index := 0#32
  ![v216.toNat, 0]
def k1_off3 (k1_t1 : Fin k1_t1_loop.trips) : Fin 3 → Nat :=
  let c0_185 : Index := 0#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v246 : Index := Scalar.indexCast v198
  let c0_186 : Index := 0#32
  ![0, v246.toNat, 0]
def k1_off4 (k1_t1 : Fin k1_t1_loop.trips) : Fin 3 → Nat :=
  let c0_187 : Index := 0#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v250 : Index := Scalar.indexCast v198
  let c128 : Index := 128#32
  ![0, v250.toNat, 128]
def k1_off5 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v271 : Index := Scalar.indexCast v198
  let c128_193 : Index := 128#32
  ![v271.toNat, 128]
def k1_off6 (k1_t1 : Fin k1_t1_loop.trips) : Fin 3 → Nat :=
  let c1_202 : Index := 1#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v301 : Index := Scalar.indexCast v198
  let c0_203 : Index := 0#32
  ![1, v301.toNat, 0]
def k1_off7 (k1_t1 : Fin k1_t1_loop.trips) : Fin 3 → Nat :=
  let c1_204 : Index := 1#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v305 : Index := Scalar.indexCast v198
  let c128_205 : Index := 128#32
  ![1, v305.toNat, 128]
def k1_off8 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v326 : Index := Scalar.indexCast v198
  let c256_211 : Index := 256#32
  ![v326.toNat, 256]
def k1_off9 (k1_t1 : Fin k1_t1_loop.trips) : Fin 3 → Nat :=
  let c2_220 : Index := 2#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v356 : Index := Scalar.indexCast v198
  let c0_221 : Index := 0#32
  ![2, v356.toNat, 0]
def k1_off10 (k1_t1 : Fin k1_t1_loop.trips) : Fin 3 → Nat :=
  let c2_222 : Index := 2#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v360 : Index := Scalar.indexCast v198
  let c128_223 : Index := 128#32
  ![2, v360.toNat, 128]
def k1_off11 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v381 : Index := Scalar.indexCast v198
  let c384 : Index := 384#32
  ![v381.toNat, 384]
def k1_off12 (k1_t1 : Fin k1_t1_loop.trips) : Fin 3 → Nat :=
  let c3_236 : Index := 3#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v411 : Index := Scalar.indexCast v198
  let c0_237 : Index := 0#32
  ![3, v411.toNat, 0]
def k1_off13 (k1_t1 : Fin k1_t1_loop.trips) : Fin 3 → Nat :=
  let c3_238 : Index := 3#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v415 : Index := Scalar.indexCast v198
  let c128_239 : Index := 128#32
  ![3, v415.toNat, 128]
def k1_off14 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v436 : Index := Scalar.indexCast v198
  let c512 : Index := 512#32
  ![v436.toNat, 512]
def k1_off15 (k1_t1 : Fin k1_t1_loop.trips) : Fin 3 → Nat :=
  let c4_252 : Index := 4#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v466 : Index := Scalar.indexCast v198
  let c0_253 : Index := 0#32
  ![4, v466.toNat, 0]
def k1_off16 (k1_t1 : Fin k1_t1_loop.trips) : Fin 3 → Nat :=
  let c4_254 : Index := 4#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v470 : Index := Scalar.indexCast v198
  let c128_255 : Index := 128#32
  ![4, v470.toNat, 128]
def k1_off17 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v491 : Index := Scalar.indexCast v198
  let c640 : Index := 640#32
  ![v491.toNat, 640]
def k1_off18 (k1_t1 : Fin k1_t1_loop.trips) : Fin 3 → Nat :=
  let c5_268 : Index := 5#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v521 : Index := Scalar.indexCast v198
  let c0_269 : Index := 0#32
  ![5, v521.toNat, 0]
def k1_off19 (k1_t1 : Fin k1_t1_loop.trips) : Fin 3 → Nat :=
  let c5_270 : Index := 5#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v525 : Index := Scalar.indexCast v198
  let c128_271 : Index := 128#32
  ![5, v525.toNat, 128]
def k1_off20 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v546 : Index := Scalar.indexCast v198
  let c768 : Index := 768#32
  ![v546.toNat, 768]
def k1_off21 (k1_t1 : Fin k1_t1_loop.trips) : Fin 3 → Nat :=
  let c6_284 : Index := 6#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v576 : Index := Scalar.indexCast v198
  let c0_285 : Index := 0#32
  ![6, v576.toNat, 0]
def k1_off22 (k1_t1 : Fin k1_t1_loop.trips) : Fin 3 → Nat :=
  let c6_286 : Index := 6#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v580 : Index := Scalar.indexCast v198
  let c128_287 : Index := 128#32
  ![6, v580.toNat, 128]
def k1_off23 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v601 : Index := Scalar.indexCast v198
  let c896 : Index := 896#32
  ![v601.toNat, 896]
def k1_off24 (k1_t1 : Fin k1_t1_loop.trips) : Fin 3 → Nat :=
  let c7_300 : Index := 7#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v631 : Index := Scalar.indexCast v198
  let c0_301 : Index := 0#32
  ![7, v631.toNat, 0]
def k1_off25 (k1_t1 : Fin k1_t1_loop.trips) : Fin 3 → Nat :=
  let c7_302 : Index := 7#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v635 : Index := Scalar.indexCast v198
  let c128_303 : Index := 128#32
  ![7, v635.toNat, 128]
def k1_off26 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v639 : Index := Scalar.indexCast v198
  let c128_304 : Index := 128#32
  ![v639.toNat, 128]
def k1_off27 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v656 : Index := Scalar.indexCast v198
  let c1024 : Index := 1024#32
  ![v656.toNat, 1024]
def k1_off28 (k1_t1 : Fin k1_t1_loop.trips) : Fin 3 → Nat :=
  let c8_317 : Index := 8#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v686 : Index := Scalar.indexCast v198
  let c0_318 : Index := 0#32
  ![8, v686.toNat, 0]
def k1_off29 (k1_t1 : Fin k1_t1_loop.trips) : Fin 3 → Nat :=
  let c8_319 : Index := 8#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v690 : Index := Scalar.indexCast v198
  let c128_320 : Index := 128#32
  ![8, v690.toNat, 128]
def k1_off30 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v711 : Index := Scalar.indexCast v198
  let c1152 : Index := 1152#32
  ![v711.toNat, 1152]
def k1_off31 (k1_t1 : Fin k1_t1_loop.trips) : Fin 3 → Nat :=
  let c9_334 : Index := 9#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v741 : Index := Scalar.indexCast v198
  let c0_335 : Index := 0#32
  ![9, v741.toNat, 0]
def k1_off32 (k1_t1 : Fin k1_t1_loop.trips) : Fin 3 → Nat :=
  let c9_336 : Index := 9#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v745 : Index := Scalar.indexCast v198
  let c128_337 : Index := 128#32
  ![9, v745.toNat, 128]
def k1_off33 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v766 : Index := Scalar.indexCast v198
  let c1280 : Index := 1280#32
  ![v766.toNat, 1280]
def k1_off34 (k1_t1 : Fin k1_t1_loop.trips) : Fin 3 → Nat :=
  let c10_351 : Index := 10#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v796 : Index := Scalar.indexCast v198
  let c0_352 : Index := 0#32
  ![10, v796.toNat, 0]
def k1_off35 (k1_t1 : Fin k1_t1_loop.trips) : Fin 3 → Nat :=
  let c10_353 : Index := 10#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v800 : Index := Scalar.indexCast v198
  let c128_354 : Index := 128#32
  ![10, v800.toNat, 128]
def k1_off36 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v821 : Index := Scalar.indexCast v198
  let c1408 : Index := 1408#32
  ![v821.toNat, 1408]
def k1_off37 (k1_t1 : Fin k1_t1_loop.trips) : Fin 3 → Nat :=
  let c11_368 : Index := 11#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v851 : Index := Scalar.indexCast v198
  let c0_369 : Index := 0#32
  ![11, v851.toNat, 0]
def k1_off38 (k1_t1 : Fin k1_t1_loop.trips) : Fin 3 → Nat :=
  let c11_370 : Index := 11#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v855 : Index := Scalar.indexCast v198
  let c128_371 : Index := 128#32
  ![11, v855.toNat, 128]
def k1_off39 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v876 : Index := Scalar.indexCast v198
  let c1536 : Index := 1536#32
  ![v876.toNat, 1536]
def k1_off40 (k1_t1 : Fin k1_t1_loop.trips) : Fin 3 → Nat :=
  let c12_385 : Index := 12#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v906 : Index := Scalar.indexCast v198
  let c0_386 : Index := 0#32
  ![12, v906.toNat, 0]
def k1_off41 (k1_t1 : Fin k1_t1_loop.trips) : Fin 3 → Nat :=
  let c12_387 : Index := 12#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v910 : Index := Scalar.indexCast v198
  let c128_388 : Index := 128#32
  ![12, v910.toNat, 128]
def k1_off42 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v931 : Index := Scalar.indexCast v198
  let c1664 : Index := 1664#32
  ![v931.toNat, 1664]
def k1_off43 (k1_t1 : Fin k1_t1_loop.trips) : Fin 3 → Nat :=
  let c13_402 : Index := 13#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v961 : Index := Scalar.indexCast v198
  let c0_403 : Index := 0#32
  ![13, v961.toNat, 0]
def k1_off44 (k1_t1 : Fin k1_t1_loop.trips) : Fin 3 → Nat :=
  let c13_404 : Index := 13#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v965 : Index := Scalar.indexCast v198
  let c128_405 : Index := 128#32
  ![13, v965.toNat, 128]
def k1_off45 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v986 : Index := Scalar.indexCast v198
  let c1792 : Index := 1792#32
  ![v986.toNat, 1792]
def k1_off46 (k1_t1 : Fin k1_t1_loop.trips) : Fin 3 → Nat :=
  let c14_419 : Index := 14#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1016 : Index := Scalar.indexCast v198
  let c0_420 : Index := 0#32
  ![14, v1016.toNat, 0]
def k1_off47 (k1_t1 : Fin k1_t1_loop.trips) : Fin 3 → Nat :=
  let c14_421 : Index := 14#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1020 : Index := Scalar.indexCast v198
  let c128_422 : Index := 128#32
  ![14, v1020.toNat, 128]
def k1_off48 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1041 : Index := Scalar.indexCast v198
  let c1920 : Index := 1920#32
  ![v1041.toNat, 1920]
def k1_off49 (k1_t1 : Fin k1_t1_loop.trips) : Fin 3 → Nat :=
  let c15_436 : Index := 15#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1071 : Index := Scalar.indexCast v198
  let c0_437 : Index := 0#32
  ![15, v1071.toNat, 0]
def k1_off50 (k1_t1 : Fin k1_t1_loop.trips) : Fin 3 → Nat :=
  let c15_438 : Index := 15#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1075 : Index := Scalar.indexCast v198
  let c128_439 : Index := 128#32
  ![15, v1075.toNat, 128]
def k1_off51 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1079 : Index := Scalar.indexCast v198
  let c256_440 : Index := 256#32
  ![v1079.toNat, 256]
def k1_off52 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1096 : Index := Scalar.indexCast v198
  let c2048 : Index := 2048#32
  ![v1096.toNat, 2048]
def k1_off53 (k1_t1 : Fin k1_t1_loop.trips) : Fin 3 → Nat :=
  let c16_453 : Index := 16#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1126 : Index := Scalar.indexCast v198
  let c0_454 : Index := 0#32
  ![16, v1126.toNat, 0]
def k1_off54 (k1_t1 : Fin k1_t1_loop.trips) : Fin 3 → Nat :=
  let c16_455 : Index := 16#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1130 : Index := Scalar.indexCast v198
  let c128_456 : Index := 128#32
  ![16, v1130.toNat, 128]
def k1_off55 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1151 : Index := Scalar.indexCast v198
  let c2176 : Index := 2176#32
  ![v1151.toNat, 2176]
def k1_off56 (k1_t1 : Fin k1_t1_loop.trips) : Fin 3 → Nat :=
  let c17_470 : Index := 17#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1181 : Index := Scalar.indexCast v198
  let c0_471 : Index := 0#32
  ![17, v1181.toNat, 0]
def k1_off57 (k1_t1 : Fin k1_t1_loop.trips) : Fin 3 → Nat :=
  let c17_472 : Index := 17#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1185 : Index := Scalar.indexCast v198
  let c128_473 : Index := 128#32
  ![17, v1185.toNat, 128]
def k1_off58 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1206 : Index := Scalar.indexCast v198
  let c2304 : Index := 2304#32
  ![v1206.toNat, 2304]
def k1_off59 (k1_t1 : Fin k1_t1_loop.trips) : Fin 3 → Nat :=
  let c18_487 : Index := 18#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1236 : Index := Scalar.indexCast v198
  let c0_488 : Index := 0#32
  ![18, v1236.toNat, 0]
def k1_off60 (k1_t1 : Fin k1_t1_loop.trips) : Fin 3 → Nat :=
  let c18_489 : Index := 18#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1240 : Index := Scalar.indexCast v198
  let c128_490 : Index := 128#32
  ![18, v1240.toNat, 128]
def k1_off61 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1261 : Index := Scalar.indexCast v198
  let c2432 : Index := 2432#32
  ![v1261.toNat, 2432]
def k1_off62 (k1_t1 : Fin k1_t1_loop.trips) : Fin 3 → Nat :=
  let c19_504 : Index := 19#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1291 : Index := Scalar.indexCast v198
  let c0_505 : Index := 0#32
  ![19, v1291.toNat, 0]
def k1_off63 (k1_t1 : Fin k1_t1_loop.trips) : Fin 3 → Nat :=
  let c19_506 : Index := 19#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1295 : Index := Scalar.indexCast v198
  let c128_507 : Index := 128#32
  ![19, v1295.toNat, 128]
def k1_off64 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1316 : Index := Scalar.indexCast v198
  let c2560 : Index := 2560#32
  ![v1316.toNat, 2560]
def k1_off65 (k1_t1 : Fin k1_t1_loop.trips) : Fin 3 → Nat :=
  let c20_521 : Index := 20#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1346 : Index := Scalar.indexCast v198
  let c0_522 : Index := 0#32
  ![20, v1346.toNat, 0]
def k1_off66 (k1_t1 : Fin k1_t1_loop.trips) : Fin 3 → Nat :=
  let c20_523 : Index := 20#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1350 : Index := Scalar.indexCast v198
  let c128_524 : Index := 128#32
  ![20, v1350.toNat, 128]
def k1_off67 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1371 : Index := Scalar.indexCast v198
  let c2688 : Index := 2688#32
  ![v1371.toNat, 2688]
def k1_off68 (k1_t1 : Fin k1_t1_loop.trips) : Fin 3 → Nat :=
  let c21_538 : Index := 21#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1401 : Index := Scalar.indexCast v198
  let c0_539 : Index := 0#32
  ![21, v1401.toNat, 0]
def k1_off69 (k1_t1 : Fin k1_t1_loop.trips) : Fin 3 → Nat :=
  let c21_540 : Index := 21#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1405 : Index := Scalar.indexCast v198
  let c128_541 : Index := 128#32
  ![21, v1405.toNat, 128]
def k1_off70 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1426 : Index := Scalar.indexCast v198
  let c2816 : Index := 2816#32
  ![v1426.toNat, 2816]
def k1_off71 (k1_t1 : Fin k1_t1_loop.trips) : Fin 3 → Nat :=
  let c22_555 : Index := 22#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1456 : Index := Scalar.indexCast v198
  let c0_556 : Index := 0#32
  ![22, v1456.toNat, 0]
def k1_off72 (k1_t1 : Fin k1_t1_loop.trips) : Fin 3 → Nat :=
  let c22_557 : Index := 22#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1460 : Index := Scalar.indexCast v198
  let c128_558 : Index := 128#32
  ![22, v1460.toNat, 128]
def k1_off73 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1481 : Index := Scalar.indexCast v198
  let c2944 : Index := 2944#32
  ![v1481.toNat, 2944]
def k1_off74 (k1_t1 : Fin k1_t1_loop.trips) : Fin 3 → Nat :=
  let c23_572 : Index := 23#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1511 : Index := Scalar.indexCast v198
  let c0_573 : Index := 0#32
  ![23, v1511.toNat, 0]
def k1_off75 (k1_t1 : Fin k1_t1_loop.trips) : Fin 3 → Nat :=
  let c23_574 : Index := 23#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1515 : Index := Scalar.indexCast v198
  let c128_575 : Index := 128#32
  ![23, v1515.toNat, 128]
def k1_off76 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1519 : Index := Scalar.indexCast v198
  let c384_576 : Index := 384#32
  ![v1519.toNat, 384]
def k1_off77 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1537 : Index := Scalar.indexCast v198
  let c3072 : Index := 3072#32
  ![v1537.toNat, 3072]
def k1_off78 (k1_t1 : Fin k1_t1_loop.trips) : Fin 3 → Nat :=
  let c24_589 : Index := 24#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1567 : Index := Scalar.indexCast v198
  let c0_590 : Index := 0#32
  ![24, v1567.toNat, 0]
def k1_off79 (k1_t1 : Fin k1_t1_loop.trips) : Fin 3 → Nat :=
  let c24_591 : Index := 24#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1571 : Index := Scalar.indexCast v198
  let c128_592 : Index := 128#32
  ![24, v1571.toNat, 128]
def k1_off80 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1593 : Index := Scalar.indexCast v198
  let c3200 : Index := 3200#32
  ![v1593.toNat, 3200]
def k1_off81 (k1_t1 : Fin k1_t1_loop.trips) : Fin 3 → Nat :=
  let c25_606 : Index := 25#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1623 : Index := Scalar.indexCast v198
  let c0_607 : Index := 0#32
  ![25, v1623.toNat, 0]
def k1_off82 (k1_t1 : Fin k1_t1_loop.trips) : Fin 3 → Nat :=
  let c25_608 : Index := 25#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1627 : Index := Scalar.indexCast v198
  let c128_609 : Index := 128#32
  ![25, v1627.toNat, 128]
def k1_off83 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1649 : Index := Scalar.indexCast v198
  let c3328 : Index := 3328#32
  ![v1649.toNat, 3328]
def k1_off84 (k1_t1 : Fin k1_t1_loop.trips) : Fin 3 → Nat :=
  let c26_623 : Index := 26#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1679 : Index := Scalar.indexCast v198
  let c0_624 : Index := 0#32
  ![26, v1679.toNat, 0]
def k1_off85 (k1_t1 : Fin k1_t1_loop.trips) : Fin 3 → Nat :=
  let c26_625 : Index := 26#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1683 : Index := Scalar.indexCast v198
  let c128_626 : Index := 128#32
  ![26, v1683.toNat, 128]
def k1_off86 (k1_t1 : Fin k1_t1_loop.trips) : Fin 2 → Nat :=
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1705 : Index := Scalar.indexCast v198
  let c3456 : Index := 3456#32
  ![v1705.toNat, 3456]
def k1_off87 (k1_t1 : Fin k1_t1_loop.trips) : Fin 3 → Nat :=
  let c27_640 : Index := 27#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1735 : Index := Scalar.indexCast v198
  let c0_641 : Index := 0#32
  ![27, v1735.toNat, 0]
def k1_off88 (k1_t1 : Fin k1_t1_loop.trips) : Fin 3 → Nat :=
  let c27_642 : Index := 27#32
  let c0_i32 : BitVec 32 := 0#32
  let c1_i32 : BitVec 32 := 1#32
  let arg9 : BitVec 32 := Scf.iv c0_i32 c1_i32 k1_t1
  let c32_i32 : BitVec 32 := 32#32
  let v197 : BitVec 32 := Scalar.muli arg9 c32_i32
  let v198 : BitVec 32 := v197
  let v1739 : Index := Scalar.indexCast v198
  let c128_643 : Index := 128#32
  ![27, v1739.toNat, 128]
def k1_off89 (i : grid1.Coords) (c0_i32_168 : BitVec 32) : Fin 1 → Nat :=
  let arg0 : BitVec 32 := BitVec.ofNat 32 (i 0).val
  let c2_i32 : BitVec 32 := 2#32
  let v169 : BitVec 32 := Scalar.muli arg0 c2_i32
  let v170 : BitVec 32 := Scalar.addi v169 c0_i32_168
  let v171 : Index := Scalar.indexCast v170
  ![v171.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S28x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x3584 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x448 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S1x2048x7168 : Shape := ⟨3, ![1, 2048, 7168]⟩
abbrev S4608x3584 : Shape := ⟨2, ![4608, 3584]⟩
abbrev S4608x448 : Shape := ⟨2, ![4608, 448]⟩
abbrev S1 : Shape := ⟨1, ![1]⟩
abbrev S1x8x256x448x16 : Shape := ⟨5, ![1, 8, 256, 448, 16]⟩
abbrev S_ : Shape := ⟨0, ![]⟩
abbrev S8 : Shape := ⟨1, ![8]⟩
abbrev S1x8x1x1x1 : Shape := ⟨5, ![1, 8, 1, 1, 1]⟩
abbrev S1x8x256x448 : Shape := ⟨4, ![1, 8, 256, 448]⟩
abbrev S1x8x256x448x1 : Shape := ⟨5, ![1, 8, 256, 448, 1]⟩
abbrev S2048x448 : Shape := ⟨2, ![2048, 448]⟩
abbrev S1x2048x448 : Shape := ⟨3, ![1, 2048, 448]⟩
abbrev S1x2048x448x16 : Shape := ⟨4, ![1, 2048, 448, 16]⟩
abbrev S1x2048x448x1 : Shape := ⟨4, ![1, 2048, 448, 1]⟩
abbrev S4608x3584x1 : Shape := ⟨3, ![4608, 3584, 1]⟩
abbrev S4608x3584x2 : Shape := ⟨3, ![4608, 3584, 2]⟩
abbrev S4608x7168 : Shape := ⟨2, ![4608, 7168]⟩
abbrev S4608x448x16 : Shape := ⟨3, ![4608, 448, 16]⟩
abbrev S4608x448x1 : Shape := ⟨3, ![4608, 448, 1]⟩
abbrev S1x2048x4608 : Shape := ⟨3, ![1, 2048, 4608]⟩
abbrev S8x256 : Shape := ⟨2, ![8, 256]⟩
abbrev S2048 : Shape := ⟨1, ![2048]⟩
abbrev S1x2048x1 : Shape := ⟨3, ![1, 2048, 1]⟩
abbrev S1x2048x3584x2 : Shape := ⟨4, ![1, 2048, 3584, 2]⟩
abbrev S1x2048x3584x1 : Shape := ⟨4, ![1, 2048, 3584, 1]⟩
abbrev S1x2048x3584 : Shape := ⟨3, ![1, 2048, 3584]⟩

abbrev nBuf : Space → Nat
  | .hbm => 247
  | .vmem => 6
  | .smem => 0
  | _ => 0

abbrev hbmTy0_0 (i : Nat) : BufTy := match i % 128 with
  | 0 => ⟨S1x2048x7168, .bf16⟩
  | 1 => ⟨S4608x3584, .i8⟩
  | 2 => ⟨S4608x448, .fp8e4m3⟩
  | 3 => ⟨S1, .f32⟩
  | 4 => ⟨S1x2048x7168, .f32⟩
  | 5 => ⟨S1x8x256x448x16, .f32⟩
  | 6 => ⟨S1x8x256x448x16, .f32⟩
  | 7 => ⟨S_, .f32⟩
  | 8 => ⟨S8, .f32⟩
  | 9 => ⟨S_, .f32⟩
  | 10 => ⟨S8, .f32⟩
  | 11 => ⟨S8, .i1⟩
  | 12 => ⟨S_, .f32⟩
  | 13 => ⟨S8, .f32⟩
  | 14 => ⟨S8, .f32⟩
  | 15 => ⟨S_, .f32⟩
  | 16 => ⟨S_, .f32⟩
  | 17 => ⟨S8, .f32⟩
  | 18 => ⟨S8, .f32⟩
  | 19 => ⟨S1x8x1x1x1, .f32⟩
  | 20 => ⟨S_, .f32⟩
  | 21 => ⟨S1x8x256x448, .f32⟩
  | 22 => ⟨S1x8x256x448x1, .f32⟩
  | 23 => ⟨S_, .f32⟩
  | 24 => ⟨S1x8x256x448x1, .f32⟩
  | 25 => ⟨S1x8x256x448x1, .f32⟩
  | 26 => ⟨S_, .f32⟩
  | 27 => ⟨S1x8x1x1x1, .f32⟩
  | 28 => ⟨S1x8x1x1x1, .f32⟩
  | 29 => ⟨S1x8x256x448x1, .f32⟩
  | 30 => ⟨S1x8x256x448x1, .f32⟩
  | 31 => ⟨S_, .f32⟩
  | 32 => ⟨S_, .f32⟩
  | 33 => ⟨S_, .f32⟩
  | 34 => ⟨S1x8x256x448x1, .f32⟩
  | 35 => ⟨S1x8x256x448x1, .f32⟩
  | 36 => ⟨S_, .f32⟩
  | 37 => ⟨S1x8x256x448x1, .f32⟩
  | 38 => ⟨S1x8x256x448x1, .f32⟩
  | 39 => ⟨S2048x448, .f32⟩
  | 40 => ⟨S2048x448, .fp8e4m3⟩
  | 41 => ⟨S2048x448, .f32⟩
  | 42 => ⟨S2048x448, .bf16⟩
  | 43 => ⟨S4608x448, .bf16⟩
  | 44 => ⟨S1x8x256x448x1, .f32⟩
  | 45 => ⟨S_, .f32⟩
  | 46 => ⟨S1x8x256x448x1, .f32⟩
  | 47 => ⟨S1x8x256x448x1, .i1⟩
  | 48 => ⟨S1x8x256x448x1, .f32⟩
  | 49 => ⟨S1x8x256x448x1, .f32⟩
  | 50 => ⟨S_, .f32⟩
  | 51 => ⟨S_, .f32⟩
  | 52 => ⟨S1x8x256x448x1, .f32⟩
  | 53 => ⟨S1x8x256x448x1, .f32⟩
  | 54 => ⟨S1x8x256x448x16, .f32⟩
  | 55 => ⟨S1x8x256x448x16, .f32⟩
  | 56 => ⟨S_, .f32⟩
  | 57 => ⟨S1x8x256x448x16, .f32⟩
  | 58 => ⟨S1x8x256x448x16, .f32⟩
  | 59 => ⟨S_, .f32⟩
  | 60 => ⟨S1x8x256x448x16, .f32⟩
  | 61 => ⟨S1x8x256x448x16, .i1⟩
  | 62 => ⟨S1x8x256x448x16, .i32⟩
  | 63 => ⟨S_, .f32⟩
  | 64 => ⟨S1x8x256x448x16, .f32⟩
  | 65 => ⟨S1x8x256x448x16, .i1⟩
  | 66 => ⟨S1x8x256x448x16, .i32⟩
  | 67 => ⟨S1x8x256x448x16, .i32⟩
  | 68 => ⟨S_, .f32⟩
  | 69 => ⟨S1x8x256x448x16, .f32⟩
  | 70 => ⟨S1x8x256x448x16, .i1⟩
  | 71 => ⟨S1x8x256x448x16, .i32⟩
  | 72 => ⟨S1x8x256x448x16, .i32⟩
  | 73 => ⟨S_, .f32⟩
  | 74 => ⟨S1x8x256x448x16, .f32⟩
  | 75 => ⟨S1x8x256x448x16, .i1⟩
  | 76 => ⟨S1x8x256x448x16, .i32⟩
  | 77 => ⟨S1x8x256x448x16, .i32⟩
  | 78 => ⟨S_, .f32⟩
  | 79 => ⟨S1x8x256x448x16, .f32⟩
  | 80 => ⟨S1x8x256x448x16, .i1⟩
  | 81 => ⟨S1x8x256x448x16, .i32⟩
  | 82 => ⟨S1x8x256x448x16, .i32⟩
  | 83 => ⟨S_, .f32⟩
  | 84 => ⟨S1x8x256x448x16, .f32⟩
  | 85 => ⟨S1x8x256x448x16, .i1⟩
  | 86 => ⟨S1x8x256x448x16, .i32⟩
  | 87 => ⟨S1x8x256x448x16, .i32⟩
  | 88 => ⟨S_, .f32⟩
  | 89 => ⟨S1x8x256x448x16, .f32⟩
  | 90 => ⟨S1x8x256x448x16, .i1⟩
  | 91 => ⟨S1x8x256x448x16, .i32⟩
  | 92 => ⟨S1x8x256x448x16, .i32⟩
  | 93 => ⟨S_, .f32⟩
  | 94 => ⟨S1x8x256x448x16, .f32⟩
  | 95 => ⟨S1x8x256x448x16, .i1⟩
  | 96 => ⟨S_, .i32⟩
  | 97 => ⟨S1x8x256x448x16, .i32⟩
  | 98 => ⟨S1x8x256x448x16, .i1⟩
  | 99 => ⟨S1x8x256x448x16, .i1⟩
  | 100 => ⟨S1x8x256x448x16, .i32⟩
  | 101 => ⟨S_, .i32⟩
  | 102 => ⟨S1x8x256x448x16, .i32⟩
  | 103 => ⟨S1x8x256x448x16, .i32⟩
  | 104 => ⟨S1x8x256x448x16, .i32⟩
  | 105 => ⟨S1x2048x7168, .i32⟩
  | 106 => ⟨S1x2048x448, .bf16⟩
  | 107 => ⟨S_, .i32⟩
  | 108 => ⟨S1x2048x7168, .i32⟩
  | 109 => ⟨S1x2048x7168, .i32⟩
  | 110 => ⟨S_, .i32⟩
  | 111 => ⟨S1x2048x7168, .i32⟩
  | 112 => ⟨S1x2048x7168, .i1⟩
  | 113 => ⟨S_, .i32⟩
  | 114 => ⟨S1x2048x7168, .i32⟩
  | 115 => ⟨S1x2048x7168, .i32⟩
  | 116 => ⟨S_, .i32⟩
  | 117 => ⟨S1x2048x7168, .i32⟩
  | 118 => ⟨S1x2048x7168, .i1⟩
  | 119 => ⟨S_, .i32⟩
  | 120 => ⟨S1x2048x7168, .i32⟩
  | 121 => ⟨S1x2048x7168, .i32⟩
  | 122 => ⟨S_, .i32⟩
  | 123 => ⟨S1x2048x7168, .i32⟩
  | 124 => ⟨S1x2048x7168, .i1⟩
  | 125 => ⟨S_, .i32⟩
  | 126 => ⟨S1x2048x7168, .i32⟩
  | 127 => ⟨S1x2048x7168, .i32⟩
  | _ => ⟨S1x2048x7168, .bf16⟩

abbrev hbmTy0_1 (i : Nat) : BufTy := match i % 128 with
  | 0 => ⟨S_, .i32⟩
  | 1 => ⟨S1x2048x7168, .i32⟩
  | 2 => ⟨S1x2048x7168, .i1⟩
  | 3 => ⟨S_, .bf16⟩
  | 4 => ⟨S_, .bf16⟩
  | 5 => ⟨S1x2048x7168, .bf16⟩
  | 6 => ⟨S1x2048x7168, .bf16⟩
  | 7 => ⟨S1x2048x7168, .bf16⟩
  | 8 => ⟨S_, .bf16⟩
  | 9 => ⟨S_, .bf16⟩
  | 10 => ⟨S1x2048x7168, .bf16⟩
  | 11 => ⟨S1x2048x7168, .bf16⟩
  | 12 => ⟨S1x2048x7168, .bf16⟩
  | 13 => ⟨S1x2048x7168, .bf16⟩
  | 14 => ⟨S_, .bf16⟩
  | 15 => ⟨S_, .bf16⟩
  | 16 => ⟨S1x2048x7168, .bf16⟩
  | 17 => ⟨S1x2048x7168, .bf16⟩
  | 18 => ⟨S1x2048x7168, .bf16⟩
  | 19 => ⟨S_, .bf16⟩
  | 20 => ⟨S_, .bf16⟩
  | 21 => ⟨S1x2048x7168, .bf16⟩
  | 22 => ⟨S1x2048x7168, .bf16⟩
  | 23 => ⟨S1x2048x7168, .bf16⟩
  | 24 => ⟨S1x2048x7168, .bf16⟩
  | 25 => ⟨S1x2048x7168, .bf16⟩
  | 26 => ⟨S1x2048x7168, .bf16⟩
  | 27 => ⟨S1x2048x7168, .bf16⟩
  | 28 => ⟨S1x2048x448x16, .bf16⟩
  | 29 => ⟨S1x2048x448x1, .bf16⟩
  | 30 => ⟨S1x2048x448x16, .bf16⟩
  | 31 => ⟨S1x2048x448x16, .bf16⟩
  | 32 => ⟨S1x2048x7168, .bf16⟩
  | 33 => ⟨S4608x3584, .i32⟩
  | 34 => ⟨S_, .i32⟩
  | 35 => ⟨S4608x3584, .i32⟩
  | 36 => ⟨S4608x3584, .i32⟩
  | 37 => ⟨S_, .i32⟩
  | 38 => ⟨S4608x3584, .i32⟩
  | 39 => ⟨S4608x3584, .i32⟩
  | 40 => ⟨S4608x3584x1, .i32⟩
  | 41 => ⟨S4608x3584x1, .i32⟩
  | 42 => ⟨S4608x3584x2, .i32⟩
  | 43 => ⟨S4608x7168, .i32⟩
  | 44 => ⟨S_, .i32⟩
  | 45 => ⟨S4608x7168, .i32⟩
  | 46 => ⟨S4608x7168, .i32⟩
  | 47 => ⟨S_, .i32⟩
  | 48 => ⟨S4608x7168, .i32⟩
  | 49 => ⟨S4608x7168, .i1⟩
  | 50 => ⟨S_, .i32⟩
  | 51 => ⟨S4608x7168, .i32⟩
  | 52 => ⟨S4608x7168, .i32⟩
  | 53 => ⟨S_, .i32⟩
  | 54 => ⟨S4608x7168, .i32⟩
  | 55 => ⟨S4608x7168, .i1⟩
  | 56 => ⟨S_, .i32⟩
  | 57 => ⟨S4608x7168, .i32⟩
  | 58 => ⟨S4608x7168, .i32⟩
  | 59 => ⟨S_, .i32⟩
  | 60 => ⟨S4608x7168, .i32⟩
  | 61 => ⟨S4608x7168, .i1⟩
  | 62 => ⟨S_, .i32⟩
  | 63 => ⟨S4608x7168, .i32⟩
  | 64 => ⟨S4608x7168, .i32⟩
  | 65 => ⟨S_, .i32⟩
  | 66 => ⟨S4608x7168, .i32⟩
  | 67 => ⟨S4608x7168, .i1⟩
  | 68 => ⟨S_, .bf16⟩
  | 69 => ⟨S_, .bf16⟩
  | 70 => ⟨S4608x7168, .bf16⟩
  | 71 => ⟨S4608x7168, .bf16⟩
  | 72 => ⟨S4608x7168, .bf16⟩
  | 73 => ⟨S_, .bf16⟩
  | 74 => ⟨S_, .bf16⟩
  | 75 => ⟨S4608x7168, .bf16⟩
  | 76 => ⟨S4608x7168, .bf16⟩
  | 77 => ⟨S4608x7168, .bf16⟩
  | 78 => ⟨S4608x7168, .bf16⟩
  | 79 => ⟨S_, .bf16⟩
  | 80 => ⟨S_, .bf16⟩
  | 81 => ⟨S4608x7168, .bf16⟩
  | 82 => ⟨S4608x7168, .bf16⟩
  | 83 => ⟨S4608x7168, .bf16⟩
  | 84 => ⟨S_, .bf16⟩
  | 85 => ⟨S_, .bf16⟩
  | 86 => ⟨S4608x7168, .bf16⟩
  | 87 => ⟨S4608x7168, .bf16⟩
  | 88 => ⟨S4608x7168, .bf16⟩
  | 89 => ⟨S4608x7168, .bf16⟩
  | 90 => ⟨S4608x7168, .bf16⟩
  | 91 => ⟨S4608x7168, .bf16⟩
  | 92 => ⟨S4608x7168, .bf16⟩
  | 93 => ⟨S4608x448x16, .bf16⟩
  | 94 => ⟨S4608x448x1, .bf16⟩
  | 95 => ⟨S4608x448x16, .bf16⟩
  | 96 => ⟨S4608x448x16, .bf16⟩
  | 97 => ⟨S4608x7168, .bf16⟩
  | 98 => ⟨S1x2048x4608, .f32⟩
  | 99 => ⟨S8x256, .f32⟩
  | 100 => ⟨S2048, .f32⟩
  | 101 => ⟨S1x2048x1, .f32⟩
  | 102 => ⟨S1x2048x4608, .f32⟩
  | 103 => ⟨S1x2048x4608, .f32⟩
  | 104 => ⟨S_, .f32⟩
  | 105 => ⟨S1x2048x4608, .f32⟩
  | 106 => ⟨S1x2048x4608, .f32⟩
  | 107 => ⟨S1x2048x4608, .bf16⟩
  | 108 => ⟨S1x2048x3584x2, .i32⟩
  | 109 => ⟨S1x2048x3584x1, .i32⟩
  | 110 => ⟨S1x2048x3584, .i32⟩
  | 111 => ⟨S1x2048x3584x1, .i32⟩
  | 112 => ⟨S1x2048x3584, .i32⟩
  | 113 => ⟨S_, .i32⟩
  | 114 => ⟨S1x2048x3584, .i32⟩
  | 115 => ⟨S1x2048x3584, .i32⟩
  | 116 => ⟨S1x2048x3584, .i32⟩
  | 117 => ⟨S1x2048x3584, .i8⟩
  | 118 => ⟨S1x2048x448, .fp8e4m3⟩
  | _ => ⟨S1x2048x7168, .bf16⟩

abbrev hbmTy (i : Nat) : BufTy := match i / 128 with
  | 0 => hbmTy0_0 i
  | 1 => hbmTy0_1 i
  | _ => ⟨S1x2048x7168, .bf16⟩

abbrev bufTy : (tb : Table) → Fin (tcTables nBuf tb) → BufTy
  | .hbm, ⟨i, _⟩ => hbmTy i
  | .local _ .vmem, ⟨0, _⟩ => ⟨S2048x448, .f32⟩
  | .local _ .vmem, ⟨1, _⟩ => ⟨S4608x448, .fp8e4m3⟩
  | .local _ .vmem, ⟨2, _⟩ => ⟨S2048x448, .fp8e4m3⟩
  | .local _ .vmem, ⟨3, _⟩ => ⟨S2048x448, .f32⟩
  | .local _ .vmem, ⟨4, _⟩ => ⟨S2048x448, .bf16⟩
  | .local _ .vmem, ⟨5, _⟩ => ⟨S4608x448, .bf16⟩
  | _, _ => ⟨S1x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_cst_7 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v20_3 : Ref sig .tc := ⟨.hbm, 43, rfl⟩
abbrev main_v21 : Ref sig .tc := ⟨.hbm, 44, rfl⟩
abbrev main_cst_8 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_cst_11 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_13 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_14 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_15 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_16 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_17 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_v58 : Ref sig .tc := ⟨.hbm, 94, rfl⟩
abbrev main_v59 : Ref sig .tc := ⟨.hbm, 95, rfl⟩
abbrev main_c : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_19 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_20 : Ref sig .tc := ⟨.hbm, 107, rfl⟩
abbrev main_v69 : Ref sig .tc := ⟨.hbm, 108, rfl⟩
abbrev main_v70 : Ref sig .tc := ⟨.hbm, 109, rfl⟩
abbrev main_c_21 : Ref sig .tc := ⟨.hbm, 110, rfl⟩
abbrev main_v71 : Ref sig .tc := ⟨.hbm, 111, rfl⟩
abbrev main_v72 : Ref sig .tc := ⟨.hbm, 112, rfl⟩
abbrev main_c_22 : Ref sig .tc := ⟨.hbm, 113, rfl⟩
abbrev main_v73 : Ref sig .tc := ⟨.hbm, 114, rfl⟩
abbrev main_v74 : Ref sig .tc := ⟨.hbm, 115, rfl⟩
abbrev main_c_23 : Ref sig .tc := ⟨.hbm, 116, rfl⟩
abbrev main_v75 : Ref sig .tc := ⟨.hbm, 117, rfl⟩
abbrev main_v76 : Ref sig .tc := ⟨.hbm, 118, rfl⟩
abbrev main_c_24 : Ref sig .tc := ⟨.hbm, 119, rfl⟩
abbrev main_v77 : Ref sig .tc := ⟨.hbm, 120, rfl⟩
abbrev main_v78 : Ref sig .tc := ⟨.hbm, 121, rfl⟩
abbrev main_c_25 : Ref sig .tc := ⟨.hbm, 122, rfl⟩
abbrev main_v79 : Ref sig .tc := ⟨.hbm, 123, rfl⟩
abbrev main_v80 : Ref sig .tc := ⟨.hbm, 124, rfl⟩
abbrev main_c_26 : Ref sig .tc := ⟨.hbm, 125, rfl⟩
abbrev main_v81 : Ref sig .tc := ⟨.hbm, 126, rfl⟩
abbrev main_v82 : Ref sig .tc := ⟨.hbm, 127, rfl⟩
abbrev main_c_27 : Ref sig .tc := ⟨.hbm, 128, rfl⟩
abbrev main_v83 : Ref sig .tc := ⟨.hbm, 129, rfl⟩
abbrev main_v84 : Ref sig .tc := ⟨.hbm, 130, rfl⟩
abbrev main_cst_28 : Ref sig .tc := ⟨.hbm, 131, rfl⟩
abbrev main_cst_29 : Ref sig .tc := ⟨.hbm, 132, rfl⟩
abbrev main_call3_v0 : Ref sig .tc := ⟨.hbm, 133, rfl⟩
abbrev main_call3_v1 : Ref sig .tc := ⟨.hbm, 134, rfl⟩
abbrev main_v85 : Ref sig .tc := ⟨.hbm, 135, rfl⟩
abbrev main_cst_30 : Ref sig .tc := ⟨.hbm, 136, rfl⟩
abbrev main_cst_31 : Ref sig .tc := ⟨.hbm, 137, rfl⟩
abbrev main_call4_v0 : Ref sig .tc := ⟨.hbm, 138, rfl⟩
abbrev main_call4_v1 : Ref sig .tc := ⟨.hbm, 139, rfl⟩
abbrev main_v86 : Ref sig .tc := ⟨.hbm, 140, rfl⟩
abbrev main_v87 : Ref sig .tc := ⟨.hbm, 141, rfl⟩
abbrev main_cst_32 : Ref sig .tc := ⟨.hbm, 142, rfl⟩
abbrev main_cst_33 : Ref sig .tc := ⟨.hbm, 143, rfl⟩
abbrev main_call6_v0 : Ref sig .tc := ⟨.hbm, 144, rfl⟩
abbrev main_call6_v1 : Ref sig .tc := ⟨.hbm, 145, rfl⟩
abbrev main_v88 : Ref sig .tc := ⟨.hbm, 146, rfl⟩
abbrev main_cst_34 : Ref sig .tc := ⟨.hbm, 147, rfl⟩
abbrev main_cst_35 : Ref sig .tc := ⟨.hbm, 148, rfl⟩
abbrev main_call7_v0 : Ref sig .tc := ⟨.hbm, 149, rfl⟩
abbrev main_call7_v1 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_c_36 : Ref sig .tc := ⟨.hbm, 162, rfl⟩
abbrev main_v100 : Ref sig .tc := ⟨.hbm, 163, rfl⟩
abbrev main_v101 : Ref sig .tc := ⟨.hbm, 164, rfl⟩
abbrev main_c_37 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_c_38 : Ref sig .tc := ⟨.hbm, 172, rfl⟩
abbrev main_v108 : Ref sig .tc := ⟨.hbm, 173, rfl⟩
abbrev main_v109 : Ref sig .tc := ⟨.hbm, 174, rfl⟩
abbrev main_c_39 : Ref sig .tc := ⟨.hbm, 175, rfl⟩
abbrev main_v110 : Ref sig .tc := ⟨.hbm, 176, rfl⟩
abbrev main_v111 : Ref sig .tc := ⟨.hbm, 177, rfl⟩
abbrev main_c_40 : Ref sig .tc := ⟨.hbm, 178, rfl⟩
abbrev main_v112 : Ref sig .tc := ⟨.hbm, 179, rfl⟩
abbrev main_v113 : Ref sig .tc := ⟨.hbm, 180, rfl⟩
abbrev main_c_41 : Ref sig .tc := ⟨.hbm, 181, rfl⟩
abbrev main_v114 : Ref sig .tc := ⟨.hbm, 182, rfl⟩
abbrev main_v115 : Ref sig .tc := ⟨.hbm, 183, rfl⟩
abbrev main_c_42 : Ref sig .tc := ⟨.hbm, 184, rfl⟩
abbrev main_v116 : Ref sig .tc := ⟨.hbm, 185, rfl⟩
abbrev main_v117 : Ref sig .tc := ⟨.hbm, 186, rfl⟩
abbrev main_c_43 : Ref sig .tc := ⟨.hbm, 187, rfl⟩
abbrev main_v118 : Ref sig .tc := ⟨.hbm, 188, rfl⟩
abbrev main_v119 : Ref sig .tc := ⟨.hbm, 189, rfl⟩
abbrev main_c_44 : Ref sig .tc := ⟨.hbm, 190, rfl⟩
abbrev main_v120 : Ref sig .tc := ⟨.hbm, 191, rfl⟩
abbrev main_v121 : Ref sig .tc := ⟨.hbm, 192, rfl⟩
abbrev main_c_45 : Ref sig .tc := ⟨.hbm, 193, rfl⟩
abbrev main_v122 : Ref sig .tc := ⟨.hbm, 194, rfl⟩
abbrev main_v123 : Ref sig .tc := ⟨.hbm, 195, rfl⟩
abbrev main_cst_46 : Ref sig .tc := ⟨.hbm, 196, rfl⟩
abbrev main_cst_47 : Ref sig .tc := ⟨.hbm, 197, rfl⟩
abbrev main_call11_v0 : Ref sig .tc := ⟨.hbm, 198, rfl⟩
abbrev main_call11_v1 : Ref sig .tc := ⟨.hbm, 199, rfl⟩
abbrev main_v124 : Ref sig .tc := ⟨.hbm, 200, rfl⟩
abbrev main_cst_48 : Ref sig .tc := ⟨.hbm, 201, rfl⟩
abbrev main_cst_49 : Ref sig .tc := ⟨.hbm, 202, rfl⟩
abbrev main_call12_v0 : Ref sig .tc := ⟨.hbm, 203, rfl⟩
abbrev main_call12_v1 : Ref sig .tc := ⟨.hbm, 204, rfl⟩
abbrev main_v125 : Ref sig .tc := ⟨.hbm, 205, rfl⟩
abbrev main_v126 : Ref sig .tc := ⟨.hbm, 206, rfl⟩
abbrev main_cst_50 : Ref sig .tc := ⟨.hbm, 207, rfl⟩
abbrev main_cst_51 : Ref sig .tc := ⟨.hbm, 208, rfl⟩
abbrev main_call14_v0 : Ref sig .tc := ⟨.hbm, 209, rfl⟩
abbrev main_call14_v1 : Ref sig .tc := ⟨.hbm, 210, rfl⟩
abbrev main_v127 : Ref sig .tc := ⟨.hbm, 211, rfl⟩
abbrev main_cst_52 : Ref sig .tc := ⟨.hbm, 212, rfl⟩
abbrev main_cst_53 : Ref sig .tc := ⟨.hbm, 213, rfl⟩
abbrev main_call15_v0 : Ref sig .tc := ⟨.hbm, 214, rfl⟩
abbrev main_call15_v1 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_c_54 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x448 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x448 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x448 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x448 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x448 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Codec.lean ====
module

public import proofs.«01_k».proof.Proof.Gen.KernelIdeal.Skeleton
public import Idealize.ShloMosaic.Lib.BitcastFour
public import Idealize.ShloMosaic.Lib.Pointwise
public import Idealize.ShloMosaic.PureOps.Ideal

@[expose] public section

set_option maxRecDepth 16384

noncomputable section

namespace Cert.KernelIdeal.Codec

open Idealize.ShloMosaic Cert.KernelIdeal.Gen

/-- Thirty-two-bit words read at eight bits: bit `q` of the byte at row `a`, lane `l`, is bit `8 (a % 4) + q` of the word in
row `a / 4` of that lane. -/
theorem bitcast_32_8_getLsbD_ix2 {R r n : ℕ} (x : (⟨2, ![r, n]⟩ : Shape).Idx → BitVec 32)
    (h : (⟨2, ![r, n]⟩ : Shape).Bitcasts 32 ⟨2, ![R, n]⟩ 8) (a : Fin R) (l : Fin n) (q : ℕ) (hq : q < 8) (p : Fin r)
    (hp : p.val = a.val / 4) :
    (bitcast ⟨2, ![R, n]⟩ 8 x h (ix2 a l)).getLsbD q = (x (ix2 p l)).getLsbD (8 * (a.val % 4) + q) := by
  rw [bitcast_getLsbD x h _ q hq (by decide)]
  have hrow : (⟨2, ![R, n]⟩ : Shape).row (ix2 a l) = a.val := rfl
  have e1 : ((⟨2, ![R, n]⟩ : Shape).row (ix2 a l) * 8 + q) / 32 = a.val / 4 := by rw [hrow]; omega
  have e2 : ((⟨2, ![R, n]⟩ : Shape).row (ix2 a l) * 8 + q) % 32 = 8 * (a.val % 4) + q := by rw [hrow]; omega
  rw [e2]
  congr 2
  funext c
  match c with
  | ⟨0, _⟩ => exact Fin.ext ((h.srcIdx_row _ _ _ ⟨0, Nat.zero_lt_two⟩ rfl).trans (e1.trans hp.symm))
  | ⟨1, _⟩ => exact Fin.ext (h.srcIdx_other _ _ _ ⟨1, Nat.one_lt_two⟩ (by show ¬ 1 + 2 = 2; omega))

/-- The low four bits of a byte, as a 32-bit word. -/
def nibLo (w : BitVec 8) : BitVec 32 := (w.setWidth 4).setWidth 32

/-- The high four bits of a byte, as a 32-bit word. -/
def nibHi (w : BitVec 8) : BitVec 32 := ((w >>> 4).setWidth 4).setWidth 32

/-- Bytes read as words, the words shifted right by four, read as bytes again: the low four bits of each byte are the
high four bits of the byte that was there. -/
theorem shifted_low_bits (w : IVec S32x128 8) (r : Fin 32) (l : Fin 128) :
    (bitcast S32x128 8 (shrui (bitcast S8x128 32 w bitcasts_S32x128_w8_S8x128_w32) (broadcast S8x128 4#32))
        bitcasts_S8x128_w32_S32x128_w8 (ix2 r l)).setWidth 4
      = ((w (ix2 r l)) >>> 4).setWidth 4 := by
  apply BitVec.eq_of_getLsbD_eq
  intro q hq
  have hr := r.isLt
  rw [BitVec.getLsbD_setWidth, BitVec.getLsbD_setWidth,
    bitcast_32_8_getLsbD_ix2 _ _ r l q (by omega) ⟨r.val / 4, by omega⟩ rfl]
  have hs : shrui (bitcast S8x128 32 w bitcasts_S32x128_w8_S8x128_w32) (broadcast S8x128 4#32) (ix2 (⟨r.val / 4, by omega⟩ : Fin 8) l)
      = (bitcast S8x128 32 w bitcasts_S32x128_w8_S8x128_w32 (ix2 (⟨r.val / 4, by omega⟩ : Fin 8) l)) >>> 4 := rfl
  rw [hs, BitVec.getLsbD_ushiftRight,
    ix2_eq_valueIdx, bitcast_8_32_getLsbD_ix2 w _ _ l (4 + (8 * (r.val % 4) + q)) (by omega) r (by
      show r.val = 4 * (r.val / 4) + (4 + (8 * (r.val % 4) + q)) / 8; omega), BitVec.getLsbD_ushiftRight, ix2_eq_valueIdx]
  have e : (4 + (8 * (r.val % 4) + q)) % 8 = 4 + q := by omega
  rw [e]

/-- The value of a four-bit e2m1 code: the magnitudes 0, 1/2, 1, 3/2, 2, 3, 4, 6 are the eight hexadecimal digits of
`0xC8643210` halved, and the fourth bit is the sign. -/
def e2m1 (n : BitVec 32) : EReal :=
  (((if n.slt 8#32 then (3362009616#32 >>> ((n &&& 7#32) <<< 2)) &&& 15#32
      else 0#32 - ((3362009616#32 >>> ((n &&& 7#32) <<< 2)) &&& 15#32)).toInt : ℝ) : EReal) * (((1 : ℝ) / 2 : ℝ) : EReal)

/-- The word `0x3F000000` read as a float is one half. -/
theorem ofBits_half : Ideal.ofBits .f32 0x3F000000#32 = (((1 : ℝ) / 2 : ℝ) : EReal) := by
  simp [Ideal.ofBits, Ideal.ieee, -EReal.coe_mul]; norm_num

/-- The kernel's decoding of a code, as the machine's operations write it, is `e2m1`. -/
theorem e2m1_of_ops (n : BitVec 32) :
    (FloatOps.sitofp (F := Ideal) .f32 (Scalar.select (IntOp.cmpi .slt n 8#32)
        (IntOp.andi (IntOp.shrui .vector 3362009616#32 (IntOp.shli .vector (IntOp.andi n 7#32) 2#32)) 15#32)
        (IntOp.subi 0#32 (IntOp.andi (IntOp.shrui .vector 3362009616#32 (IntOp.shli .vector (IntOp.andi n 7#32) 2#32)) 15#32))) : EReal)
      * Ideal.ofBits .f32 1056964608#32 = e2m1 n := by
  have h1 : IntOp.shli .vector (IntOp.andi n 7#32) 2#32 = (n &&& 7#32) <<< 2 := rfl
  have hb : ((n &&& 7#32) <<< 2).toNat < 32 := by
    have h7 : (n &&& 7#32).toNat ≤ 7 := by rw [BitVec.toNat_and]; exact Nat.and_le_right
    rw [BitVec.toNat_shiftLeft, Nat.shiftLeft_eq]
    omega
  have h2 : IntOp.shrui .vector 3362009616#32 ((n &&& 7#32) <<< 2) = 3362009616#32 >>> ((n &&& 7#32) <<< 2) := if_pos hb
  rw [h1, h2]
  unfold e2m1
  rw [← ofBits_half]
  by_cases h : n.slt 8#32
  · have hc : IntOp.cmpi .slt n 8#32 = 1#1 := by simp [IntOp.cmpi, h]
    rw [hc, if_pos h]; rfl
  · have hc : IntOp.cmpi .slt n 8#32 = 0#1 := by simp [IntOp.cmpi, h]
    rw [hc, if_neg h]; rfl

end Cert.KernelIdeal.Codec
-- ==== Proof.Qdef.lean ====
module

public import proofs.«01_k».proof.Proof.Codec
public import proofs.«01_k».proof.Proof.Gen.KernelIdeal.Frame

@[expose] public section

set_option maxRecDepth 16384

noncomputable section

namespace Cert.KernelIdeal.Q

open Idealize.ShloMosaic Idealize.SL.Sem Cert.KernelIdeal Cert.KernelIdeal.Gen

/-- The lane number of every lane. -/
def lane : IVec S32x128 32 := iota .tc S32x128 32 [1] iota_S32x128_d1_w32

/-- The number `n` in every lane. -/
abbrev all (n : BitVec 32) : IVec S32x128 32 := broadcast S32x128 n

/-- An index vector as the gather takes it: 128 is added to a negative index. -/
def wrap (a : IVec S32x128 32) : IVec S32x128 32 :=
  shapeCast S32x128 (shapeCast S32x128x1 (select (cmpi .slt a (all 0#32)) (addi a (all 128#32)) a) shapeCasts_S32x128_S32x128x1) shapeCasts_S32x128x1_S32x128

/-- The lanes of each row of `x`, permuted by `a`. -/
def perm (x : FVec Ideal S32x128 .f32) (a : IVec S32x128 32) : FVec Ideal S32x128 .f32 := dynamicGather 1 x (wrap a)

/-- `perm` of bf16 lanes. -/
def permB (x : FVec Ideal S32x128 .bf16) (a : IVec S32x128 32) : FVec Ideal S32x128 .bf16 :=
  truncf .bf16 (perm (extf .f32 x bitsLt_bf16_f32) a) bitsLt_bf16_f32

/-- `perm` of fp8 lanes. -/
def permS (x : FVec Ideal S32x128 .fp8e4m3) (a : IVec S32x128 32) : FVec Ideal S32x128 .fp8e4m3 :=
  truncf .fp8e4m3 (perm (extf .f32 x bitsLt_fp8e4m3_f32) a) bitsLt_fp8e4m3_f32

/-- The lanes below 64. -/
def low : IVec S32x128 1 := cmpi .slt lane (all 64#32)

/-- Twice the lane number modulo 64. -/
def src : IVec S32x128 32 := muli (andi lane (all 63#32)) (all 2#32)

/-- The lanes of a chunk of 256 elements picked by an index vector: the lanes below 64 from its first half, the others from its second. -/
def pick (v : Vec Ideal S1x32x256 .bf16) (a : IVec S32x128 32) : FVec Ideal S32x128 .bf16 :=
  truncf .bf16
    (select low
      (perm (extractStridedSlice S32x128 ![0, 0] (extf .f32 (shapeCast S32x256 v shapeCasts_S1x32x256_S32x256 : FVec Ideal S32x256 .bf16) bitsLt_bf16_f32 : FVec Ideal S32x256 .f32) slices_S32x256_o0_0_S32x128) a)
      (perm (extractStridedSlice S32x128 ![0, 128] (extf .f32 (shapeCast S32x256 v shapeCasts_S1x32x256_S32x256 : FVec Ideal S32x256 .bf16) bitsLt_bf16_f32 : FVec Ideal S32x256 .f32) slices_S32x256_o0_128_S32x128) a))
    bitsLt_bf16_f32

/-- The even elements of a chunk. -/
def ev (v : Vec Ideal S1x32x256 .bf16) : FVec Ideal S32x128 .bf16 := pick v src

/-- The odd elements of a chunk. -/
def od (v : Vec Ideal S1x32x256 .bf16) : FVec Ideal S32x128 .bf16 := pick v (addi src (all 1#32))

/-- The larger magnitude of each pair of elements of a chunk. -/
def amx (v : Vec Ideal S1x32x256 .bf16) : FVec Ideal S32x128 .bf16 := maximumf (absf (ev v)) (absf (od v))

/-- One step of the transposing maximum. -/
def merge (a b : FVec Ideal S32x128 .bf16) (mask : IVec S32x128 1) (step : BitVec 32) : FVec Ideal S32x128 .bf16 :=
  maximumf (select mask b a) (permB (select mask a b) (xori lane (all step)))

/-- The maxima of the blocks of four chunks: lane `8 b + i` (and `8 b + i + 4`) holds that of block `b` of chunk `i`. -/
def bmax (v0 v1 v2 v3 : Vec Ideal S1x32x256 .bf16) : FVec Ideal S32x128 .bf16 :=
  let odd := cmpi .eq (andi lane (all 1#32)) (all 1#32)
  let two := cmpi .eq (andi lane (all 2#32)) (all 2#32)
  let m := merge (merge (amx v0) (amx v1) odd 1#32) (merge (amx v2) (amx v3) odd 1#32) two 2#32
  maximumf m (permB m (xori lane (all 4#32)))

/-- The block scales of four chunks. -/
def scl (b : FVec Ideal S32x128 .bf16) (g : FVec Ideal S32x128 .f32) : FVec Ideal S32x128 .fp8e4m3 :=
  truncf .fp8e4m3
    (minimumf (broadcast S32x128 (Scalar.ofBits .f32 0x43E00000#32 : Ideal .f32) : FVec Ideal S32x128 .f32) (maximumf (broadcast S32x128 (Scalar.ofBits .f32 0x00000000#32 : Ideal .f32) : FVec Ideal S32x128 .f32)
      (divf (mulf (extf .f32 b bitsLt_bf16_f32) (broadcast S32x128 (Scalar.ofBits .f32 0x3F800800#32 : Ideal .f32)))
        (mulf (broadcast S32x128 (Scalar.ofBits .f32 0x40C00000#32 : Ideal .f32)) g)))) bitsLt_fp8e4m3_f32

/-- The reciprocals of the step sizes. -/
def rcp (s : FVec Ideal S32x128 .fp8e4m3) (g : FVec Ideal S32x128 .f32) : FVec Ideal S32x128 .f32 :=
  divf (broadcast S32x128 (Scalar.ofBits .f32 0x3F800000#32 : Ideal .f32))
    (select (cmpf .oeq (extf .f32 s bitsLt_fp8e4m3_f32) (broadcast S32x128 (Scalar.ofBits .f32 0x00000000#32 : Ideal .f32)))
      (broadcast S32x128 (Scalar.ofBits .f32 0x3F800000#32 : Ideal .f32)) (mulf (extf .f32 s bitsLt_fp8e4m3_f32) g))

/-- The lane that holds chunk `i`'s scale of the block of a lane. -/
def blk (i : BitVec 32) : IVec S32x128 32 := ori (andi lane (all 4294967288#32)) (all i)

/-- The scaled and clipped elements of a chunk: the even ones in rows 0 to 31, the odd ones in rows 32 to 63. -/
def scaled (v : Vec Ideal S1x32x256 .bf16) (r : FVec Ideal S32x128 .f32) (i : BitVec 32) : FVec Ideal S64x128 .f32 :=
  minimumf (broadcast S64x128 (Scalar.ofBits .f32 0x40C00000#32 : Ideal .f32)) (maximumf (broadcast S64x128 (Scalar.ofBits .f32 0xC0C00000#32 : Ideal .f32))
    (concatenate S64x128 0 [⟨S32x128, mulf (extf .f32 (ev v) bitsLt_bf16_f32) (perm r (blk i))⟩, ⟨S32x128, mulf (extf .f32 (od v) bitsLt_bf16_f32) (perm r (blk i))⟩]
      concatenates_S32x128_S32x128_S64x128_d0))

/-- Whether a magnitude passes one threshold, as a number. -/
abbrev thr (p : CmpFPredicate) (m : FVec Ideal S64x128 .f32) (t : BitVec 32) : IVec S64x128 32 :=
  extui 32 (cmpf p m (broadcast S64x128 (Scalar.ofBits .f32 t : Ideal .f32))) natLt_1_32

/-- The 4-bit codes of clipped elements: the number of thresholds the magnitude passes, with bit 3 set where the element is negative. -/
def code (a : FVec Ideal S64x128 .f32) : IVec S64x128 32 :=
  let m := absf a
  let i := addi (addi (addi (addi (addi (addi (thr .ogt m 0x3E800000#32) (thr .oge m 0x3F400000#32)) (thr .ogt m 0x3FA00000#32)) (thr .oge m 0x3FE00000#32))
    (thr .ogt m 0x40200000#32)) (thr .oge m 0x40600000#32)) (thr .ogt m 0x40A00000#32)
  select (cmpf .olt a (broadcast S64x128 (Scalar.ofBits .f32 0x00000000#32 : Ideal .f32))) (ori i (broadcast S64x128 8#32)) i

/-- The values of codes. -/
def value (q : IVec S64x128 32) : FVec Ideal S64x128 .bf16 :=
  let v := andi (shrui (broadcast S64x128 3362009616#32) (shli (andi q (broadcast S64x128 7#32)) (broadcast S64x128 2#32))) (broadcast S64x128 15#32)
  truncf .bf16 (mulf (sitofp .f32 (select (cmpi .slt q (broadcast S64x128 8#32)) v (subi (broadcast S64x128 0#32) v))) (broadcast S64x128 (Scalar.ofBits .f32 0x3F000000#32 : Ideal .f32))) bitsLt_bf16_f32

/-- The bytes of a chunk: the code of the even element in the low nibble, that of the odd one in the high nibble, the code 8 (of a negative zero) written as 0. -/
def bytes (q : IVec S64x128 32) : IVec S32x128 8 :=
  let b : IVec S64x128 8 := trunci 8 (select (cmpi .eq (andi q (broadcast S64x128 7#32)) (broadcast S64x128 0#32)) (broadcast S64x128 0#32) q) natLt_8_32
  bitcast S32x128 8 (ori (bitcast S8x128 32 (extractStridedSlice S32x128 ![0, 0] b slices_S64x128_o0_0_S32x128) bitcasts_S32x128_w8_S8x128_w32)
    (shli (bitcast S8x128 32 (extractStridedSlice S32x128 ![32, 0] b slices_S64x128_o32_0_S32x128) bitcasts_S32x128_w8_S8x128_w32) (broadcast S8x128 4#32))) bitcasts_S8x128_w32_S32x128_w8

/-- The scale of every lane's block. -/
def stepOf (s : FVec Ideal S32x128 .fp8e4m3) (i : BitVec 32) : FVec Ideal S32x128 .bf16 := extf .bf16 (permS s (blk i)) bitsLt_fp8e4m3_bf16

/-- The block of codes stored for chunk `i` of a unit, from the chunk and the reciprocals. -/
def codesP (v : Vec Ideal S1x32x256 .bf16) (rc : FVec Ideal S32x128 .f32) (i : BitVec 32) : IVec S1x32x128 8 :=
  shapeCast S1x32x128 (bytes (code (scaled v rc i))) shapeCasts_S32x128_S1x32x128

/-- The block of decoded even elements stored for chunk `i` of a unit, from the chunk, the scales and the reciprocals. -/
def evenP (v : Vec Ideal S1x32x256 .bf16) (s : FVec Ideal S32x128 .fp8e4m3) (rc : FVec Ideal S32x128 .f32) (i : BitVec 32) : FVec Ideal S1x32x128 .bf16 :=
  shapeCast S1x32x128 (mulf (extractStridedSlice S32x128 ![0, 0] (value (code (scaled v rc i))) slices_S64x128_o0_0_S32x128) (stepOf s i)) shapeCasts_S32x128_S1x32x128

/-- The block of decoded odd elements stored for chunk `i` of a unit, from the chunk, the scales and the reciprocals. -/
def oddP (v : Vec Ideal S1x32x256 .bf16) (s : FVec Ideal S32x128 .fp8e4m3) (rc : FVec Ideal S32x128 .f32) (i : BitVec 32) : FVec Ideal S1x32x128 .bf16 :=
  shapeCast S1x32x128 (mulf (extractStridedSlice S32x128 ![32, 0] (value (code (scaled v rc i))) slices_S64x128_o32_0_S32x128) (stepOf s i)) shapeCasts_S32x128_S1x32x128

/-- The scales of a unit in natural order, in lanes 0 to 63 and again in lanes 64 to 127. -/
def nat (s : FVec Ideal S32x128 .fp8e4m3) : FVec Ideal S32x128 .fp8e4m3 :=
  permS s (ori (shli (andi lane (all 15#32)) (all 3#32)) (andi (shrsi lane (all 4#32)) (all 3#32)))

/-- The block of scales stored for two units. -/
def scalesP (s s' : FVec Ideal S32x128 .fp8e4m3) : FVec Ideal S1x32x128 .fp8e4m3 :=
  shapeCast S1x32x128 (select low (nat s) (nat s')) shapeCasts_S32x128_S1x32x128

/-- The block of scales stored for the last unit. -/
def scalesLastP (s : FVec Ideal S32x128 .fp8e4m3) : FVec Ideal S1x32x64 .fp8e4m3 :=
  shapeCast S1x32x64 (extractStridedSlice S32x64 ![0, 0] (nat s) slices_S32x128_o0_0_S32x64) shapeCasts_S32x64_S1x32x64

end Cert.KernelIdeal.Q
-- ==== Proof.QA.lean ====
module

public import proofs.«01_k».proof.Proof.Qdef

@[expose] public section

set_option maxRecDepth 16384

noncomputable section

namespace Cert.KernelIdeal.Q

open Idealize.ShloMosaic Idealize.SL.Sem Cert.KernelIdeal Cert.KernelIdeal.Gen

/-- The wrap of negative indices leaves a lane number as it is. -/
theorem wrap_small : ∀ n : Fin 128, (Scalar.select (IntOp.cmpi .slt (BitVec.ofNat 32 n.val) 0#32) (IntOp.addi (BitVec.ofNat 32 n.val) 128#32) (BitVec.ofNat 32 n.val)).toNat % 128 = n.val := by
  decide +kernel

/-- A permutation reads the lane its index names. -/
theorem perm_of (x : FVec Ideal S32x128 .f32) (a : IVec S32x128 32) (r : Fin 32) (l n : Fin 128) (h : a (ix2 r l) = BitVec.ofNat 32 n.val) :
    perm x a (ix2 r l) = x (ix2 r n) := by
  unfold perm wrap
  pointwise
  refine congrArg (fun z => x (ix2 r z)) (Fin.ext ?_)
  show (Scalar.select (IntOp.cmpi .slt (a (ix2 r l)) 0#32) (IntOp.addi (a (ix2 r l)) 128#32) (a (ix2 r l))).toNat % 128 = n.val
  rw [h]
  exact wrap_small n

/-- `perm_of` through the widening of bf16. -/
theorem permB_of (x : FVec Ideal S32x128 .bf16) (a : IVec S32x128 32) (r : Fin 32) (l n : Fin 128) (h : a (ix2 r l) = BitVec.ofNat 32 n.val) :
    permB x a (ix2 r l) = x (ix2 r n) := perm_of (extf .f32 x bitsLt_bf16_f32) a r l n h

/-- `perm_of` through the widening of fp8. -/
theorem permS_of (x : FVec Ideal S32x128 .fp8e4m3) (a : IVec S32x128 32) (r : Fin 32) (l n : Fin 128) (h : a (ix2 r l) = BitVec.ofNat 32 n.val) :
    permS x a (ix2 r l) = x (ix2 r n) := perm_of (extf .f32 x bitsLt_fp8e4m3_f32) a r l n h

/-- The lane an even element comes from. -/
theorem src_apply (r : Fin 32) (l : Fin 128) : src (ix2 r l) = BitVec.ofNat 32 (2 * (l.val % 64)) := by
  have h : ∀ l : Fin 128, IntOp.muli (IntOp.andi (BitVec.ofNat 32 l.val) 63#32) 2#32 = BitVec.ofNat 32 (2 * (l.val % 64)) := by decide +kernel
  refine Eq.trans ?_ (h l)
  unfold src lane
  pointwise

/-- The lane an odd element comes from. -/
theorem src1_apply (r : Fin 32) (l : Fin 128) : addi src (all 1#32) (ix2 r l) = BitVec.ofNat 32 (2 * (l.val % 64) + 1) := by
  have h : ∀ l : Fin 128, IntOp.addi (BitVec.ofNat 32 (2 * (l.val % 64))) 1#32 = BitVec.ofNat 32 (2 * (l.val % 64) + 1) := by decide +kernel
  rw [← h l, ← src_apply r l]
  rfl

/-- Which half of a chunk a lane's element comes from. -/
theorem low_apply (r : Fin 32) (l : Fin 128) : low (ix2 r l) = if l.val < 64 then 1#1 else 0#1 := by
  have h : ∀ l : Fin 128, IntOp.cmpi .slt (BitVec.ofNat 32 l.val) 64#32 = if l.val < 64 then 1#1 else 0#1 := by decide +kernel
  rw [← h l]
  unfold low lane
  pointwise

/-- The element of a chunk that a lane picks. -/
theorem pick_apply (v : Vec Ideal S1x32x256 .bf16) (a : IVec S32x128 32) (r : Fin 32) (l : Fin 128) (o : Fin 2)
    (h : a (ix2 r l) = BitVec.ofNat 32 (2 * (l.val % 64) + o.val)) :
    pick v a (ix2 r l) = v (ix3 (0 : Fin 1) r ⟨2 * l.val + o.val, by omega⟩) := by
  have hp (x : FVec Ideal S32x128 .f32) := perm_of x a r l ⟨2 * (l.val % 64) + o.val, by omega⟩ h
  have hl := low_apply r l
  unfold pick
  pointwise
  rw [hp, hp, hl]
  pointwise
  by_cases h64 : l.val < 64
  · rw [if_pos h64]
    refine congrArg v (congrArg (ix3 _ _) (Fin.ext ?_))
    show 2 * (l.val % 64) + o.val = 2 * l.val + o.val
    omega
  · rw [if_neg h64]
    refine congrArg v (congrArg (ix3 _ _) (Fin.ext ?_))
    show 128 + (2 * (l.val % 64) + o.val) = 2 * l.val + o.val
    omega

/-- The even elements of a chunk. -/
theorem ev_apply (v : Vec Ideal S1x32x256 .bf16) (r : Fin 32) (l : Fin 128) : ev v (ix2 r l) = v (ix3 (0 : Fin 1) r ⟨2 * l.val, by omega⟩) :=
  pick_apply v src r l 0 (src_apply r l)

/-- The odd elements of a chunk. -/
theorem od_apply (v : Vec Ideal S1x32x256 .bf16) (r : Fin 32) (l : Fin 128) : od v (ix2 r l) = v (ix3 (0 : Fin 1) r ⟨2 * l.val + 1, by omega⟩) :=
  pick_apply v (addi src (all 1#32)) r l 1 (src1_apply r l)

/-- The magnitude of a value. -/
def mag (x : EReal) : EReal := max x (-x)

/-- The larger magnitude of a pair of neighbours. -/
theorem amx_apply (v : Vec Ideal S1x32x256 .bf16) (r : Fin 32) (l : Fin 128) :
    amx v (ix2 r l) = max (mag (v (ix3 (0 : Fin 1) r ⟨2 * l.val, by omega⟩))) (mag (v (ix3 (0 : Fin 1) r ⟨2 * l.val + 1, by omega⟩))) := by
  rw [← ev_apply v, ← od_apply v]
  unfold amx
  pointwise
  rfl

/-- One merging step: the larger of the values of two lanes, of one of the two arrays. -/
theorem merge_apply (a b : FVec Ideal S32x128 .bf16) (mask : IVec S32x128 1) (step : BitVec 32) (r : Fin 32) (l m : Fin 128) (t : Bool)
    (hx : IntOp.xori (BitVec.ofNat 32 l.val) step = BitVec.ofNat 32 m.val)
    (h : mask (ix2 r l) = BitVec.ofBool t) (h' : mask (ix2 r m) = BitVec.ofBool !t) :
    merge a b mask step (ix2 r l) = max ((if t then b else a) (ix2 r l)) ((if t then b else a) (ix2 r m)) := by
  have hp (x : FVec Ideal S32x128 .bf16) : permB x (xori lane (all step)) (ix2 r l) = x (ix2 r m) := by
    refine permB_of x _ r l m (Eq.trans ?_ hx)
    unfold lane
    pointwise
  unfold merge
  pointwise
  rw [hp]
  pointwise
  rw [h, h']
  cases t <;> rfl

end Cert.KernelIdeal.Q
-- ==== Proof.QB.lean ====
module

public import proofs.«01_k».proof.Proof.QA

@[expose] public section

set_option maxRecDepth 16384

noncomputable section

namespace Cert.KernelIdeal.Q

open Idealize.ShloMosaic Idealize.SL.Sem Cert.KernelIdeal Cert.KernelIdeal.Gen

/-- The lane of the same group of eight whose last three bits differ from those of `l` by `j`. -/
def xl (l : Fin 128) (j : Fin 8) : Fin 128 := ⟨8 * (l.val / 8) + (l.val % 8 ^^^ j.val) % 8, by omega⟩

/-- `xl` is the exclusive or of the lane number. -/
theorem xl_nat : ∀ (l : Fin 128) (j : Fin 8), IntOp.xori (BitVec.ofNat 32 l.val) (BitVec.ofNat 32 j.val) = BitVec.ofNat 32 (xl l j).val := by
  decide +kernel

/-- Two exclusive ors in a row are one. -/
theorem xl_xl : ∀ (l : Fin 128) (j j' : Fin 8), xl (xl l j) j' = xl l ⟨(j.val ^^^ j'.val) % 8, by omega⟩ := by
  decide +kernel

/-- A bit mask of the lane number, at a lane. -/
theorem bit_apply (b : BitVec 32) (r : Fin 32) (l : Fin 128) :
    cmpi .eq (andi lane (all b)) (all b) (ix2 r l) = IntOp.cmpi .eq (IntOp.andi (BitVec.ofNat 32 l.val) b) b := by
  unfold lane
  pointwise

/-- The lowest bit of a lane number. -/
theorem odd_bit : ∀ l : Fin 128, IntOp.cmpi .eq (IntOp.andi (BitVec.ofNat 32 l.val) 1#32) 1#32 = BitVec.ofBool (l.val % 2 == 1) := by decide +kernel

/-- The second bit of a lane number. -/
theorem two_bit : ∀ l : Fin 128, IntOp.cmpi .eq (IntOp.andi (BitVec.ofNat 32 l.val) 2#32) 2#32 = BitVec.ofBool (l.val / 2 % 2 == 1) := by decide +kernel

/-- Flipping the lowest bit. -/
theorem odd_flip : ∀ l : Fin 128, ((xl l 1).val % 2 == 1) = !(l.val % 2 == 1) := by decide +kernel
/-- Flipping the second bit. -/
theorem two_flip : ∀ l : Fin 128, ((xl l 2).val / 2 % 2 == 1) = !(l.val / 2 % 2 == 1) := by decide +kernel
/-- Flipping the second bit keeps the lowest. -/
theorem odd_keep : ∀ l : Fin 128, ((xl l 2).val % 2 == 1) = (l.val % 2 == 1) := by decide +kernel
/-- Flipping the third bit keeps the lowest. -/
theorem odd_keep4 : ∀ l : Fin 128, ((xl l 4).val % 2 == 1) = (l.val % 2 == 1) := by decide +kernel
/-- Flipping second and third bit keeps the lowest. -/
theorem odd_keep6 : ∀ l : Fin 128, ((xl l 6).val % 2 == 1) = (l.val % 2 == 1) := by decide +kernel
/-- Exclusive or with zero. -/
theorem xl_zero : ∀ l : Fin 128, xl l 0 = l := by decide +kernel
/-- Flipping the third bit keeps the second. -/
theorem two_keep4 : ∀ l : Fin 128, ((xl l 4).val / 2 % 2 == 1) = (l.val / 2 % 2 == 1) := by decide +kernel

/-- The merging step over neighbouring lanes. -/
theorem merge1 (a b : FVec Ideal S32x128 .bf16) (r : Fin 32) (l : Fin 128) :
    merge a b (cmpi .eq (andi lane (all 1#32)) (all 1#32)) 1#32 (ix2 r l)
      = max ((if l.val % 2 == 1 then b else a) (ix2 r l)) ((if l.val % 2 == 1 then b else a) (ix2 r (xl l 1))) :=
  merge_apply a b _ _ r l (xl l 1) _ (xl_nat l 1) ((bit_apply _ r l).trans (odd_bit l)) ((bit_apply _ r _).trans ((odd_bit _).trans (congrArg _ (odd_flip l))))

/-- The merging step over lanes two apart. -/
theorem merge2 (a b : FVec Ideal S32x128 .bf16) (r : Fin 32) (l : Fin 128) :
    merge a b (cmpi .eq (andi lane (all 2#32)) (all 2#32)) 2#32 (ix2 r l)
      = max ((if l.val / 2 % 2 == 1 then b else a) (ix2 r l)) ((if l.val / 2 % 2 == 1 then b else a) (ix2 r (xl l 2))) :=
  merge_apply a b _ _ r l (xl l 2) _ (xl_nat l 2) ((bit_apply _ r l).trans (two_bit l)) ((bit_apply _ r _).trans ((two_bit _).trans (congrArg _ (two_flip l))))

/-- The chunk of a unit whose scales are in a lane. -/
def chunkOf {α : Type} (v : Fin 4 → α) (l : Fin 128) : α :=
  if l.val / 2 % 2 == 1 then (if l.val % 2 == 1 then v 3 else v 2) else (if l.val % 2 == 1 then v 1 else v 0)

/-- The largest of eight values, as the kernel pairs them. -/
theorem sup_eight (F : Fin 8 → EReal) :
    max (max (max (F 0) (F 1)) (max (F 2) (F 3))) (max (max (F 4) (F 5)) (max (F 6) (F 7))) = Finset.univ.sup F := by
  have h (j : Fin 8) : F j ≤ Finset.univ.sup F := Finset.le_sup (Finset.mem_univ j)
  refine le_antisymm (max_le (max_le (max_le (h 0) (h 1)) (max_le (h 2) (h 3))) (max_le (max_le (h 4) (h 5)) (max_le (h 6) (h 7)))) (Finset.sup_le fun j _ => ?_)
  fin_cases j <;> simp [le_max_iff]

/-- The last step of the transposing maximum, of all eight lanes of the group. -/
theorem bmax_lanes (v : Fin 4 → Vec Ideal S1x32x256 .bf16) (r : Fin 32) (l : Fin 128) :
    bmax (v 0) (v 1) (v 2) (v 3) (ix2 r l) = Finset.univ.sup fun j : Fin 8 => amx (chunkOf v l) (ix2 r (xl l j)) := by
  have e4 (x : FVec Ideal S32x128 .bf16) : maximumf x (permB x (xori lane (all 4#32))) (ix2 r l) = max (x (ix2 r l)) (x (ix2 r (xl l 4))) := by
    have hp : permB x (xori lane (all 4#32)) (ix2 r l) = x (ix2 r (xl l 4)) := by
      refine permB_of x _ r l _ (Eq.trans ?_ (xl_nat l 4))
      unfold lane
      pointwise
    rw [← hp]
    rfl
  have e0 := xl_zero l
  unfold bmax
  rw [e4, merge2, merge2, two_keep4]
  unfold chunkOf
  cases h2 : (l.val / 2 % 2 == 1) <;> cases h1 : (l.val % 2 == 1) <;>
    simp only [Bool.false_eq_true, if_true, if_false, merge1, odd_keep, odd_keep4, h1] <;>
    rw [← sup_eight] <;>
    simp only [e0, xl_xl] <;> rfl

/-- The largest magnitude of a block of 16 elements of a chunk. -/
def blkMax (v : Vec Ideal S1x32x256 .bf16) (r : Fin 32) (b : Fin 16) : EReal :=
  Finset.univ.sup fun e : Fin 16 => mag (v (ix3 (0 : Fin 1) r ⟨16 * b.val + e.val, by omega⟩))

/-- The maxima of the blocks of four chunks. -/
theorem bmax_apply (v : Fin 4 → Vec Ideal S1x32x256 .bf16) (r : Fin 32) (l : Fin 128) :
    bmax (v 0) (v 1) (v 2) (v 3) (ix2 r l) = blkMax (chunkOf v l) r ⟨l.val / 8, by omega⟩ := by
  rw [bmax_lanes]
  generalize chunkOf v l = w
  unfold blkMax
  refine le_antisymm (Finset.sup_le fun j _ => ?_) (Finset.sup_le fun e _ => ?_)
  · rw [amx_apply w]
    refine max_le ?_ ?_
    · refine le_trans (le_of_eq ?_) (Finset.le_sup (Finset.mem_univ (⟨2 * ((l.val % 8 ^^^ j.val) % 8), by omega⟩ : Fin 16)))
      refine congrArg (fun z => mag (w (ix3 0 r z))) (Fin.ext ?_)
      show 2 * (8 * (l.val / 8) + (l.val % 8 ^^^ j.val) % 8) = 16 * (l.val / 8) + 2 * ((l.val % 8 ^^^ j.val) % 8)
      omega
    · refine le_trans (le_of_eq ?_) (Finset.le_sup (Finset.mem_univ (⟨2 * ((l.val % 8 ^^^ j.val) % 8) + 1, by omega⟩ : Fin 16)))
      refine congrArg (fun z => mag (w (ix3 0 r z))) (Fin.ext ?_)
      show 2 * (8 * (l.val / 8) + (l.val % 8 ^^^ j.val) % 8) + 1 = 16 * (l.val / 8) + (2 * ((l.val % 8 ^^^ j.val) % 8) + 1)
      omega
  · have hx : ∀ (i : Fin 8) (e : Fin 16), ∃ j : Fin 8, (i.val ^^^ j.val) % 8 = e.val / 2 := by decide +kernel
    obtain ⟨j, hj⟩ := hx ⟨l.val % 8, by omega⟩ e
    have hj : (l.val % 8 ^^^ j.val) % 8 = e.val / 2 := hj
    refine le_trans ?_ (Finset.le_sup (Finset.mem_univ j))
    rw [amx_apply w]
    rcases Nat.mod_two_eq_zero_or_one e.val with h | h
    · refine le_trans (le_of_eq ?_) (le_max_left _ _)
      refine congrArg (fun z => mag (w (ix3 0 r z))) (Fin.ext ?_)
      show 16 * (l.val / 8) + e.val = 2 * (8 * (l.val / 8) + (l.val % 8 ^^^ j.val) % 8)
      omega
    · refine le_trans (le_of_eq ?_) (le_max_right _ _)
      refine congrArg (fun z => mag (w (ix3 0 r z))) (Fin.ext ?_)
      show 16 * (l.val / 8) + e.val = 2 * (8 * (l.val / 8) + (l.val % 8 ^^^ j.val) % 8) + 1
      omega

/-- The lane that holds chunk `i`'s scale of the block of lane `l`. -/
def bl (i : Fin 4) (l : Fin 128) : Fin 128 := ⟨8 * (l.val / 8) + i.val, by omega⟩

/-- The lane that holds the scale of a lane's block. -/
theorem blk_apply (i : Fin 4) (r : Fin 32) (l : Fin 128) : blk (BitVec.ofNat 32 i.val) (ix2 r l) = BitVec.ofNat 32 (bl i l).val := by
  have h : ∀ (i : Fin 4) (l : Fin 128), IntOp.ori (IntOp.andi (BitVec.ofNat 32 l.val) 4294967288#32) (BitVec.ofNat 32 i.val) = BitVec.ofNat 32 (bl i l).val := by decide +kernel
  rw [← h i l]
  unfold blk lane
  pointwise

/-- The chunk whose maximum that lane holds. -/
theorem chunkOf_bl {α : Type} (v : Fin 4 → α) (i : Fin 4) (l : Fin 128) : chunkOf v (bl i l) = v i := by
  have h : ∀ (i : Fin 4) (l : Fin 128), ((bl i l).val / 2 % 2 == 1) = (i.val / 2 == 1) ∧ ((bl i l).val % 2 == 1) = (i.val % 2 == 1) := by decide +kernel
  unfold chunkOf
  rw [(h i l).1, (h i l).2]
  fin_cases i <;> rfl

/-- The scale of a block, from its largest magnitude and the segment's scale. -/
def scaleOf (b g : EReal) : EReal :=
  min (Ideal.ofBits .f32 0x43E00000#32) (max (Ideal.ofBits .f32 0x00000000#32) (Ideal.div (b * Ideal.ofBits .f32 0x3F800800#32) (Ideal.ofBits .f32 0x40C00000#32 * g)))

/-- The scales, elementwise. -/
theorem scl_apply (b : FVec Ideal S32x128 .bf16) (g : FVec Ideal S32x128 .f32) (x : S32x128.Idx) : scl b g x = scaleOf (b x) (g x) := rfl

/-- The reciprocal of a step size. -/
def rcpOf (s g : EReal) : EReal :=
  Ideal.div (Ideal.ofBits .f32 0x3F800000#32) (if s = Ideal.ofBits .f32 0x00000000#32 then Ideal.ofBits .f32 0x3F800000#32 else s * g)

/-- The reciprocals, elementwise. -/
theorem rcp_apply (s : FVec Ideal S32x128 .fp8e4m3) (g : FVec Ideal S32x128 .f32) (x : S32x128.Idx) : rcp s g x = rcpOf (s x) (g x) := by
  have hs (p : Prop) [Decidable p] (a b : EReal) : Scalar.select (BitVec.ofBool (decide p)) a b = if p then a else b := by
    by_cases h : p <;> simp [Scalar.select, h]
  exact congrArg (Ideal.div _) (hs (s x = Ideal.ofBits .f32 0x00000000#32) _ _)

/-- An element times the reciprocal of its step size, clipped. -/
def clipOf (x r : EReal) : EReal := min (Ideal.ofBits .f32 0x40C00000#32) (max (Ideal.ofBits .f32 0xC0C00000#32) (x * r))

/-- The upper 32 rows of the scaled chunk are its even elements. -/
theorem scaled_even (v : Vec Ideal S1x32x256 .bf16) (rc : FVec Ideal S32x128 .f32) (i : Fin 4) (r : Fin 32) (l : Fin 128) :
    scaled v rc (BitVec.ofNat 32 i.val) (ix2 (⟨r.val, by omega⟩ : Fin 64) l) = clipOf (v (ix3 (0 : Fin 1) r ⟨2 * l.val, by omega⟩)) (rc (ix2 r (bl i l))) := by
  rw [← ev_apply v, ← perm_of rc _ r l (bl i l) (blk_apply i r l)]
  unfold scaled
  pointwise
  rfl

/-- The lower 32 rows of the scaled chunk are its odd elements. -/
theorem scaled_odd (v : Vec Ideal S1x32x256 .bf16) (rc : FVec Ideal S32x128 .f32) (i : Fin 4) (r : Fin 32) (l : Fin 128) :
    scaled v rc (BitVec.ofNat 32 i.val) (ix2 (⟨32 + r.val, by omega⟩ : Fin 64) l) = clipOf (v (ix3 (0 : Fin 1) r ⟨2 * l.val + 1, by omega⟩)) (rc (ix2 r (bl i l))) := by
  rw [← od_apply v, ← perm_of rc _ r l (bl i l) (blk_apply i r l)]
  unfold scaled
  pointwise
  rfl

end Cert.KernelIdeal.Q
-- ==== Proof.QC.lean ====
module

public import proofs.«01_k».proof.Proof.QB

@[expose] public section

set_option maxRecDepth 16384

noncomputable section

namespace Cert.KernelIdeal.Q

open Idealize.ShloMosaic Idealize.SL.Sem Cert.KernelIdeal Cert.KernelIdeal.Gen Codec

/-- The number of true conditions among seven, as a 32-bit word. -/
def count (b : Fin 7 → Bool) : BitVec 32 :=
  (BitVec.ofBool (b 0)).setWidth 32 + (BitVec.ofBool (b 1)).setWidth 32 + (BitVec.ofBool (b 2)).setWidth 32 + (BitVec.ofBool (b 3)).setWidth 32
    + (BitVec.ofBool (b 4)).setWidth 32 + (BitVec.ofBool (b 5)).setWidth 32 + (BitVec.ofBool (b 6)).setWidth 32

/-- A count of thresholds is at most seven. -/
theorem count_le : ∀ b : Fin 7 → Bool, (count b).toNat ≤ 7 := by decide +kernel

/-- The thresholds a magnitude passes. -/
def passes (m : EReal) : Fin 7 → Bool :=
  ![decide (Ideal.ofBits .f32 0x3E800000#32 < m), decide (Ideal.ofBits .f32 0x3F400000#32 ≤ m), decide (Ideal.ofBits .f32 0x3FA00000#32 < m),
    decide (Ideal.ofBits .f32 0x3FE00000#32 ≤ m), decide (Ideal.ofBits .f32 0x40200000#32 < m), decide (Ideal.ofBits .f32 0x40600000#32 ≤ m),
    decide (Ideal.ofBits .f32 0x40A00000#32 < m)]

/-- The code of a clipped element. -/
def codeOf (a : EReal) : BitVec 32 :=
  if a < Ideal.ofBits .f32 0x00000000#32 then count (passes (mag a)) ||| 8#32 else count (passes (mag a))

/-- A selection by a decided proposition. -/
theorem select_decide {α : Type} (p : Prop) [Decidable p] (a b : α) : Scalar.select (BitVec.ofBool (decide p)) a b = if p then a else b := by
  by_cases h : p <;> simp [Scalar.select, h]

/-- The codes, elementwise. -/
theorem code_apply (a : FVec Ideal S64x128 .f32) (x : S64x128.Idx) : code a x = codeOf (a x) :=
  select_decide (a x < Ideal.ofBits .f32 0x00000000#32) (count (passes (mag (a x))) ||| 8#32) (count (passes (mag (a x))))

/-- A code is below 16. -/
theorem codeOf_lt (a : EReal) : (codeOf a).toNat < 16 := by
  have h := count_le (passes (mag a))
  unfold codeOf
  split
  · rw [BitVec.toNat_or]
    exact Nat.or_lt_two_pow (n := 4) (by omega) (by decide)
  · omega

/-- The decoding, elementwise. -/
theorem value_apply (q : IVec S64x128 32) (x : S64x128.Idx) : value q x = e2m1 (q x) := e2m1_of_ops (q x)

/-- A code with the negative zero written as zero. -/
def clr (n : BitVec 32) : BitVec 32 := if n &&& 7#32 = 0#32 then 0#32 else n

/-- The byte of two codes. -/
def byteOf (a b : BitVec 32) : BitVec 8 := (clr a).setWidth 8 ||| ((clr b).setWidth 8) <<< 4

/-- A code has no bit from the fifth on. -/
theorem clr_bit (n : BitVec 32) (h : n.toNat < 16) (j : Nat) (hj : 4 ≤ j) : (clr n).getLsbD j = false := by
  unfold clr
  split
  · simp
  · refine Nat.testBit_lt_two_pow ?_
    exact lt_of_lt_of_le h (Nat.pow_le_pow_right (by norm_num : (2 : ℕ) > 0) hj)

/-- The bytes the kernel packs, four rows at a time: a code shifted left by four stays in its byte. -/
theorem bytes_apply (q : IVec S64x128 32) (h : ∀ x, (q x).toNat < 16) (r : Fin 32) (l : Fin 128) :
    bytes q (ix2 r l) = byteOf (q (ix2 (⟨r.val, by omega⟩ : Fin 64) l)) (q (ix2 (⟨32 + r.val, by omega⟩ : Fin 64) l)) := by
  have hs (x : S64x128.Idx) : trunci 8 (select (cmpi .eq (andi q (broadcast S64x128 7#32)) (broadcast S64x128 0#32)) (broadcast S64x128 0#32) q) natLt_8_32 x
      = (clr (q x)).setWidth 8 := by
    refine congrArg (BitVec.setWidth 8) ?_
    show Scalar.select (IntOp.cmpi .eq (q x &&& 7#32) 0#32) 0#32 (q x) = clr (q x)
    unfold clr
    by_cases hc : q x &&& 7#32 = 0#32
    · rw [if_pos hc, hc]; rfl
    · rw [if_neg hc]; rw [IntOp.cmpi, beq_false_of_ne hc]; rfl
  unfold bytes
  generalize trunci 8 (select (cmpi .eq (andi q (broadcast S64x128 7#32)) (broadcast S64x128 0#32)) (broadcast S64x128 0#32) q) natLt_8_32 = b at hs
  have h0 (a : Fin 32) : extractStridedSlice S32x128 ![0, 0] b slices_S64x128_o0_0_S32x128 (ix2 a l) = (clr (q (ix2 (⟨a.val, by omega⟩ : Fin 64) l))).setWidth 8 := by
    rw [← hs]
    pointwise
  have h1 (a : Fin 32) : extractStridedSlice S32x128 ![32, 0] b slices_S64x128_o32_0_S32x128 (ix2 a l) = (clr (q (ix2 (⟨32 + a.val, by omega⟩ : Fin 64) l))).setWidth 8 := by
    rw [← hs]
    pointwise
  generalize extractStridedSlice S32x128 ![0, 0] b slices_S64x128_o0_0_S32x128 = b0 at h0
  generalize extractStridedSlice S32x128 ![32, 0] b slices_S64x128_o32_0_S32x128 = b1 at h1
  apply BitVec.eq_of_getLsbD_eq
  intro j hj
  have hr := r.isLt
  rw [bitcast_32_8_getLsbD_ix2 _ _ r l j hj ⟨r.val / 4, by omega⟩ rfl]
  have e : ori (bitcast S8x128 32 b0 bitcasts_S32x128_w8_S8x128_w32) (shli (bitcast S8x128 32 b1 bitcasts_S32x128_w8_S8x128_w32) (broadcast S8x128 4#32))
        (ix2 (⟨r.val / 4, by omega⟩ : Fin 8) l)
      = (bitcast S8x128 32 b0 bitcasts_S32x128_w8_S8x128_w32 (ix2 (⟨r.val / 4, by omega⟩ : Fin 8) l))
        ||| (bitcast S8x128 32 b1 bitcasts_S32x128_w8_S8x128_w32 (ix2 (⟨r.val / 4, by omega⟩ : Fin 8) l)) <<< 4 := rfl
  rw [e, BitVec.getLsbD_or, BitVec.getLsbD_shiftLeft, ix2_eq_valueIdx,
    bitcast_8_32_getLsbD_ix2 b0 _ _ l (8 * (r.val % 4) + j) (by omega) r (by show r.val = 4 * (r.val / 4) + (8 * (r.val % 4) + j) / 8; omega)]
  have e8 : (8 * (r.val % 4) + j) % 8 = j := by omega
  rw [e8, ← ix2_eq_valueIdx, h0]
  unfold byteOf
  rw [BitVec.getLsbD_or, BitVec.getLsbD_shiftLeft]
  congr 1
  by_cases h4 : j < 4
  · have hz : (decide (8 * (r.val % 4) + j < 32) && !decide (8 * (r.val % 4) + j < 4) && (bitcast S8x128 32 b1 bitcasts_S32x128_w8_S8x128_w32 (ValueIdx.ix2 (⟨r.val / 4, by omega⟩ : Fin 8) l)).getLsbD (8 * (r.val % 4) + j - 4)) = false := by
      by_cases hm : r.val % 4 = 0
      · have : 8 * (r.val % 4) + j < 4 := by omega
        simp [this]
      · rw [bitcast_8_32_getLsbD_ix2 b1 _ _ l (8 * (r.val % 4) + j - 4) (by omega) ⟨r.val - 1, by omega⟩ (by show r.val - 1 = 4 * (r.val / 4) + (8 * (r.val % 4) + j - 4) / 8; omega),
          ← ix2_eq_valueIdx, h1, BitVec.getLsbD_setWidth, clr_bit _ (h _) _ (by omega)]
        simp
    rw [hz]
    simp [h4]
  · rw [bitcast_8_32_getLsbD_ix2 b1 _ _ l (8 * (r.val % 4) + j - 4) (by omega) r (by show r.val = 4 * (r.val / 4) + (8 * (r.val % 4) + j - 4) / 8; omega),
      ← ix2_eq_valueIdx, h1]
    have e' : (8 * (r.val % 4) + j - 4) % 8 = j - 4 := by omega
    have hw : 8 * (r.val % 4) + j < 32 := by omega
    have hn : ¬ 8 * (r.val % 4) + j < 4 := by omega
    rw [e']
    simp [hw, hn, h4, hj]

/-- The scale of block `b` of row `r` of a chunk. -/
def scaleB (w : Vec Ideal S1x32x256 .bf16) (G : EReal) (r : Fin 32) (b : Fin 16) : EReal := scaleOf (blkMax w r b) G

/-- The scales of a unit, in the lanes the transposing maximum leaves them. -/
def unitS (v : Fin 4 → Vec Ideal S1x32x256 .bf16) (g : FVec Ideal S32x128 .f32) : FVec Ideal S32x128 .fp8e4m3 := scl (bmax (v 0) (v 1) (v 2) (v 3)) g

/-- Equal blocks have equal scales. -/
theorem scaleB_congr (w : Vec Ideal S1x32x256 .bf16) (G : EReal) (r : Fin 32) (b b' : Fin 16) (h : b.val = b'.val) : scaleB w G r b = scaleB w G r b' := by
  rw [Fin.ext h]

section unit

variable (v : Fin 4 → Vec Ideal S1x32x256 .bf16) (g : FVec Ideal S32x128 .f32) (G : EReal) (hg : ∀ x, g x = G)

include hg

/-- A unit's scales, lane by lane. -/
theorem unitS_apply (r : Fin 32) (l : Fin 128) : unitS v g (ix2 r l) = scaleB (chunkOf v l) G r ⟨l.val / 8, by omega⟩ := by
  unfold unitS
  rw [scl_apply, hg, bmax_apply]
  rfl

/-- A unit's scales, at the lane that holds a block's. -/
theorem unitS_bl (i : Fin 4) (r : Fin 32) (l : Fin 128) : unitS v g (ix2 r (bl i l)) = scaleB (v i) G r ⟨l.val / 8, by omega⟩ := by
  rw [unitS_apply v g G hg, chunkOf_bl]
  exact scaleB_congr _ _ _ _ _ (by show (8 * (l.val / 8) + i.val) / 8 = l.val / 8; omega)

end unit

end Cert.KernelIdeal.Q
-- ==== Proof.QP.lean ====
module

public import proofs.«01_k».proof.Proof.QC
public import Idealize.ShloMosaic.Lib.WholeRead

@[expose] public section

set_option maxRecDepth 16384

noncomputable section

namespace Cert.KernelIdeal.Q

open Idealize.ShloMosaic Idealize.SL.Sem Cert.KernelIdeal Cert.KernelIdeal.Gen Codec

section target

variable (x : Vec Ideal S1x256x7168 .bf16) (G : EReal)

/-- The largest magnitude of block `b` of row `r` of a segment. -/
def blkMaxA (r : Fin 256) (b : Fin 448) : EReal := Finset.univ.sup fun e : Fin 16 => mag (x (ix3 (0 : Fin 1) r ⟨16 * b.val + e.val, by omega⟩))

/-- The scale of block `b` of row `r` of a segment. -/
def scaleA (r : Fin 256) (b : Fin 448) : EReal := scaleOf (blkMaxA x r b) G

/-- The code of element `e` of row `r` of a segment. -/
def codeA (r : Fin 256) (e : Fin 7168) : BitVec 32 := codeOf (clipOf (x (ix3 (0 : Fin 1) r e)) (rcpOf (scaleA x G r ⟨e.val / 16, by omega⟩) G))

/-- The bytes of a segment. -/
def codesBlk (r : Fin 256) (l : Fin 3584) : BitVec 8 := byteOf (codeA x G r ⟨2 * l.val, by omega⟩) (codeA x G r ⟨2 * l.val + 1, by omega⟩)

/-- The element a lane of a chunk holds: the even ones in lanes 0 to 127, the odd ones in lanes 128 to 255. -/
def elemOf (c : Fin 28) (l : Fin 256) : Fin 7168 := ⟨2 * (128 * c.val + l.val % 128) + l.val / 128, by omega⟩

/-- The decoded elements of a segment, by chunks. -/
def xdqBlk (c : Fin 28) (r : Fin 256) (l : Fin 256) : EReal :=
  e2m1 (codeA x G r (elemOf c l)) * scaleA x G r ⟨16 * c.val + l.val % 128 / 8, by omega⟩

/-- `codesBlk` as an array. -/
def codesArr : S1x256x3584.Idx → Elt Ideal .i8 := fun y => codesBlk x G (y 1) (y 2)

/-- `scaleA` as an array. -/
def scalesArr : S1x256x448.Idx → Elt Ideal .fp8e4m3 := fun y => scaleA x G (y 1) (y 2)

/-- `xdqBlk` as an array. -/
def xdqArr : S28x256x256.Idx → Elt Ideal .bf16 := fun y => xdqBlk x G (y 0) (y 1) (y 2)

end target

/-- The quantiser's loop has eight trips. -/
theorem trips_lt (k : Fin k0_t2_loop.trips) : k.val < 8 := Nat.lt_of_lt_of_le k.isLt k0_t2_abs.2.1

section Pieces

variable (k : Fin k0_t2_loop.trips) {arg1 : Memref sig .tc .vmem S1x256x7168 .bf16} (harg1 : arg1.IsWhole) (x : Vec Ideal S1x256x7168 .bf16) (G : EReal)

/-- A row of the segment, from a row of the trip's 32 rows. -/
def row (r : Fin 32) : Fin 256 := ⟨32 * k.val + r.val, by have := trips_lt k; omega⟩

/-- `w` is chunk `n` of the trip's rows. -/
def ChunkAt (n : Fin 28) (w : Vec Ideal S1x32x256 .bf16) : Prop :=
  ∀ (r : Fin 32) (e : Fin 256), w (ix3 (0 : Fin 1) r e) = x (ix3 (0 : Fin 1) (row k r) ⟨256 * n.val + e.val, by omega⟩)

/-- `S` holds the scales of unit `u`. -/
def ScalesAt (u : Fin 7) (S : FVec Ideal S32x128 .fp8e4m3) : Prop :=
  ∀ (i : Fin 4) (r : Fin 32) (l : Fin 128), S (ix2 r (bl i l)) = scaleA x G (row k r) ⟨16 * (4 * u.val + i.val) + l.val / 8, by omega⟩

/-- `R` holds the reciprocals of the step sizes of unit `u`. -/
def RcpAt (u : Fin 7) (R : FVec Ideal S32x128 .f32) : Prop :=
  ∀ (i : Fin 4) (r : Fin 32) (l : Fin 128), R (ix2 r (bl i l)) = rcpOf (scaleA x G (row k r) ⟨16 * (4 * u.val + i.val) + l.val / 8, by omega⟩) G

/-- A chunk, as loaded. -/
abbrev ld (arg1 : Memref sig .tc .vmem S1x256x7168 .bf16) (X : BufTy.Contents (Elt Ideal) arg1.view.ty) (o : Fin 3 → ℕ) (inb : ∀ a, o a + S1x32x256.size a ≤ S1x256x7168.size a) : Vec Ideal S1x32x256 .bf16 :=
  View.readAt (Elt Ideal) arg1.view (Rect.unit (s := S1x256x7168) o S1x32x256.size inb).toLoadRect X

/-- A chunk as loaded, elementwise. -/
theorem ld_apply {o : Fin 3 → ℕ} {b : ℕ} (inb) (ho : o = ![0, 32 * k.val, b]) (hb : b + 256 ≤ 7168) (r : Fin 32) (e : Fin 256) :
    ld arg1 (harg1.unread x) o inb (ix3 (0 : Fin 1) r e) = x (ix3 (0 : Fin 1) (row k r) ⟨b + e.val, by omega⟩) := by
  subst ho
  unfold ld
  rw [harg1.readAt_unread]
  congr 1
  funext a
  match a with
  | ⟨0, _⟩ => exact Fin.ext (by show 0 + 1 * 0 = 0; omega)
  | ⟨1, _⟩ => exact Fin.ext (by show 32 * k.val + 1 * r.val = 32 * k.val + r.val; omega)
  | ⟨2, _⟩ => exact Fin.ext (by show b + 1 * e.val = b + e.val; omega)

/-- A load at the right place is a chunk. -/
theorem chunk_ld (n : Fin 28) {o : Fin 3 → ℕ} {inb} (ho : o = ![0, 32 * k.val, 256 * n.val]) : ChunkAt k x n (ld arg1 (harg1.unread x) o inb) :=
  ld_apply k harg1 x inb ho (by omega)

/-- The scales of a unit, computed from its chunks. -/
theorem scalesAt {u : Fin 7} {g : FVec Ideal S32x128 .f32} (hg : ∀ z, g z = G) {w0 w1 w2 w3 : Vec Ideal S1x32x256 .bf16}
    (h0 : ChunkAt k x ⟨4 * u.val, by omega⟩ w0) (h1 : ChunkAt k x ⟨4 * u.val + 1, by omega⟩ w1) (h2 : ChunkAt k x ⟨4 * u.val + 2, by omega⟩ w2)
    (h3 : ChunkAt k x ⟨4 * u.val + 3, by omega⟩ w3) {S : FVec Ideal S32x128 .fp8e4m3} (hS : S = scl (bmax w0 w1 w2 w3) g) : ScalesAt k x G u S := by
  subst hS
  intro i r l
  have hv : ∀ i : Fin 4, ChunkAt k x ⟨4 * u.val + i.val, by omega⟩ (![w0, w1, w2, w3] i)
    | ⟨0, _⟩ => h0
    | ⟨1, _⟩ => h1
    | ⟨2, _⟩ => h2
    | ⟨3, _⟩ => h3
  refine (unitS_bl ![w0, w1, w2, w3] g G hg i r l).trans ?_
  refine congrArg (fun z => scaleOf z G) (congrArg (Finset.univ.sup) (funext fun e => ?_))
  rw [hv i]
  refine congrArg (fun z => mag (x (ix3 0 (row k r) z))) (Fin.ext ?_)
  show 256 * (4 * u.val + i.val) + (16 * (l.val / 8) + e.val) = 16 * (16 * (4 * u.val + i.val) + l.val / 8) + e.val
  omega

/-- The reciprocals of a unit, computed from its scales. -/
theorem rcpAt {u : Fin 7} {g : FVec Ideal S32x128 .f32} (hg : ∀ z, g z = G) {S : FVec Ideal S32x128 .fp8e4m3} (hS : ScalesAt k x G u S)
    {R : FVec Ideal S32x128 .f32} (hR : R = rcp S g) : RcpAt k x G u R := by
  subst hR
  intro i r l
  rw [rcp_apply, hg, hS]

section use

variable {u : Fin 7} {w : Vec Ideal S1x32x256 .bf16} {S : FVec Ideal S32x128 .fp8e4m3} {R : FVec Ideal S32x128 .f32}

/-- Equal blocks have equal scales. -/
theorem scaleA_congr (r : Fin 256) (b b' : Fin 448) (h : b.val = b'.val) : scaleA x G r b = scaleA x G r b' := by rw [Fin.ext h]

/-- The code of an element of a chunk is the code of the element of the segment. -/
theorem code_of {i : Fin 4} (hR : RcpAt k x G u R) (hw : ChunkAt k x ⟨4 * u.val + i.val, by omega⟩ w) (r : Fin 32) (l : Fin 128) (e : Fin 256) (he : e.val / 2 = l.val)
    (E : Fin 7168) (hE : E.val = 256 * (4 * u.val + i.val) + e.val) :
    codeOf (clipOf (w (ix3 (0 : Fin 1) r e)) (R (ix2 r (bl i l)))) = codeA x G (row k r) E := by
  rw [hR, hw]
  unfold codeA
  rw [scaleA_congr x G (row k r) ⟨16 * (4 * u.val + i.val) + l.val / 8, by omega⟩ ⟨E.val / 16, by omega⟩ (by show 16 * (4 * u.val + i.val) + l.val / 8 = E.val / 16; omega)]
  exact congrArg (fun z => codeOf (clipOf (x (ix3 0 (row k r) z)) _)) (Fin.ext hE.symm)

/-- The codes of the even elements. -/
theorem code_even {i : Fin 4} (hR : RcpAt k x G u R) (hw : ChunkAt k x ⟨4 * u.val + i.val, by omega⟩ w) (r : Fin 32) (l : Fin 128)
    (E : Fin 7168) (hE : E.val = 256 * (4 * u.val + i.val) + 2 * l.val) :
    code (scaled w R (BitVec.ofNat 32 i.val)) (ix2 (⟨r.val, by omega⟩ : Fin 64) l) = codeA x G (row k r) E := by
  rw [code_apply, scaled_even]
  exact code_of k x G hR hw r l _ (by show 2 * l.val / 2 = l.val; omega) E hE

/-- The codes of the odd elements. -/
theorem code_odd {i : Fin 4} (hR : RcpAt k x G u R) (hw : ChunkAt k x ⟨4 * u.val + i.val, by omega⟩ w) (r : Fin 32) (l : Fin 128)
    (E : Fin 7168) (hE : E.val = 256 * (4 * u.val + i.val) + (2 * l.val + 1)) :
    code (scaled w R (BitVec.ofNat 32 i.val)) (ix2 (⟨32 + r.val, by omega⟩ : Fin 64) l) = codeA x G (row k r) E := by
  rw [code_apply, scaled_odd]
  exact code_of k x G hR hw r l _ (by show (2 * l.val + 1) / 2 = l.val; omega) E hE

/-- The scale spread over a block's lanes. -/
theorem stepOf_apply {i : Fin 4} (hS : ScalesAt k x G u S) (r : Fin 32) (l : Fin 128) :
    stepOf S (BitVec.ofNat 32 i.val) (ix2 r l) = scaleA x G (row k r) ⟨16 * (4 * u.val + i.val) + l.val / 8, by omega⟩ := by
  rw [← hS]
  exact permS_of _ _ r l (bl i l) (blk_apply i r l)

/-- The scales in natural order: 16 blocks of each of the four chunks, twice. -/
theorem nat_apply (hS : ScalesAt k x G u S) (r : Fin 32) (l : Fin 128) : nat S (ix2 r l) = scaleA x G (row k r) ⟨64 * u.val + l.val % 64, by omega⟩ := by
  have hi : ∀ l : Fin 128, IntOp.ori (IntOp.shli .vector (IntOp.andi (BitVec.ofNat 32 l.val) 15#32) 3#32) (IntOp.andi (IntOp.shrsi .vector (BitVec.ofNat 32 l.val) 4#32) 3#32)
      = BitVec.ofNat 32 (bl ⟨l.val / 16 % 4, by omega⟩ ⟨8 * (l.val % 16), by omega⟩).val := by decide +kernel
  have e := permS_of S (ori (shli (andi lane (all 15#32)) (all 3#32)) (andi (shrsi lane (all 4#32)) (all 3#32))) r l _ (Eq.trans (by unfold lane; pointwise) (hi l))
  refine e.trans ((hS _ r _).trans ?_)
  exact scaleA_congr _ _ _ _ _ (by show 16 * (4 * u.val + l.val / 16 % 4) + 8 * (l.val % 16) / 8 = 64 * u.val + l.val % 64; omega)

end use

/-- Where an element of a rank-three rectangle lies in the array. -/
theorem emb3 {A B C b0 b1 b2 : ℕ} {o : Fin 3 → ℕ} (inb) {o0 o1 o2 : ℕ} (ho : o = ![o0, o1, o2]) (z0 : Fin b0) (z1 : Fin b1) (z2 : Fin b2) (y0 : Fin A) (y1 : Fin B) (y2 : Fin C)
    (e0 : y0.val = o0 + z0.val) (e1 : y1.val = o1 + z1.val) (e2 : y2.val = o2 + z2.val) :
    (Rect.unit (s := ⟨3, ![A, B, C]⟩) o ![b0, b1, b2] inb).emb (ix3 z0 z1 z2) = ix3 y0 y1 y2 := by
  subst ho
  funext a
  match a with
  | ⟨0, _⟩ => exact Fin.ext (by show o0 + 1 * z0.val = y0.val; omega)
  | ⟨1, _⟩ => exact Fin.ext (by show o1 + 1 * z1.val = y1.val; omega)
  | ⟨2, _⟩ => exact Fin.ext (by show o2 + 1 * z2.val = y2.val; omega)

/-- A stored block of bytes is a block of `codesArr`. -/
theorem codes_piece {u : Fin 7} (i : Fin 4) {w : Vec Ideal S1x32x256 .bf16} (hw : ChunkAt k x ⟨4 * u.val + i.val, by omega⟩ w) {R : FVec Ideal S32x128 .f32} (hR : RcpAt k x G u R)
    {od : Fin 3 → ℕ} {inbd : ∀ a, od a + S1x32x128.size a ≤ S1x256x3584.size a} (hd : od = ![0, 32 * k.val, 128 * (4 * u.val + i.val)])
    {p : IVec S1x32x128 8} (hp : p = codesP w R (BitVec.ofNat 32 i.val)) (z : S1x32x128.Idx) :
    p z = codesArr x G ((Rect.unit (s := S1x256x3584) od S1x32x128.size inbd).emb z) := by
  subst hp
  obtain ⟨q, r, l, rfl⟩ : ∃ (q : Fin 1) (r : Fin 32) (l : Fin 128), z = ix3 q r l := ⟨z 0, z 1, z 2, eq_ix3 z⟩
  obtain rfl : q = 0 := Fin.ext (by omega)
  have e : codesP w R (BitVec.ofNat 32 i.val) (ix3 (0 : Fin 1) r l) = bytes (code (scaled w R (BitVec.ofNat 32 i.val))) (ix2 r l) := by
    unfold codesP
    pointwise
  rw [e, emb3 inbd hd 0 r l 0 (row k r) ⟨128 * (4 * u.val + i.val) + l.val, by omega⟩ rfl rfl rfl, bytes_apply _ (fun x => by rw [code_apply]; exact codeOf_lt _)]
  refine congrArg₂ byteOf (code_even k x G hR hw r l _ ?_) (code_odd k x G hR hw r l _ ?_)
  · show 2 * (128 * (4 * u.val + i.val) + l.val) = 256 * (4 * u.val + i.val) + 2 * l.val
    omega
  · show 2 * (128 * (4 * u.val + i.val) + l.val) + 1 = 256 * (4 * u.val + i.val) + (2 * l.val + 1)
    omega

/-- A stored block of decoded even elements is a block of `xdqArr`. -/
theorem even_piece {u : Fin 7} (i : Fin 4) {w : Vec Ideal S1x32x256 .bf16} (hw : ChunkAt k x ⟨4 * u.val + i.val, by omega⟩ w) {S : FVec Ideal S32x128 .fp8e4m3} (hS : ScalesAt k x G u S)
    {R : FVec Ideal S32x128 .f32} (hR : RcpAt k x G u R)
    {od : Fin 3 → ℕ} {inbd : ∀ a, od a + S1x32x128.size a ≤ S28x256x256.size a} (hd : od = ![4 * u.val + i.val, 32 * k.val, 0])
    {p : FVec Ideal S1x32x128 .bf16} (hp : p = evenP w S R (BitVec.ofNat 32 i.val)) (z : S1x32x128.Idx) :
    p z = xdqArr x G ((Rect.unit (s := S28x256x256) od S1x32x128.size inbd).emb z) := by
  subst hp
  obtain ⟨q, r, l, rfl⟩ : ∃ (q : Fin 1) (r : Fin 32) (l : Fin 128), z = ix3 q r l := ⟨z 0, z 1, z 2, eq_ix3 z⟩
  obtain rfl : q = 0 := Fin.ext (by omega)
  have e : evenP w S R (BitVec.ofNat 32 i.val) (ix3 (0 : Fin 1) r l)
      = value (code (scaled w R (BitVec.ofNat 32 i.val))) (ix2 (⟨r.val, by omega⟩ : Fin 64) l) * stepOf S (BitVec.ofNat 32 i.val) (ix2 r l) := by
    unfold evenP
    pointwise
  rw [e, emb3 inbd hd 0 r l (⟨4 * u.val + i.val, by omega⟩ : Fin 28) (row k r) ⟨l.val, by omega⟩ rfl rfl (by simp), value_apply, stepOf_apply k x G hS]
  refine congrArg₂ (fun (a : BitVec 32) (b : EReal) => e2m1 a * b) (code_even k x G hR hw r l _ ?_) (scaleA_congr _ _ _ _ _ ?_)
  · show 2 * (128 * (4 * u.val + i.val) + l.val % 128) + l.val / 128 = 256 * (4 * u.val + i.val) + 2 * l.val
    omega
  · show 16 * (4 * u.val + i.val) + l.val / 8 = 16 * (4 * u.val + i.val) + l.val % 128 / 8
    omega

/-- A stored block of decoded odd elements is a block of `xdqArr`. -/
theorem odd_piece {u : Fin 7} (i : Fin 4) {w : Vec Ideal S1x32x256 .bf16} (hw : ChunkAt k x ⟨4 * u.val + i.val, by omega⟩ w) {S : FVec Ideal S32x128 .fp8e4m3} (hS : ScalesAt k x G u S)
    {R : FVec Ideal S32x128 .f32} (hR : RcpAt k x G u R)
    {od : Fin 3 → ℕ} {inbd : ∀ a, od a + S1x32x128.size a ≤ S28x256x256.size a} (hd : od = ![4 * u.val + i.val, 32 * k.val, 128])
    {p : FVec Ideal S1x32x128 .bf16} (hp : p = oddP w S R (BitVec.ofNat 32 i.val)) (z : S1x32x128.Idx) :
    p z = xdqArr x G ((Rect.unit (s := S28x256x256) od S1x32x128.size inbd).emb z) := by
  subst hp
  obtain ⟨q, r, l, rfl⟩ : ∃ (q : Fin 1) (r : Fin 32) (l : Fin 128), z = ix3 q r l := ⟨z 0, z 1, z 2, eq_ix3 z⟩
  obtain rfl : q = 0 := Fin.ext (by omega)
  have e : oddP w S R (BitVec.ofNat 32 i.val) (ix3 (0 : Fin 1) r l)
      = value (code (scaled w R (BitVec.ofNat 32 i.val))) (ix2 (⟨32 + r.val, by omega⟩ : Fin 64) l) * stepOf S (BitVec.ofNat 32 i.val) (ix2 r l) := by
    unfold oddP
    pointwise
  rw [e, emb3 inbd hd 0 r l (⟨4 * u.val + i.val, by omega⟩ : Fin 28) (row k r) ⟨128 + l.val, by omega⟩ rfl rfl rfl, value_apply, stepOf_apply k x G hS]
  refine congrArg₂ (fun (a : BitVec 32) (b : EReal) => e2m1 a * b) (code_odd k x G hR hw r l _ ?_) (scaleA_congr _ _ _ _ _ ?_)
  · show 2 * (128 * (4 * u.val + i.val) + (128 + l.val) % 128) + (128 + l.val) / 128 = 256 * (4 * u.val + i.val) + (2 * l.val + 1)
    omega
  · show 16 * (4 * u.val + i.val) + l.val / 8 = 16 * (4 * u.val + i.val) + (128 + l.val) % 128 / 8
    omega

/-- A stored block of the scales of two units is a block of `scalesArr`. -/
theorem scales_piece {u u' : Fin 7} (hu : u'.val = u.val + 1) {S S' : FVec Ideal S32x128 .fp8e4m3} (hS : ScalesAt k x G u S) (hS' : ScalesAt k x G u' S') {od : Fin 3 → ℕ}
    {inbd : ∀ a, od a + S1x32x128.size a ≤ S1x256x448.size a} (hd : od = ![0, 32 * k.val, 64 * u.val])
    {p : FVec Ideal S1x32x128 .fp8e4m3} (hp : p = scalesP S S') (z : S1x32x128.Idx) :
    p z = scalesArr x G ((Rect.unit (s := S1x256x448) od S1x32x128.size inbd).emb z) := by
  subst hp
  obtain ⟨q, r, l, rfl⟩ : ∃ (q : Fin 1) (r : Fin 32) (l : Fin 128), z = ix3 q r l := ⟨z 0, z 1, z 2, eq_ix3 z⟩
  obtain rfl : q = 0 := Fin.ext (by omega)
  have e : scalesP S S' (ix3 (0 : Fin 1) r l) = Scalar.select (low (ix2 r l)) (nat S (ix2 r l)) (nat S' (ix2 r l)) := by
    unfold scalesP
    pointwise
  rw [e, low_apply, nat_apply k x G hS, nat_apply k x G hS', emb3 inbd hd 0 r l 0 (row k r) ⟨64 * u.val + l.val, by omega⟩ rfl rfl rfl]
  by_cases h : l.val < 64
  · rw [if_pos h]
    exact scaleA_congr _ _ _ _ _ (by show 64 * u.val + l.val % 64 = 64 * u.val + l.val; omega)
  · rw [if_neg h]
    exact scaleA_congr _ _ _ _ _ (by show 64 * u'.val + l.val % 64 = 64 * u.val + l.val; omega)

/-- The stored block of the scales of the last unit is a block of `scalesArr`. -/
theorem scales_last_piece {u : Fin 7} {S : FVec Ideal S32x128 .fp8e4m3} (hS : ScalesAt k x G u S) {od : Fin 3 → ℕ}
    {inbd : ∀ a, od a + S1x32x64.size a ≤ S1x256x448.size a} (hd : od = ![0, 32 * k.val, 64 * u.val])
    {p : FVec Ideal S1x32x64 .fp8e4m3} (hp : p = scalesLastP S) (z : S1x32x64.Idx) :
    p z = scalesArr x G ((Rect.unit (s := S1x256x448) od S1x32x64.size inbd).emb z) := by
  subst hp
  obtain ⟨q, r, l, rfl⟩ : ∃ (q : Fin 1) (r : Fin 32) (l : Fin 64), z = ix3 q r l := ⟨z 0, z 1, z 2, eq_ix3 z⟩
  obtain rfl : q = 0 := Fin.ext (by omega)
  have e : scalesLastP S (ix3 (0 : Fin 1) r l) = nat S (ix2 r (⟨l.val, by omega⟩ : Fin 128)) := by
    unfold scalesLastP
    pointwise
  rw [e, nat_apply k x G hS, emb3 inbd hd 0 r l 0 (row k r) ⟨64 * u.val + l.val, by omega⟩ rfl rfl rfl]
  exact scaleA_congr _ _ _ _ _ (by show 64 * u.val + l.val % 64 = 64 * u.val + l.val; omega)

end Pieces

end Cert.KernelIdeal.Q
-- ==== Proof.QU.lean ====
module

public import proofs.«01_k».proof.Proof.QP

@[expose] public section

set_option maxRecDepth 16384

noncomputable section

namespace Cert.KernelIdeal.Q

open Idealize.ShloMosaic Idealize.SL.Sem Cert.KernelIdeal Cert.KernelIdeal.Gen Codec

variable (k : Fin k0_t2_loop.trips) (arg1 : Memref sig .tc .vmem S1x256x7168 .bf16) (harg1 : arg1.IsWhole) (x : Vec Ideal S1x256x7168 .bf16) (G : EReal)
  (v2 : FVec Ideal S32x7168 .bf16) (hg : ∀ z, k0_pay3 v2 z = G)

/-- Chunk by chunk, the loads of a trip. -/
theorem ch0 : ChunkAt k x 0 (ld arg1 (harg1.unread x) (k0_off2 k) (k0_off2_inb k)) := chunk_ld k harg1 x 0 (k0_off2_eq k)
/-- Chunk 1, as a trip loads it. -/
theorem ch1 : ChunkAt k x 1 (ld arg1 (harg1.unread x) (k0_off3 k) (k0_off3_inb k)) := chunk_ld k harg1 x 1 (k0_off3_eq k)
/-- Chunk 2, as a trip loads it. -/
theorem ch2 : ChunkAt k x 2 (ld arg1 (harg1.unread x) (k0_off4 k) (k0_off4_inb k)) := chunk_ld k harg1 x 2 (k0_off4_eq k)
/-- Chunk 3, as a trip loads it. -/
theorem ch3 : ChunkAt k x 3 (ld arg1 (harg1.unread x) (k0_off5 k) (k0_off5_inb k)) := chunk_ld k harg1 x 3 (k0_off5_eq k)
/-- Chunk 4, as a trip loads it. -/
theorem ch4 : ChunkAt k x 4 (ld arg1 (harg1.unread x) (k0_off18 k) (k0_off18_inb k)) := chunk_ld k harg1 x 4 (k0_off18_eq k)
/-- Chunk 5, as a trip loads it. -/
theorem ch5 : ChunkAt k x 5 (ld arg1 (harg1.unread x) (k0_off19 k) (k0_off19_inb k)) := chunk_ld k harg1 x 5 (k0_off19_eq k)
/-- Chunk 6, as a trip loads it. -/
theorem ch6 : ChunkAt k x 6 (ld arg1 (harg1.unread x) (k0_off20 k) (k0_off20_inb k)) := chunk_ld k harg1 x 6 (k0_off20_eq k)
/-- Chunk 7, as a trip loads it. -/
theorem ch7 : ChunkAt k x 7 (ld arg1 (harg1.unread x) (k0_off21 k) (k0_off21_inb k)) := chunk_ld k harg1 x 7 (k0_off21_eq k)
/-- Chunk 8, as a trip loads it. -/
theorem ch8 : ChunkAt k x 8 (ld arg1 (harg1.unread x) (k0_off35 k) (k0_off35_inb k)) := chunk_ld k harg1 x 8 (k0_off35_eq k)
/-- Chunk 9, as a trip loads it. -/
theorem ch9 : ChunkAt k x 9 (ld arg1 (harg1.unread x) (k0_off36 k) (k0_off36_inb k)) := chunk_ld k harg1 x 9 (k0_off36_eq k)
/-- Chunk 10, as a trip loads it. -/
theorem ch10 : ChunkAt k x 10 (ld arg1 (harg1.unread x) (k0_off37 k) (k0_off37_inb k)) := chunk_ld k harg1 x 10 (k0_off37_eq k)
/-- Chunk 11, as a trip loads it. -/
theorem ch11 : ChunkAt k x 11 (ld arg1 (harg1.unread x) (k0_off38 k) (k0_off38_inb k)) := chunk_ld k harg1 x 11 (k0_off38_eq k)
/-- Chunk 12, as a trip loads it. -/
theorem ch12 : ChunkAt k x 12 (ld arg1 (harg1.unread x) (k0_off51 k) (k0_off51_inb k)) := chunk_ld k harg1 x 12 (k0_off51_eq k)
/-- Chunk 13, as a trip loads it. -/
theorem ch13 : ChunkAt k x 13 (ld arg1 (harg1.unread x) (k0_off52 k) (k0_off52_inb k)) := chunk_ld k harg1 x 13 (k0_off52_eq k)
/-- Chunk 14, as a trip loads it. -/
theorem ch14 : ChunkAt k x 14 (ld arg1 (harg1.unread x) (k0_off53 k) (k0_off53_inb k)) := chunk_ld k harg1 x 14 (k0_off53_eq k)
/-- Chunk 15, as a trip loads it. -/
theorem ch15 : ChunkAt k x 15 (ld arg1 (harg1.unread x) (k0_off54 k) (k0_off54_inb k)) := chunk_ld k harg1 x 15 (k0_off54_eq k)
/-- Chunk 16, as a trip loads it. -/
theorem ch16 : ChunkAt k x 16 (ld arg1 (harg1.unread x) (k0_off68 k) (k0_off68_inb k)) := chunk_ld k harg1 x 16 (k0_off68_eq k)
/-- Chunk 17, as a trip loads it. -/
theorem ch17 : ChunkAt k x 17 (ld arg1 (harg1.unread x) (k0_off69 k) (k0_off69_inb k)) := chunk_ld k harg1 x 17 (k0_off69_eq k)
/-- Chunk 18, as a trip loads it. -/
theorem ch18 : ChunkAt k x 18 (ld arg1 (harg1.unread x) (k0_off70 k) (k0_off70_inb k)) := chunk_ld k harg1 x 18 (k0_off70_eq k)
/-- Chunk 19, as a trip loads it. -/
theorem ch19 : ChunkAt k x 19 (ld arg1 (harg1.unread x) (k0_off71 k) (k0_off71_inb k)) := chunk_ld k harg1 x 19 (k0_off71_eq k)
/-- Chunk 20, as a trip loads it. -/
theorem ch20 : ChunkAt k x 20 (ld arg1 (harg1.unread x) (k0_off84 k) (k0_off84_inb k)) := chunk_ld k harg1 x 20 (k0_off84_eq k)
/-- Chunk 21, as a trip loads it. -/
theorem ch21 : ChunkAt k x 21 (ld arg1 (harg1.unread x) (k0_off85 k) (k0_off85_inb k)) := chunk_ld k harg1 x 21 (k0_off85_eq k)
/-- Chunk 22, as a trip loads it. -/
theorem ch22 : ChunkAt k x 22 (ld arg1 (harg1.unread x) (k0_off86 k) (k0_off86_inb k)) := chunk_ld k harg1 x 22 (k0_off86_eq k)
/-- Chunk 23, as a trip loads it. -/
theorem ch23 : ChunkAt k x 23 (ld arg1 (harg1.unread x) (k0_off87 k) (k0_off87_inb k)) := chunk_ld k harg1 x 23 (k0_off87_eq k)
/-- Chunk 24, as a trip loads it. -/
theorem ch24 : ChunkAt k x 24 (ld arg1 (harg1.unread x) (k0_off101 k) (k0_off101_inb k)) := chunk_ld k harg1 x 24 (k0_off101_eq k)
/-- Chunk 25, as a trip loads it. -/
theorem ch25 : ChunkAt k x 25 (ld arg1 (harg1.unread x) (k0_off102 k) (k0_off102_inb k)) := chunk_ld k harg1 x 25 (k0_off102_eq k)
/-- Chunk 26, as a trip loads it. -/
theorem ch26 : ChunkAt k x 26 (ld arg1 (harg1.unread x) (k0_off103 k) (k0_off103_inb k)) := chunk_ld k harg1 x 26 (k0_off103_eq k)
/-- Chunk 27, as a trip loads it. -/
theorem ch27 : ChunkAt k x 27 (ld arg1 (harg1.unread x) (k0_off104 k) (k0_off104_inb k)) := chunk_ld k harg1 x 27 (k0_off104_eq k)

include hg

/-- The scales of unit 0. -/
theorem sc0 : ScalesAt k x G 0 (trip_k0_t2.sl.r_25 arg1 v2 (harg1.unread x) k) := scalesAt k x G (u := 0) hg (ch0 k arg1 harg1 x) (ch1 k arg1 harg1 x) (ch2 k arg1 harg1 x) (ch3 k arg1 harg1 x) rfl

/-- The reciprocals of unit 0. -/
theorem rc0 : RcpAt k x G 0 (trip_k0_t2.sl.r_26 arg1 v2 (harg1.unread x) k) := rcpAt k x G hg (sc0 k arg1 harg1 x G v2 hg) rfl

/-- The scales of unit 1. -/
theorem sc1 : ScalesAt k x G 1 (trip_k0_t2.sl.r_77 arg1 v2 (harg1.unread x) k) := scalesAt k x G (u := 1) hg (ch4 k arg1 harg1 x) (ch5 k arg1 harg1 x) (ch6 k arg1 harg1 x) (ch7 k arg1 harg1 x) rfl

/-- The reciprocals of unit 1. -/
theorem rc1 : RcpAt k x G 1 (trip_k0_t2.sl.r_79 arg1 v2 (harg1.unread x) k) := rcpAt k x G hg (sc1 k arg1 harg1 x G v2 hg) rfl

/-- The scales of unit 2. -/
theorem sc2 : ScalesAt k x G 2 (trip_k0_t2.sl.r_134 arg1 v2 (harg1.unread x) k) := scalesAt k x G (u := 2) hg (ch8 k arg1 harg1 x) (ch9 k arg1 harg1 x) (ch10 k arg1 harg1 x) (ch11 k arg1 harg1 x) rfl

/-- The reciprocals of unit 2. -/
theorem rc2 : RcpAt k x G 2 (trip_k0_t2.sl.r_135 arg1 v2 (harg1.unread x) k) := rcpAt k x G hg (sc2 k arg1 harg1 x G v2 hg) rfl

/-- The scales of unit 3. -/
theorem sc3 : ScalesAt k x G 3 (trip_k0_t2.sl.r_186 arg1 v2 (harg1.unread x) k) := scalesAt k x G (u := 3) hg (ch12 k arg1 harg1 x) (ch13 k arg1 harg1 x) (ch14 k arg1 harg1 x) (ch15 k arg1 harg1 x) rfl

/-- The reciprocals of unit 3. -/
theorem rc3 : RcpAt k x G 3 (trip_k0_t2.sl.r_188 arg1 v2 (harg1.unread x) k) := rcpAt k x G hg (sc3 k arg1 harg1 x G v2 hg) rfl

/-- The scales of unit 4. -/
theorem sc4 : ScalesAt k x G 4 (trip_k0_t2.sl.r_240 arg1 v2 (harg1.unread x) k) := scalesAt k x G (u := 4) hg (ch16 k arg1 harg1 x) (ch17 k arg1 harg1 x) (ch18 k arg1 harg1 x) (ch19 k arg1 harg1 x) rfl

/-- The reciprocals of unit 4. -/
theorem rc4 : RcpAt k x G 4 (trip_k0_t2.sl.r_241 arg1 v2 (harg1.unread x) k) := rcpAt k x G hg (sc4 k arg1 harg1 x G v2 hg) rfl

/-- The scales of unit 5. -/
theorem sc5 : ScalesAt k x G 5 (trip_k0_t2.sl.r_295 arg1 v2 (harg1.unread x) k) := scalesAt k x G (u := 5) hg (ch20 k arg1 harg1 x) (ch21 k arg1 harg1 x) (ch22 k arg1 harg1 x) (ch23 k arg1 harg1 x) rfl

/-- The reciprocals of unit 5. -/
theorem rc5 : RcpAt k x G 5 (trip_k0_t2.sl.r_296 arg1 v2 (harg1.unread x) k) := rcpAt k x G hg (sc5 k arg1 harg1 x G v2 hg) rfl

/-- The scales of unit 6. -/
theorem sc6 : ScalesAt k x G 6 (trip_k0_t2.sl.r_351 arg1 v2 (harg1.unread x) k) := scalesAt k x G (u := 6) hg (ch24 k arg1 harg1 x) (ch25 k arg1 harg1 x) (ch26 k arg1 harg1 x) (ch27 k arg1 harg1 x) rfl

/-- The reciprocals of unit 6. -/
theorem rc6 : RcpAt k x G 6 (trip_k0_t2.sl.r_352 arg1 v2 (harg1.unread x) k) := rcpAt k x G hg (sc6 k arg1 harg1 x G v2 hg) rfl

end Cert.KernelIdeal.Q
-- ==== Proof.QT.lean ====
module

public import proofs.«01_k».proof.Proof.QU
public import Idealize.ShloMosaic.Lib.Pipeline.ReadBack

@[expose] public section

set_option maxRecDepth 16384

noncomputable section

namespace Cert.KernelIdeal.Q

open Idealize.ShloMosaic Idealize.SL.Sem Cert.KernelIdeal Cert.KernelIdeal.Gen Codec

variable (𝒱 : Variants) (c : Dev nD) (bd : Option 𝒱.V) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x256x448 .fp8e4m3) (harg3 : arg3.IsWhole) (arg4 : Memref sig .tc .vmem S1x8x128 .f32) (harg4 : arg4.IsWhole) (arg5 : Memref sig .tc .vmem S28x256x256 .bf16) (harg5 : arg5.IsWhole)
  (v2 : FVec Ideal S32x7168 .bf16) (x : Vec Ideal S1x256x7168 .bf16) (G : EReal) (hg : ∀ z, k0_pay3 v2 z = G)

include hg

set_option maxHeartbeats 4000000 in
/-- Every store of bytes of one trip is a block of `codesArr`. -/
theorem trip_codes (k : Fin k0_t2_loop.trips) :
    View.PiecesOf (codesArr x G) (tripL_k0_t2 (F := Ideal) 𝒱 c bd i arg1 harg1 arg2 harg2 arg3 harg3 arg4 harg4 arg5 harg5 v2 (harg1.unread x) k).1 := by
  unfold tripL_k0_t2 trip_k0_t2
  dsimp only
  exact ⟨codes_piece k x G (u := 6) 3 (ch27 k arg1 harg1 x) (rc6 k arg1 harg1 x G v2 hg) (inbd := k0_off114_inb k) (k0_off114_eq k) rfl,
    codes_piece k x G (u := 6) 2 (ch26 k arg1 harg1 x) (rc6 k arg1 harg1 x G v2 hg) (inbd := k0_off111_inb k) (k0_off111_eq k) rfl,
    codes_piece k x G (u := 6) 1 (ch25 k arg1 harg1 x) (rc6 k arg1 harg1 x G v2 hg) (inbd := k0_off108_inb k) (k0_off108_eq k) rfl,
    codes_piece k x G (u := 6) 0 (ch24 k arg1 harg1 x) (rc6 k arg1 harg1 x G v2 hg) (inbd := k0_off105_inb k) (k0_off105_eq k) rfl,
    codes_piece k x G (u := 5) 3 (ch23 k arg1 harg1 x) (rc5 k arg1 harg1 x G v2 hg) (inbd := k0_off97_inb k) (k0_off97_eq k) rfl,
    codes_piece k x G (u := 5) 2 (ch22 k arg1 harg1 x) (rc5 k arg1 harg1 x G v2 hg) (inbd := k0_off94_inb k) (k0_off94_eq k) rfl,
    codes_piece k x G (u := 5) 1 (ch21 k arg1 harg1 x) (rc5 k arg1 harg1 x G v2 hg) (inbd := k0_off91_inb k) (k0_off91_eq k) rfl,
    codes_piece k x G (u := 5) 0 (ch20 k arg1 harg1 x) (rc5 k arg1 harg1 x G v2 hg) (inbd := k0_off88_inb k) (k0_off88_eq k) rfl,
    codes_piece k x G (u := 4) 3 (ch19 k arg1 harg1 x) (rc4 k arg1 harg1 x G v2 hg) (inbd := k0_off81_inb k) (k0_off81_eq k) rfl,
    codes_piece k x G (u := 4) 2 (ch18 k arg1 harg1 x) (rc4 k arg1 harg1 x G v2 hg) (inbd := k0_off78_inb k) (k0_off78_eq k) rfl,
    codes_piece k x G (u := 4) 1 (ch17 k arg1 harg1 x) (rc4 k arg1 harg1 x G v2 hg) (inbd := k0_off75_inb k) (k0_off75_eq k) rfl,
    codes_piece k x G (u := 4) 0 (ch16 k arg1 harg1 x) (rc4 k arg1 harg1 x G v2 hg) (inbd := k0_off72_inb k) (k0_off72_eq k) rfl,
    codes_piece k x G (u := 3) 3 (ch15 k arg1 harg1 x) (rc3 k arg1 harg1 x G v2 hg) (inbd := k0_off64_inb k) (k0_off64_eq k) rfl,
    codes_piece k x G (u := 3) 2 (ch14 k arg1 harg1 x) (rc3 k arg1 harg1 x G v2 hg) (inbd := k0_off61_inb k) (k0_off61_eq k) rfl,
    codes_piece k x G (u := 3) 1 (ch13 k arg1 harg1 x) (rc3 k arg1 harg1 x G v2 hg) (inbd := k0_off58_inb k) (k0_off58_eq k) rfl,
    codes_piece k x G (u := 3) 0 (ch12 k arg1 harg1 x) (rc3 k arg1 harg1 x G v2 hg) (inbd := k0_off55_inb k) (k0_off55_eq k) rfl,
    codes_piece k x G (u := 2) 3 (ch11 k arg1 harg1 x) (rc2 k arg1 harg1 x G v2 hg) (inbd := k0_off48_inb k) (k0_off48_eq k) rfl,
    codes_piece k x G (u := 2) 2 (ch10 k arg1 harg1 x) (rc2 k arg1 harg1 x G v2 hg) (inbd := k0_off45_inb k) (k0_off45_eq k) rfl,
    codes_piece k x G (u := 2) 1 (ch9 k arg1 harg1 x) (rc2 k arg1 harg1 x G v2 hg) (inbd := k0_off42_inb k) (k0_off42_eq k) rfl,
    codes_piece k x G (u := 2) 0 (ch8 k arg1 harg1 x) (rc2 k arg1 harg1 x G v2 hg) (inbd := k0_off39_inb k) (k0_off39_eq k) rfl,
    codes_piece k x G (u := 1) 3 (ch7 k arg1 harg1 x) (rc1 k arg1 harg1 x G v2 hg) (inbd := k0_off31_inb k) (k0_off31_eq k) rfl,
    codes_piece k x G (u := 1) 2 (ch6 k arg1 harg1 x) (rc1 k arg1 harg1 x G v2 hg) (inbd := k0_off28_inb k) (k0_off28_eq k) rfl,
    codes_piece k x G (u := 1) 1 (ch5 k arg1 harg1 x) (rc1 k arg1 harg1 x G v2 hg) (inbd := k0_off25_inb k) (k0_off25_eq k) rfl,
    codes_piece k x G (u := 1) 0 (ch4 k arg1 harg1 x) (rc1 k arg1 harg1 x G v2 hg) (inbd := k0_off22_inb k) (k0_off22_eq k) rfl,
    codes_piece k x G (u := 0) 3 (ch3 k arg1 harg1 x) (rc0 k arg1 harg1 x G v2 hg) (inbd := k0_off15_inb k) (k0_off15_eq k) rfl,
    codes_piece k x G (u := 0) 2 (ch2 k arg1 harg1 x) (rc0 k arg1 harg1 x G v2 hg) (inbd := k0_off12_inb k) (k0_off12_eq k) rfl,
    codes_piece k x G (u := 0) 1 (ch1 k arg1 harg1 x) (rc0 k arg1 harg1 x G v2 hg) (inbd := k0_off9_inb k) (k0_off9_eq k) rfl,
    codes_piece k x G (u := 0) 0 (ch0 k arg1 harg1 x) (rc0 k arg1 harg1 x G v2 hg) (inbd := k0_off6_inb k) (k0_off6_eq k) rfl, trivial⟩

set_option maxHeartbeats 4000000 in
/-- Every store of scales of one trip is a block of `scalesArr`. -/
theorem trip_scales (k : Fin k0_t2_loop.trips) :
    View.PiecesOf (scalesArr x G) (tripL_k0_t2 (F := Ideal) 𝒱 c bd i arg1 harg1 arg2 harg2 arg3 harg3 arg4 harg4 arg5 harg5 v2 (harg1.unread x) k).2.1 := by
  unfold tripL_k0_t2 trip_k0_t2
  dsimp only
  exact ⟨scales_last_piece k x G (sc6 k arg1 harg1 x G v2 hg) (inbd := k0_off117_inb k) (k0_off117_eq k) rfl,
    scales_piece k x G rfl (sc4 k arg1 harg1 x G v2 hg) (sc5 k arg1 harg1 x G v2 hg) (inbd := k0_off100_inb k) (k0_off100_eq k) rfl,
    scales_piece k x G rfl (sc2 k arg1 harg1 x G v2 hg) (sc3 k arg1 harg1 x G v2 hg) (inbd := k0_off67_inb k) (k0_off67_eq k) rfl,
    scales_piece k x G rfl (sc0 k arg1 harg1 x G v2 hg) (sc1 k arg1 harg1 x G v2 hg) (inbd := k0_off34_inb k) (k0_off34_eq k) rfl, trivial⟩

set_option maxHeartbeats 4000000 in
/-- Every store of decoded elements of one trip is a block of `xdqArr`. -/
theorem trip_xdq (k : Fin k0_t2_loop.trips) :
    View.PiecesOf (xdqArr x G) (tripL_k0_t2 (F := Ideal) 𝒱 c bd i arg1 harg1 arg2 harg2 arg3 harg3 arg4 harg4 arg5 harg5 v2 (harg1.unread x) k).2.2 := by
  unfold tripL_k0_t2 trip_k0_t2
  dsimp only
  exact ⟨odd_piece k x G (u := 6) 3 (ch27 k arg1 harg1 x) (sc6 k arg1 harg1 x G v2 hg) (rc6 k arg1 harg1 x G v2 hg) (inbd := k0_off116_inb k) (k0_off116_eq k) rfl,
    even_piece k x G (u := 6) 3 (ch27 k arg1 harg1 x) (sc6 k arg1 harg1 x G v2 hg) (rc6 k arg1 harg1 x G v2 hg) (inbd := k0_off115_inb k) (k0_off115_eq k) rfl,
    odd_piece k x G (u := 6) 2 (ch26 k arg1 harg1 x) (sc6 k arg1 harg1 x G v2 hg) (rc6 k arg1 harg1 x G v2 hg) (inbd := k0_off113_inb k) (k0_off113_eq k) rfl,
    even_piece k x G (u := 6) 2 (ch26 k arg1 harg1 x) (sc6 k arg1 harg1 x G v2 hg) (rc6 k arg1 harg1 x G v2 hg) (inbd := k0_off112_inb k) (k0_off112_eq k) rfl,
    odd_piece k x G (u := 6) 1 (ch25 k arg1 harg1 x) (sc6 k arg1 harg1 x G v2 hg) (rc6 k arg1 harg1 x G v2 hg) (inbd := k0_off110_inb k) (k0_off110_eq k) rfl,
    even_piece k x G (u := 6) 1 (ch25 k arg1 harg1 x) (sc6 k arg1 harg1 x G v2 hg) (rc6 k arg1 harg1 x G v2 hg) (inbd := k0_off109_inb k) (k0_off109_eq k) rfl,
    odd_piece k x G (u := 6) 0 (ch24 k arg1 harg1 x) (sc6 k arg1 harg1 x G v2 hg) (rc6 k arg1 harg1 x G v2 hg) (inbd := k0_off107_inb k) (k0_off107_eq k) rfl,
    even_piece k x G (u := 6) 0 (ch24 k arg1 harg1 x) (sc6 k arg1 harg1 x G v2 hg) (rc6 k arg1 harg1 x G v2 hg) (inbd := k0_off106_inb k) (k0_off106_eq k) rfl,
    odd_piece k x G (u := 5) 3 (ch23 k arg1 harg1 x) (sc5 k arg1 harg1 x G v2 hg) (rc5 k arg1 harg1 x G v2 hg) (inbd := k0_off99_inb k) (k0_off99_eq k) rfl,
    even_piece k x G (u := 5) 3 (ch23 k arg1 harg1 x) (sc5 k arg1 harg1 x G v2 hg) (rc5 k arg1 harg1 x G v2 hg) (inbd := k0_off98_inb k) (k0_off98_eq k) rfl,
    odd_piece k x G (u := 5) 2 (ch22 k arg1 harg1 x) (sc5 k arg1 harg1 x G v2 hg) (rc5 k arg1 harg1 x G v2 hg) (inbd := k0_off96_inb k) (k0_off96_eq k) rfl,
    even_piece k x G (u := 5) 2 (ch22 k arg1 harg1 x) (sc5 k arg1 harg1 x G v2 hg) (rc5 k arg1 harg1 x G v2 hg) (inbd := k0_off95_inb k) (k0_off95_eq k) rfl,
    odd_piece k x G (u := 5) 1 (ch21 k arg1 harg1 x) (sc5 k arg1 harg1 x G v2 hg) (rc5 k arg1 harg1 x G v2 hg) (inbd := k0_off93_inb k) (k0_off93_eq k) rfl,
    even_piece k x G (u := 5) 1 (ch21 k arg1 harg1 x) (sc5 k arg1 harg1 x G v2 hg) (rc5 k arg1 harg1 x G v2 hg) (inbd := k0_off92_inb k) (k0_off92_eq k) rfl,
    odd_piece k x G (u := 5) 0 (ch20 k arg1 harg1 x) (sc5 k arg1 harg1 x G v2 hg) (rc5 k arg1 harg1 x G v2 hg) (inbd := k0_off90_inb k) (k0_off90_eq k) rfl,
    even_piece k x G (u := 5) 0 (ch20 k arg1 harg1 x) (sc5 k arg1 harg1 x G v2 hg) (rc5 k arg1 harg1 x G v2 hg) (inbd := k0_off89_inb k) (k0_off89_eq k) rfl,
    odd_piece k x G (u := 4) 3 (ch19 k arg1 harg1 x) (sc4 k arg1 harg1 x G v2 hg) (rc4 k arg1 harg1 x G v2 hg) (inbd := k0_off83_inb k) (k0_off83_eq k) rfl,
    even_piece k x G (u := 4) 3 (ch19 k arg1 harg1 x) (sc4 k arg1 harg1 x G v2 hg) (rc4 k arg1 harg1 x G v2 hg) (inbd := k0_off82_inb k) (k0_off82_eq k) rfl,
    odd_piece k x G (u := 4) 2 (ch18 k arg1 harg1 x) (sc4 k arg1 harg1 x G v2 hg) (rc4 k arg1 harg1 x G v2 hg) (inbd := k0_off80_inb k) (k0_off80_eq k) rfl,
    even_piece k x G (u := 4) 2 (ch18 k arg1 harg1 x) (sc4 k arg1 harg1 x G v2 hg) (rc4 k arg1 harg1 x G v2 hg) (inbd := k0_off79_inb k) (k0_off79_eq k) rfl,
    odd_piece k x G (u := 4) 1 (ch17 k arg1 harg1 x) (sc4 k arg1 harg1 x G v2 hg) (rc4 k arg1 harg1 x G v2 hg) (inbd := k0_off77_inb k) (k0_off77_eq k) rfl,
    even_piece k x G (u := 4) 1 (ch17 k arg1 harg1 x) (sc4 k arg1 harg1 x G v2 hg) (rc4 k arg1 harg1 x G v2 hg) (inbd := k0_off76_inb k) (k0_off76_eq k) rfl,
    odd_piece k x G (u := 4) 0 (ch16 k arg1 harg1 x) (sc4 k arg1 harg1 x G v2 hg) (rc4 k arg1 harg1 x G v2 hg) (inbd := k0_off74_inb k) (k0_off74_eq k) rfl,
    even_piece k x G (u := 4) 0 (ch16 k arg1 harg1 x) (sc4 k arg1 harg1 x G v2 hg) (rc4 k arg1 harg1 x G v2 hg) (inbd := k0_off73_inb k) (k0_off73_eq k) rfl,
    odd_piece k x G (u := 3) 3 (ch15 k arg1 harg1 x) (sc3 k arg1 harg1 x G v2 hg) (rc3 k arg1 harg1 x G v2 hg) (inbd := k0_off66_inb k) (k0_off66_eq k) rfl,
    even_piece k x G (u := 3) 3 (ch15 k arg1 harg1 x) (sc3 k arg1 harg1 x G v2 hg) (rc3 k arg1 harg1 x G v2 hg) (inbd := k0_off65_inb k) (k0_off65_eq k) rfl,
    odd_piece k x G (u := 3) 2 (ch14 k arg1 harg1 x) (sc3 k arg1 harg1 x G v2 hg) (rc3 k arg1 harg1 x G v2 hg) (inbd := k0_off63_inb k) (k0_off63_eq k) rfl,
    even_piece k x G (u := 3) 2 (ch14 k arg1 harg1 x) (sc3 k arg1 harg1 x G v2 hg) (rc3 k arg1 harg1 x G v2 hg) (inbd := k0_off62_inb k) (k0_off62_eq k) rfl,
    odd_piece k x G (u := 3) 1 (ch13 k arg1 harg1 x) (sc3 k arg1 harg1 x G v2 hg) (rc3 k arg1 harg1 x G v2 hg) (inbd := k0_off60_inb k) (k0_off60_eq k) rfl,
    even_piece k x G (u := 3) 1 (ch13 k arg1 harg1 x) (sc3 k arg1 harg1 x G v2 hg) (rc3 k arg1 harg1 x G v2 hg) (inbd := k0_off59_inb k) (k0_off59_eq k) rfl,
    odd_piece k x G (u := 3) 0 (ch12 k arg1 harg1 x) (sc3 k arg1 harg1 x G v2 hg) (rc3 k arg1 harg1 x G v2 hg) (inbd := k0_off57_inb k) (k0_off57_eq k) rfl,
    even_piece k x G (u := 3) 0 (ch12 k arg1 harg1 x) (sc3 k arg1 harg1 x G v2 hg) (rc3 k arg1 harg1 x G v2 hg) (inbd := k0_off56_inb k) (k0_off56_eq k) rfl,
    odd_piece k x G (u := 2) 3 (ch11 k arg1 harg1 x) (sc2 k arg1 harg1 x G v2 hg) (rc2 k arg1 harg1 x G v2 hg) (inbd := k0_off50_inb k) (k0_off50_eq k) rfl,
    even_piece k x G (u := 2) 3 (ch11 k arg1 harg1 x) (sc2 k arg1 harg1 x G v2 hg) (rc2 k arg1 harg1 x G v2 hg) (inbd := k0_off49_inb k) (k0_off49_eq k) rfl,
    odd_piece k x G (u := 2) 2 (ch10 k arg1 harg1 x) (sc2 k arg1 harg1 x G v2 hg) (rc2 k arg1 harg1 x G v2 hg) (inbd := k0_off47_inb k) (k0_off47_eq k) rfl,
    even_piece k x G (u := 2) 2 (ch10 k arg1 harg1 x) (sc2 k arg1 harg1 x G v2 hg) (rc2 k arg1 harg1 x G v2 hg) (inbd := k0_off46_inb k) (k0_off46_eq k) rfl,
    odd_piece k x G (u := 2) 1 (ch9 k arg1 harg1 x) (sc2 k arg1 harg1 x G v2 hg) (rc2 k arg1 harg1 x G v2 hg) (inbd := k0_off44_inb k) (k0_off44_eq k) rfl,
    even_piece k x G (u := 2) 1 (ch9 k arg1 harg1 x) (sc2 k arg1 harg1 x G v2 hg) (rc2 k arg1 harg1 x G v2 hg) (inbd := k0_off43_inb k) (k0_off43_eq k) rfl,
    odd_piece k x G (u := 2) 0 (ch8 k arg1 harg1 x) (sc2 k arg1 harg1 x G v2 hg) (rc2 k arg1 harg1 x G v2 hg) (inbd := k0_off41_inb k) (k0_off41_eq k) rfl,
    even_piece k x G (u := 2) 0 (ch8 k arg1 harg1 x) (sc2 k arg1 harg1 x G v2 hg) (rc2 k arg1 harg1 x G v2 hg) (inbd := k0_off40_inb k) (k0_off40_eq k) rfl,
    odd_piece k x G (u := 1) 3 (ch7 k arg1 harg1 x) (sc1 k arg1 harg1 x G v2 hg) (rc1 k arg1 harg1 x G v2 hg) (inbd := k0_off33_inb k) (k0_off33_eq k) rfl,
    even_piece k x G (u := 1) 3 (ch7 k arg1 harg1 x) (sc1 k arg1 harg1 x G v2 hg) (rc1 k arg1 harg1 x G v2 hg) (inbd := k0_off32_inb k) (k0_off32_eq k) rfl,
    odd_piece k x G (u := 1) 2 (ch6 k arg1 harg1 x) (sc1 k arg1 harg1 x G v2 hg) (rc1 k arg1 harg1 x G v2 hg) (inbd := k0_off30_inb k) (k0_off30_eq k) rfl,
    even_piece k x G (u := 1) 2 (ch6 k arg1 harg1 x) (sc1 k arg1 harg1 x G v2 hg) (rc1 k arg1 harg1 x G v2 hg) (inbd := k0_off29_inb k) (k0_off29_eq k) rfl,
    odd_piece k x G (u := 1) 1 (ch5 k arg1 harg1 x) (sc1 k arg1 harg1 x G v2 hg) (rc1 k arg1 harg1 x G v2 hg) (inbd := k0_off27_inb k) (k0_off27_eq k) rfl,
    even_piece k x G (u := 1) 1 (ch5 k arg1 harg1 x) (sc1 k arg1 harg1 x G v2 hg) (rc1 k arg1 harg1 x G v2 hg) (inbd := k0_off26_inb k) (k0_off26_eq k) rfl,
    odd_piece k x G (u := 1) 0 (ch4 k arg1 harg1 x) (sc1 k arg1 harg1 x G v2 hg) (rc1 k arg1 harg1 x G v2 hg) (inbd := k0_off24_inb k) (k0_off24_eq k) rfl,
    even_piece k x G (u := 1) 0 (ch4 k arg1 harg1 x) (sc1 k arg1 harg1 x G v2 hg) (rc1 k arg1 harg1 x G v2 hg) (inbd := k0_off23_inb k) (k0_off23_eq k) rfl,
    odd_piece k x G (u := 0) 3 (ch3 k arg1 harg1 x) (sc0 k arg1 harg1 x G v2 hg) (rc0 k arg1 harg1 x G v2 hg) (inbd := k0_off17_inb k) (k0_off17_eq k) rfl,
    even_piece k x G (u := 0) 3 (ch3 k arg1 harg1 x) (sc0 k arg1 harg1 x G v2 hg) (rc0 k arg1 harg1 x G v2 hg) (inbd := k0_off16_inb k) (k0_off16_eq k) rfl,
    odd_piece k x G (u := 0) 2 (ch2 k arg1 harg1 x) (sc0 k arg1 harg1 x G v2 hg) (rc0 k arg1 harg1 x G v2 hg) (inbd := k0_off14_inb k) (k0_off14_eq k) rfl,
    even_piece k x G (u := 0) 2 (ch2 k arg1 harg1 x) (sc0 k arg1 harg1 x G v2 hg) (rc0 k arg1 harg1 x G v2 hg) (inbd := k0_off13_inb k) (k0_off13_eq k) rfl,
    odd_piece k x G (u := 0) 1 (ch1 k arg1 harg1 x) (sc0 k arg1 harg1 x G v2 hg) (rc0 k arg1 harg1 x G v2 hg) (inbd := k0_off11_inb k) (k0_off11_eq k) rfl,
    even_piece k x G (u := 0) 1 (ch1 k arg1 harg1 x) (sc0 k arg1 harg1 x G v2 hg) (rc0 k arg1 harg1 x G v2 hg) (inbd := k0_off10_inb k) (k0_off10_eq k) rfl,
    odd_piece k x G (u := 0) 0 (ch0 k arg1 harg1 x) (sc0 k arg1 harg1 x G v2 hg) (rc0 k arg1 harg1 x G v2 hg) (inbd := k0_off8_inb k) (k0_off8_eq k) rfl,
    even_piece k x G (u := 0) 0 (ch0 k arg1 harg1 x) (sc0 k arg1 harg1 x G v2 hg) (rc0 k arg1 harg1 x G v2 hg) (inbd := k0_off7_inb k) (k0_off7_eq k) rfl, trivial⟩

end Cert.KernelIdeal.Q
-- ==== Proof.Dec.lean ====
module

public import proofs.«01_k».proof.Proof.Codec
public import proofs.«01_k».proof.Proof.Gen.KernelIdeal.Frame
public import Idealize.ShloMosaic.Lib.Pipeline.ReadBack

@[expose] public section

set_option maxRecDepth 16384

noncomputable section

namespace Cert.KernelIdeal.Mm

open Idealize.ShloMosaic Idealize.SL.Sem Cert.KernelIdeal Cert.KernelIdeal.Gen Codec

/-- The lane number of every lane. -/
def lanes : IVec S32x128 32 := iota .tc S32x128 32 [1] iota_S32x128_d1_w32

/-- The block scales of one chunk, each spread over the eight lanes of its block: lane `l` holds the scale number `b + l / 8` of its row. -/
def decS (b : BitVec 32) (s : FVec Ideal S32x128 .fp8e4m3) : FVec Ideal S32x128 .bf16 :=
  let a : IVec S32x128 32 := addi (shrsi lanes (broadcast S32x128 3#32)) (broadcast S32x128 b)
  let a' : IVec S32x128 32 := select (cmpi .slt a (broadcast S32x128 0#32)) (addi a (broadcast S32x128 128#32)) a
  extf .bf16 (truncf .fp8e4m3 (dynamicGather 1 (extf .f32 s bitsLt_fp8e4m3_f32 : FVec Ideal S32x128 .f32)
    (shapeCast S32x128 (shapeCast S32x128x1 a' shapeCasts_S32x128_S32x128x1) shapeCasts_S32x128x1_S32x128)) bitsLt_fp8e4m3_f32) bitsLt_fp8e4m3_bf16

/-- The decoded low nibbles of a chunk of weight bytes, each times its block's scale. -/
def decLo (b : BitVec 32) (s : FVec Ideal S32x128 .fp8e4m3) (w : IVec S32x128 8) : FVec Ideal S1x32x128 .bf16 :=
  k1_pay4 (F := Ideal) (decS b s) (k1_pay2 (F := Ideal) w)

/-- The decoded high nibbles of a chunk of weight bytes, each times its block's scale. -/
def decHi (b : BitVec 32) (s : FVec Ideal S32x128 .fp8e4m3) (w : IVec S32x128 8) : FVec Ideal S1x32x128 .bf16 :=
  k1_pay5 (F := Ideal) (decS b s) (k1_pay2 (F := Ideal) w)

/-- The lane index the kernel computes for a weight's scale, the wrap of negative indices included. -/
theorem idx_small : ∀ (b : Fin 8) (l : Fin 128),
    (Scalar.select (IntOp.cmpi .slt (IntOp.addi (IntOp.shrsi .vector (BitVec.ofNat 32 l.val) 3#32) (BitVec.ofNat 32 (16 * b.val))) 0#32)
      (IntOp.addi (IntOp.addi (IntOp.shrsi .vector (BitVec.ofNat 32 l.val) 3#32) (BitVec.ofNat 32 (16 * b.val))) 128#32)
      (IntOp.addi (IntOp.shrsi .vector (BitVec.ofNat 32 l.val) 3#32) (BitVec.ofNat 32 (16 * b.val)))).toNat % 128 = 16 * b.val + l.val / 8 := by
  decide +kernel

/-- A scale spread over the lanes of a chunk is the scale of the lane's block. -/
theorem decS_apply (b : Fin 8) (s : FVec Ideal S32x128 .fp8e4m3) (r : Fin 32) (l : Fin 128) :
    decS (BitVec.ofNat 32 (16 * b.val)) s (ix2 r l) = (s (ix2 r ⟨16 * b.val + l.val / 8, by omega⟩) : EReal) := by
  unfold decS lanes
  pointwise
  exact congrArg (fun z => s (ix2 r z)) (Fin.ext (idx_small b l))

/-- The upper 32 rows of the decoded nibbles are the low halves of the bytes. -/
theorem k1_pay2_lo (w : IVec S32x128 8) (r : Fin 32) (l : Fin 128) :
    k1_pay2 (F := Ideal) w (ix2 (⟨r.val, by omega⟩ : Fin 64) l) = (e2m1 (nibLo (w (ix2 r l))) : EReal) := by
  unfold k1_pay2
  pointwise
  exact e2m1_of_ops _

/-- The lower 32 rows of the decoded nibbles are the high halves of the bytes. -/
theorem k1_pay2_hi (w : IVec S32x128 8) (r : Fin 32) (l : Fin 128) :
    k1_pay2 (F := Ideal) w (ix2 (⟨32 + r.val, by omega⟩ : Fin 64) l) = (e2m1 (nibHi (w (ix2 r l))) : EReal) := by
  unfold k1_pay2
  pointwise
  rw [shifted_low_bits]
  exact e2m1_of_ops _

/-- The decoded low halves: value of the code times the scale of its block. -/
theorem decLo_apply (b : Fin 8) (s : FVec Ideal S32x128 .fp8e4m3) (w : IVec S32x128 8) (u : Fin 1) (r : Fin 32) (l : Fin 128) :
    decLo (BitVec.ofNat 32 (16 * b.val)) s w (ix3 u r l)
      = (e2m1 (nibLo (w (ix2 r l))) : EReal) * (s (ix2 r ⟨16 * b.val + l.val / 8, by omega⟩) : EReal) := by
  unfold decLo k1_pay4 k1_pay3
  pointwise
  rw [decS_apply]
  exact congrArg (· * _) (k1_pay2_lo w r l)

/-- The decoded high halves: value of the code times the scale of its block. -/
theorem decHi_apply (b : Fin 8) (s : FVec Ideal S32x128 .fp8e4m3) (w : IVec S32x128 8) (u : Fin 1) (r : Fin 32) (l : Fin 128) :
    decHi (BitVec.ofNat 32 (16 * b.val)) s w (ix3 u r l)
      = (e2m1 (nibHi (w (ix2 r l))) : EReal) * (s (ix2 r ⟨16 * b.val + l.val / 8, by omega⟩) : EReal) := by
  unfold decHi k1_pay5 k1_pay3
  pointwise
  rw [decS_apply]
  exact congrArg (· * _) (k1_pay2_hi w r l)

end Cert.KernelIdeal.Mm
-- ==== Proof.Trip.lean ====
module

public import proofs.«01_k».proof.Proof.Dec
public import Idealize.ShloMosaic.Lib.WholeRead

@[expose] public section

set_option maxRecDepth 16384

noncomputable section

namespace Cert.KernelIdeal.Mm

open Idealize.ShloMosaic Idealize.SL.Sem Cert.KernelIdeal Cert.KernelIdeal.Gen Codec

/-- The scratch of decoded weights: chunk `c` holds, for row `n`, the values of the 128 bytes `128 c, 128 c + 1, …` of the row,
their low nibbles in lanes 0 to 127 and their high nibbles in lanes 128 to 255, each times the scale of its block of 16 values
(eight bytes). -/
def wdeq (x3 : Vec Ideal S512x3584 .i8) (x4 : Vec Ideal S512x448 .fp8e4m3) (c : Fin 28) (n : Fin 512) (l : Fin 256) : EReal :=
  e2m1 (if l.val < 128 then nibLo (x3 (ix2 n ⟨128 * c.val + l.val % 128, by omega⟩)) else nibHi (x3 (ix2 n ⟨128 * c.val + l.val % 128, by omega⟩)))
    * (x4 (ix2 n ⟨16 * c.val + l.val % 128 / 8, by omega⟩) : EReal)

/-- `wdeq` as an array. -/
def wdeqA (x3 : Vec Ideal S512x3584 .i8) (x4 : Vec Ideal S512x448 .fp8e4m3) : S28x512x256.Idx → Elt Ideal .bf16 :=
  fun y => wdeq x3 x4 (y 0) (y 1) (y 2)

/-- The decoding loop has 16 trips. -/
theorem trips_lt (k : Fin k1_t1_loop.trips) : k.val < 16 := Nat.lt_of_lt_of_le k.isLt k1_t1_abs.2.1

section Pieces

variable (k : Fin k1_t1_loop.trips) {arg5 : Memref sig .tc .vmem S512x3584 .i8} (harg5 : arg5.IsWhole)
  {arg6 : Memref sig .tc .vmem S512x448 .fp8e4m3} (harg6 : arg6.IsWhole)
  (x3 : Vec Ideal S512x3584 .i8) (x4 : Vec Ideal S512x448 .fp8e4m3) {os ow : Fin 2 → ℕ}

/-- A load of 32 rows of weight bytes, at a chunk. -/
theorem load_w {b : ℕ} {inbw} (hw : ow = ![32 * k.val, b]) (r : Fin 32) (l : Fin 128) (hb : b + 128 ≤ 3584) :
    View.readAt (Elt Ideal) arg5.view (Rect.unit (s := S512x3584) ow S32x128.size inbw).toLoadRect (harg5.unread x3) (ix2 r l)
      = x3 (ix2 ⟨32 * k.val + r.val, by have := trips_lt k; omega⟩ ⟨b + l.val, by omega⟩) := by
  subst hw
  rw [harg5.readAt_unread]
  congr 1
  funext a
  match a with
  | ⟨0, _⟩ => exact Fin.ext (by show 32 * k.val + 1 * r.val = 32 * k.val + r.val; omega)
  | ⟨1, _⟩ => exact Fin.ext (by show b + 1 * l.val = b + l.val; omega)

/-- A load of 32 rows of scales, at a group of `w` of them. -/
theorem load_s {t w : ℕ} {inbs} (hs : os = ![32 * k.val, t]) (r : Fin 32) (l : Fin w) (hb : t + w ≤ 448) :
    View.readAt (Elt Ideal) arg6.view (Rect.unit (s := S512x448) os ![32, w] inbs).toLoadRect (harg6.unread x4) (ix2 r l)
      = x4 (ix2 ⟨32 * k.val + r.val, by have := trips_lt k; omega⟩ ⟨t + l.val, by omega⟩) := by
  subst hs
  rw [harg6.readAt_unread]
  congr 1
  funext a
  match a with
  | ⟨0, _⟩ => exact Fin.ext (by show 32 * k.val + 1 * r.val = 32 * k.val + r.val; omega)
  | ⟨1, _⟩ => exact Fin.ext (by show t + 1 * l.val = t + l.val; omega)

/-- Where the element `(u, r, l)` of a stored block sits in the scratch. -/
theorem emb_block {c h : ℕ} {od : Fin 3 → ℕ} (inbd) (hd : od = ![c, 32 * k.val, h]) (hc : c < 28) (hh : h + 128 ≤ 256)
    (u : Fin 1) (r : Fin 32) (l : Fin 128) :
    (Rect.unit (s := S28x512x256) od S1x32x128.size inbd).emb (ix3 u r l)
      = ix3 (⟨c, hc⟩ : Fin 28) (⟨32 * k.val + r.val, by have := trips_lt k; omega⟩ : Fin 512) (⟨h + l.val, by omega⟩ : Fin 256) := by
  subst hd
  have hu : u.val = 0 := by omega
  funext a
  match a with
  | ⟨0, _⟩ => exact Fin.ext (by show c + 1 * u.val = c; omega)
  | ⟨1, _⟩ => exact Fin.ext (by show 32 * k.val + 1 * r.val = 32 * k.val + r.val; omega)
  | ⟨2, _⟩ => exact Fin.ext (by show h + 1 * l.val = h + l.val; omega)

/-- The 64 scales of the last group, twice side by side. -/
def twice (s : FVec Ideal S32x64 .fp8e4m3) : FVec Ideal S32x128 .fp8e4m3 :=
  concatenate S32x128 1 [⟨S32x64, s⟩, ⟨S32x64, s⟩] concatenates_S32x64_S32x64_S32x128_d1

/-- The half-register of scales written twice, in its lower half. -/
theorem twice_apply (s : FVec Ideal S32x64 .fp8e4m3) (r : Fin 32) (l : Fin 128) (h : l.val < 64) :
    twice s (ix2 r l) = s (ix2 r ⟨l.val, h⟩) := by
  unfold twice
  pointwise
  simp [h]

variable {od : Fin 3 → ℕ} {inbd : ∀ a, od a + S1x32x128.size a ≤ S28x512x256.size a}

/-- A chunk's low nibbles, stored in its lanes 0 to 127, are a block of `wdeqA`. -/
theorem lo_core {c b : ℕ} {inbw} (hc : c < 28) (hd : od = ![c, 32 * k.val, 0]) (hw : ow = ![32 * k.val, b]) (hb : b = 128 * c)
    (s : FVec Ideal S32x128 .fp8e4m3)
    (hs : ∀ (r : Fin 32) (l : Fin 128), s (ix2 r ⟨16 * (c % 8) + l.val / 8, by omega⟩)
      = x4 (ix2 ⟨32 * k.val + r.val, by have := trips_lt k; omega⟩ ⟨16 * c + l.val / 8, by omega⟩)) (x : S1x32x128.Idx) :
    decLo (BitVec.ofNat 32 (16 * (c % 8))) s
       (View.readAt (Elt Ideal) arg5.view (Rect.unit (s := S512x3584) ow S32x128.size inbw).toLoadRect (harg5.unread x3)) x
      = wdeqA x3 x4 ((Rect.unit (s := S28x512x256) od S1x32x128.size inbd).emb x) := by
  subst hb
  obtain ⟨u, r, l, rfl⟩ : ∃ (u : Fin 1) (r : Fin 32) (l : Fin 128), x = ix3 u r l := ⟨x 0, x 1, x 2, eq_ix3 x⟩
  rw [emb_block k inbd hd hc (by omega), decLo_apply ⟨c % 8, by omega⟩, load_w k harg5 x3 hw r l (by omega), hs]
  show _ = wdeq x3 x4 ⟨c, hc⟩ ⟨32 * k.val + r.val, _⟩ ⟨0 + l.val, _⟩
  have h1 : (0 + l.val) < 128 := by omega
  have h2 : (0 + l.val) % 128 = l.val := by omega
  simp only [wdeq, h1, h2, if_true]

/-- A chunk's high nibbles, stored in its lanes 128 to 255, are a block of `wdeqA`. -/
theorem hi_core {c b : ℕ} {inbw} (hc : c < 28) (hd : od = ![c, 32 * k.val, 128]) (hw : ow = ![32 * k.val, b]) (hb : b = 128 * c)
    (s : FVec Ideal S32x128 .fp8e4m3)
    (hs : ∀ (r : Fin 32) (l : Fin 128), s (ix2 r ⟨16 * (c % 8) + l.val / 8, by omega⟩)
      = x4 (ix2 ⟨32 * k.val + r.val, by have := trips_lt k; omega⟩ ⟨16 * c + l.val / 8, by omega⟩)) (x : S1x32x128.Idx) :
    decHi (BitVec.ofNat 32 (16 * (c % 8))) s
       (View.readAt (Elt Ideal) arg5.view (Rect.unit (s := S512x3584) ow S32x128.size inbw).toLoadRect (harg5.unread x3)) x
      = wdeqA x3 x4 ((Rect.unit (s := S28x512x256) od S1x32x128.size inbd).emb x) := by
  subst hb
  obtain ⟨u, r, l, rfl⟩ : ∃ (u : Fin 1) (r : Fin 32) (l : Fin 128), x = ix3 u r l := ⟨x 0, x 1, x 2, eq_ix3 x⟩
  rw [emb_block k inbd hd hc (by omega), decHi_apply ⟨c % 8, by omega⟩, load_w k harg5 x3 hw r l (by omega), hs]
  show _ = wdeq x3 x4 ⟨c, hc⟩ ⟨32 * k.val + r.val, _⟩ ⟨128 + l.val, _⟩
  have h1 : ¬ (128 + l.val) < 128 := by omega
  have h2 : (128 + l.val) % 128 = l.val := by omega
  simp only [wdeq, h1, h2, if_false]

/-- The scales a chunk uses, of a load of 128 of them. -/
theorem scales_main {c t : ℕ} {inbs} (hs : os = ![32 * k.val, t]) (hc : c < 24) (ht : t = 128 * (c / 8)) (r : Fin 32) (l : Fin 128) :
    View.readAt (Elt Ideal) arg6.view (Rect.unit (s := S512x448) os S32x128.size inbs).toLoadRect (harg6.unread x4) (ix2 r ⟨16 * (c % 8) + l.val / 8, by omega⟩)
      = x4 (ix2 ⟨32 * k.val + r.val, by have := trips_lt k; omega⟩ ⟨16 * c + l.val / 8, by omega⟩) := by
  refine (load_s k harg6 x4 (w := 128) hs r ⟨16 * (c % 8) + l.val / 8, by omega⟩ (by omega)).trans ?_
  refine congrArg x4 (congrArg (ix2 _) (Fin.ext ?_))
  show t + (16 * (c % 8) + l.val / 8) = 16 * c + l.val / 8
  omega

/-- The scales a chunk of the last group uses, of a load of 64 of them. -/
theorem scales_tail {c t : ℕ} {inbs} (hs : os = ![32 * k.val, t]) (hc : 24 ≤ c ∧ c < 28) (ht : t = 384) (r : Fin 32) (l : Fin 128) :
    twice (View.readAt (Elt Ideal) arg6.view (Rect.unit (s := S512x448) os S32x64.size inbs).toLoadRect (harg6.unread x4)) (ix2 r ⟨16 * (c % 8) + l.val / 8, by omega⟩)
      = x4 (ix2 ⟨32 * k.val + r.val, by have := trips_lt k; omega⟩ ⟨16 * c + l.val / 8, by omega⟩) := by
  rw [twice_apply _ _ _ (by show 16 * (c % 8) + l.val / 8 < 64; omega)]
  refine (load_s k harg6 x4 (w := 64) hs r ⟨16 * (c % 8) + l.val / 8, by omega⟩ (by omega)).trans ?_
  refine congrArg x4 (congrArg (ix2 _) (Fin.ext ?_))
  show t + (16 * (c % 8) + l.val / 8) = 16 * c + l.val / 8
  omega

/-- A store of decoded low halves is a piece of the decoded weights. -/
theorem lo_piece {c t b : ℕ} {inbw} {inbs}
    (hd : od = ![c, 32 * k.val, 0]) (hs : os = ![32 * k.val, t]) (hw : ow = ![32 * k.val, b]) (hn : c < 24 ∧ t = 128 * (c / 8) ∧ b = 128 * c)
    {p : FVec Ideal S1x32x128 .bf16}
    (hp : p = decLo (BitVec.ofNat 32 (16 * (c % 8))) (View.readAt (Elt Ideal) arg6.view (Rect.unit (s := S512x448) os S32x128.size inbs).toLoadRect (harg6.unread x4))
       (View.readAt (Elt Ideal) arg5.view (Rect.unit (s := S512x3584) ow S32x128.size inbw).toLoadRect (harg5.unread x3)))
    (x : S1x32x128.Idx) :
    p x = wdeqA x3 x4 ((Rect.unit (s := S28x512x256) od S1x32x128.size inbd).emb x) := by
  subst hp
  exact lo_core k harg5 x3 x4 (by omega) hd hw hn.2.2 _ (scales_main k harg6 x4 hs hn.1 hn.2.1) x

/-- `lo_piece` for the last four chunks, whose scales fill half a register. -/
theorem lo_tail_piece {c t b : ℕ} {inbw} {inbs}
    (hd : od = ![c, 32 * k.val, 0]) (hs : os = ![32 * k.val, t]) (hw : ow = ![32 * k.val, b]) (hn : (24 ≤ c ∧ c < 28) ∧ t = 384 ∧ b = 128 * c)
    {p : FVec Ideal S1x32x128 .bf16}
    (hp : p = decLo (BitVec.ofNat 32 (16 * (c % 8))) (twice (View.readAt (Elt Ideal) arg6.view (Rect.unit (s := S512x448) os S32x64.size inbs).toLoadRect (harg6.unread x4)))
       (View.readAt (Elt Ideal) arg5.view (Rect.unit (s := S512x3584) ow S32x128.size inbw).toLoadRect (harg5.unread x3)))
    (x : S1x32x128.Idx) :
    p x = wdeqA x3 x4 ((Rect.unit (s := S28x512x256) od S1x32x128.size inbd).emb x) := by
  subst hp
  exact lo_core k harg5 x3 x4 (by omega) hd hw hn.2.2 _ (scales_tail k harg6 x4 hs hn.1 hn.2.1) x

/-- A store of decoded high halves is a piece of the decoded weights. -/
theorem hi_piece {c t b : ℕ} {inbw} {inbs}
    (hd : od = ![c, 32 * k.val, 128]) (hs : os = ![32 * k.val, t]) (hw : ow = ![32 * k.val, b]) (hn : c < 24 ∧ t = 128 * (c / 8) ∧ b = 128 * c)
    {p : FVec Ideal S1x32x128 .bf16}
    (hp : p = decHi (BitVec.ofNat 32 (16 * (c % 8))) (View.readAt (Elt Ideal) arg6.view (Rect.unit (s := S512x448) os S32x128.size inbs).toLoadRect (harg6.unread x4))
       (View.readAt (Elt Ideal) arg5.view (Rect.unit (s := S512x3584) ow S32x128.size inbw).toLoadRect (harg5.unread x3)))
    (x : S1x32x128.Idx) :
    p x = wdeqA x3 x4 ((Rect.unit (s := S28x512x256) od S1x32x128.size inbd).emb x) := by
  subst hp
  exact hi_core k harg5 x3 x4 (by omega) hd hw hn.2.2 _ (scales_main k harg6 x4 hs hn.1 hn.2.1) x

/-- `hi_piece` for the last four chunks, whose scales fill half a register. -/
theorem hi_tail_piece {c t b : ℕ} {inbw} {inbs}
    (hd : od = ![c, 32 * k.val, 128]) (hs : os = ![32 * k.val, t]) (hw : ow = ![32 * k.val, b]) (hn : (24 ≤ c ∧ c < 28) ∧ t = 384 ∧ b = 128 * c)
    {p : FVec Ideal S1x32x128 .bf16}
    (hp : p = decHi (BitVec.ofNat 32 (16 * (c % 8))) (twice (View.readAt (Elt Ideal) arg6.view (Rect.unit (s := S512x448) os S32x64.size inbs).toLoadRect (harg6.unread x4)))
       (View.readAt (Elt Ideal) arg5.view (Rect.unit (s := S512x3584) ow S32x128.size inbw).toLoadRect (harg5.unread x3)))
    (x : S1x32x128.Idx) :
    p x = wdeqA x3 x4 ((Rect.unit (s := S28x512x256) od S1x32x128.size inbd).emb x) := by
  subst hp
  exact hi_core k harg5 x3 x4 (by omega) hd hw hn.2.2 _ (scales_tail k harg6 x4 hs hn.1 hn.2.1) x

end Pieces

variable (𝒱 : Variants) (c : Dev nD) (bd : Option 𝒱.V) (i : grid1.Coords) (arg2 : Memref sig .tc .smem S1 .f32) (harg2 : arg2.IsWhole) (arg3 : Memref sig .tc .smem S8 .f32) (harg3 : arg3.IsWhole) (arg4 : Memref sig .tc .vmem S28x512x256 .bf16) (harg4 : arg4.IsWhole) (arg5 : Memref sig .tc .vmem S512x3584 .i8) (harg5 : arg5.IsWhole) (arg6 : Memref sig .tc .vmem S512x448 .fp8e4m3) (harg6 : arg6.IsWhole) (arg7 : Memref sig .tc .vmem S1x512x512 .bf16) (harg7 : arg7.IsWhole) (arg8 : Memref sig .tc .vmem S28x512x256 .bf16) (harg8 : arg8.IsWhole)
  (x3 : Vec Ideal S512x3584 .i8) (x4 : Vec Ideal S512x448 .fp8e4m3)

set_option maxHeartbeats 4000000 in
/-- Every store of one trip of the decoding loop is a block of `wdeqA`. -/
theorem trip_pieces (k : Fin k1_t1_loop.trips) :
    View.PiecesOf (wdeqA x3 x4) (tripL_k1_t1 (F := Ideal) 𝒱 c bd i arg2 harg2 arg3 harg3 arg4 harg4 arg5 harg5 arg6 harg6 arg7 harg7 arg8 harg8 lanes (harg5.unread x3) (harg6.unread x4) k) := by
  unfold tripL_k1_t1 trip_k1_t1
  dsimp only
  exact ⟨hi_tail_piece k harg5 harg6 x3 x4 (inbd := k1_off88_inb k) (k1_off88_eq k) (k1_off76_eq k) (k1_off86_eq k) (by decide) rfl,
    lo_tail_piece k harg5 harg6 x3 x4 (inbd := k1_off87_inb k) (k1_off87_eq k) (k1_off76_eq k) (k1_off86_eq k) (by decide) rfl,
    hi_tail_piece k harg5 harg6 x3 x4 (inbd := k1_off85_inb k) (k1_off85_eq k) (k1_off76_eq k) (k1_off83_eq k) (by decide) rfl,
    lo_tail_piece k harg5 harg6 x3 x4 (inbd := k1_off84_inb k) (k1_off84_eq k) (k1_off76_eq k) (k1_off83_eq k) (by decide) rfl,
    hi_tail_piece k harg5 harg6 x3 x4 (inbd := k1_off82_inb k) (k1_off82_eq k) (k1_off76_eq k) (k1_off80_eq k) (by decide) rfl,
    lo_tail_piece k harg5 harg6 x3 x4 (inbd := k1_off81_inb k) (k1_off81_eq k) (k1_off76_eq k) (k1_off80_eq k) (by decide) rfl,
    hi_tail_piece k harg5 harg6 x3 x4 (inbd := k1_off79_inb k) (k1_off79_eq k) (k1_off76_eq k) (k1_off77_eq k) (by decide) rfl,
    lo_tail_piece k harg5 harg6 x3 x4 (inbd := k1_off78_inb k) (k1_off78_eq k) (k1_off76_eq k) (k1_off77_eq k) (by decide) rfl,
    hi_piece k harg5 harg6 x3 x4 (inbd := k1_off75_inb k) (k1_off75_eq k) (k1_off51_eq k) (k1_off73_eq k) (by decide) rfl,
    lo_piece k harg5 harg6 x3 x4 (inbd := k1_off74_inb k) (k1_off74_eq k) (k1_off51_eq k) (k1_off73_eq k) (by decide) rfl,
    hi_piece k harg5 harg6 x3 x4 (inbd := k1_off72_inb k) (k1_off72_eq k) (k1_off51_eq k) (k1_off70_eq k) (by decide) rfl,
    lo_piece k harg5 harg6 x3 x4 (inbd := k1_off71_inb k) (k1_off71_eq k) (k1_off51_eq k) (k1_off70_eq k) (by decide) rfl,
    hi_piece k harg5 harg6 x3 x4 (inbd := k1_off69_inb k) (k1_off69_eq k) (k1_off51_eq k) (k1_off67_eq k) (by decide) rfl,
    lo_piece k harg5 harg6 x3 x4 (inbd := k1_off68_inb k) (k1_off68_eq k) (k1_off51_eq k) (k1_off67_eq k) (by decide) rfl,
    hi_piece k harg5 harg6 x3 x4 (inbd := k1_off66_inb k) (k1_off66_eq k) (k1_off51_eq k) (k1_off64_eq k) (by decide) rfl,
    lo_piece k harg5 harg6 x3 x4 (inbd := k1_off65_inb k) (k1_off65_eq k) (k1_off51_eq k) (k1_off64_eq k) (by decide) rfl,
    hi_piece k harg5 harg6 x3 x4 (inbd := k1_off63_inb k) (k1_off63_eq k) (k1_off51_eq k) (k1_off61_eq k) (by decide) rfl,
    lo_piece k harg5 harg6 x3 x4 (inbd := k1_off62_inb k) (k1_off62_eq k) (k1_off51_eq k) (k1_off61_eq k) (by decide) rfl,
    hi_piece k harg5 harg6 x3 x4 (inbd := k1_off60_inb k) (k1_off60_eq k) (k1_off51_eq k) (k1_off58_eq k) (by decide) rfl,
    lo_piece k harg5 harg6 x3 x4 (inbd := k1_off59_inb k) (k1_off59_eq k) (k1_off51_eq k) (k1_off58_eq k) (by decide) rfl,
    hi_piece k harg5 harg6 x3 x4 (inbd := k1_off57_inb k) (k1_off57_eq k) (k1_off51_eq k) (k1_off55_eq k) (by decide) rfl,
    lo_piece k harg5 harg6 x3 x4 (inbd := k1_off56_inb k) (k1_off56_eq k) (k1_off51_eq k) (k1_off55_eq k) (by decide) rfl,
    hi_piece k harg5 harg6 x3 x4 (inbd := k1_off54_inb k) (k1_off54_eq k) (k1_off51_eq k) (k1_off52_eq k) (by decide) rfl,
    lo_piece k harg5 harg6 x3 x4 (inbd := k1_off53_inb k) (k1_off53_eq k) (k1_off51_eq k) (k1_off52_eq k) (by decide) rfl,
    hi_piece k harg5 harg6 x3 x4 (inbd := k1_off50_inb k) (k1_off50_eq k) (k1_off26_eq k) (k1_off48_eq k) (by decide) rfl,
    lo_piece k harg5 harg6 x3 x4 (inbd := k1_off49_inb k) (k1_off49_eq k) (k1_off26_eq k) (k1_off48_eq k) (by decide) rfl,
    hi_piece k harg5 harg6 x3 x4 (inbd := k1_off47_inb k) (k1_off47_eq k) (k1_off26_eq k) (k1_off45_eq k) (by decide) rfl,
    lo_piece k harg5 harg6 x3 x4 (inbd := k1_off46_inb k) (k1_off46_eq k) (k1_off26_eq k) (k1_off45_eq k) (by decide) rfl,
    hi_piece k harg5 harg6 x3 x4 (inbd := k1_off44_inb k) (k1_off44_eq k) (k1_off26_eq k) (k1_off42_eq k) (by decide) rfl,
    lo_piece k harg5 harg6 x3 x4 (inbd := k1_off43_inb k) (k1_off43_eq k) (k1_off26_eq k) (k1_off42_eq k) (by decide) rfl,
    hi_piece k harg5 harg6 x3 x4 (inbd := k1_off41_inb k) (k1_off41_eq k) (k1_off26_eq k) (k1_off39_eq k) (by decide) rfl,
    lo_piece k harg5 harg6 x3 x4 (inbd := k1_off40_inb k) (k1_off40_eq k) (k1_off26_eq k) (k1_off39_eq k) (by decide) rfl,
    hi_piece k harg5 harg6 x3 x4 (inbd := k1_off38_inb k) (k1_off38_eq k) (k1_off26_eq k) (k1_off36_eq k) (by decide) rfl,
    lo_piece k harg5 harg6 x3 x4 (inbd := k1_off37_inb k) (k1_off37_eq k) (k1_off26_eq k) (k1_off36_eq k) (by decide) rfl,
    hi_piece k harg5 harg6 x3 x4 (inbd := k1_off35_inb k) (k1_off35_eq k) (k1_off26_eq k) (k1_off33_eq k) (by decide) rfl,
    lo_piece k harg5 harg6 x3 x4 (inbd := k1_off34_inb k) (k1_off34_eq k) (k1_off26_eq k) (k1_off33_eq k) (by decide) rfl,
    hi_piece k harg5 harg6 x3 x4 (inbd := k1_off32_inb k) (k1_off32_eq k) (k1_off26_eq k) (k1_off30_eq k) (by decide) rfl,
    lo_piece k harg5 harg6 x3 x4 (inbd := k1_off31_inb k) (k1_off31_eq k) (k1_off26_eq k) (k1_off30_eq k) (by decide) rfl,
    hi_piece k harg5 harg6 x3 x4 (inbd := k1_off29_inb k) (k1_off29_eq k) (k1_off26_eq k) (k1_off27_eq k) (by decide) rfl,
    lo_piece k harg5 harg6 x3 x4 (inbd := k1_off28_inb k) (k1_off28_eq k) (k1_off26_eq k) (k1_off27_eq k) (by decide) rfl,
    hi_piece k harg5 harg6 x3 x4 (inbd := k1_off25_inb k) (k1_off25_eq k) (k1_off1_eq k) (k1_off23_eq k) (by decide) rfl,
    lo_piece k harg5 harg6 x3 x4 (inbd := k1_off24_inb k) (k1_off24_eq k) (k1_off1_eq k) (k1_off23_eq k) (by decide) rfl,
    hi_piece k harg5 harg6 x3 x4 (inbd := k1_off22_inb k) (k1_off22_eq k) (k1_off1_eq k) (k1_off20_eq k) (by decide) rfl,
    lo_piece k harg5 harg6 x3 x4 (inbd := k1_off21_inb k) (k1_off21_eq k) (k1_off1_eq k) (k1_off20_eq k) (by decide) rfl,
    hi_piece k harg5 harg6 x3 x4 (inbd := k1_off19_inb k) (k1_off19_eq k) (k1_off1_eq k) (k1_off17_eq k) (by decide) rfl,
    lo_piece k harg5 harg6 x3 x4 (inbd := k1_off18_inb k) (k1_off18_eq k) (k1_off1_eq k) (k1_off17_eq k) (by decide) rfl,
    hi_piece k harg5 harg6 x3 x4 (inbd := k1_off16_inb k) (k1_off16_eq k) (k1_off1_eq k) (k1_off14_eq k) (by decide) rfl,
    lo_piece k harg5 harg6 x3 x4 (inbd := k1_off15_inb k) (k1_off15_eq k) (k1_off1_eq k) (k1_off14_eq k) (by decide) rfl,
    hi_piece k harg5 harg6 x3 x4 (inbd := k1_off13_inb k) (k1_off13_eq k) (k1_off1_eq k) (k1_off11_eq k) (by decide) rfl,
    lo_piece k harg5 harg6 x3 x4 (inbd := k1_off12_inb k) (k1_off12_eq k) (k1_off1_eq k) (k1_off11_eq k) (by decide) rfl,
    hi_piece k harg5 harg6 x3 x4 (inbd := k1_off10_inb k) (k1_off10_eq k) (k1_off1_eq k) (k1_off8_eq k) (by decide) rfl,
    lo_piece k harg5 harg6 x3 x4 (inbd := k1_off9_inb k) (k1_off9_eq k) (k1_off1_eq k) (k1_off8_eq k) (by decide) rfl,
    hi_piece k harg5 harg6 x3 x4 (inbd := k1_off7_inb k) (k1_off7_eq k) (k1_off1_eq k) (k1_off5_eq k) (by decide) rfl,
    lo_piece k harg5 harg6 x3 x4 (inbd := k1_off6_inb k) (k1_off6_eq k) (k1_off1_eq k) (k1_off5_eq k) (by decide) rfl,
    hi_piece k harg5 harg6 x3 x4 (inbd := k1_off4_inb k) (k1_off4_eq k) (k1_off1_eq k) (k1_off2_eq k) (by decide) rfl,
    lo_piece k harg5 harg6 x3 x4 (inbd := k1_off3_inb k) (k1_off3_eq k) (k1_off1_eq k) (k1_off2_eq k) (by decide) rfl, trivial⟩

/-- Two lists of pieces of one array, one after the other. -/
theorem pieces_append {s : Shape} {e : EltTy} (G : s.Idx → Elt Ideal e) : ∀ L L' : List (View.Piece (Elt Ideal) s e),
    View.PiecesOf G L → View.PiecesOf G L' → View.PiecesOf G (L ++ L')
  | [], _, _, h => h
  | _ :: L, L', h, h' => ⟨h.1, pieces_append G L L' h.2 h'⟩

/-- Every store of the decoding loop is a block of `wdeqA`. -/
theorem loop_pieces : ∀ n : ℕ, n ≤ k1_t1_loop.trips → View.PiecesOf (wdeqA x3 x4) (pb_k1_t1 (F := Ideal) 𝒱 c bd i arg2 harg2 arg3 harg3 arg4 harg4 arg5 harg5 arg6 harg6 arg7 harg7 arg8 harg8 lanes (harg5.unread x3) (harg6.unread x4) n)
  | 0, _ => trivial
  | n + 1, h => by
    rw [pb_k1_t1_succ 𝒱 c bd i arg2 harg2 arg3 harg3 arg4 harg4 arg5 harg5 arg6 harg6 arg7 harg7 arg8 harg8 lanes (harg5.unread x3) (harg6.unread x4) ⟨n, h⟩]
    exact pieces_append _ _ _ (trip_pieces 𝒱 c bd i arg2 harg2 arg3 harg3 arg4 harg4 arg5 harg5 arg6 harg6 arg7 harg7 arg8 harg8 x3 x4 ⟨n, h⟩) (loop_pieces n (Nat.le_of_succ_le h))

/-- After the decoding loop the scratch reads `wdeqA`. -/
theorem scratch_read (B : LoadRect S28x512x256) :
    arg8.view.readCov (pb_k1_t1 (F := Ideal) 𝒱 c bd i arg2 harg2 arg3 harg3 arg4 harg4 arg5 harg5 arg6 harg6 arg7 harg7 arg8 harg8 lanes (harg5.unread x3) (harg6.unread x4) (Scf.trips k1_t1_loop.lb k1_t1_loop.ub k1_t1_loop.st)) B
      = fun j => wdeqA x3 x4 (B.idx j) := by
  rw [View.readCov_eq_canon']
  funext j
  refine View.canon_apply_of_pieces (wdeqA x3 x4) _ (loop_pieces 𝒱 c bd i arg2 harg2 arg3 harg3 arg4 harg4 arg5 harg5 arg6 harg6 arg7 harg7 arg8 harg8 x3 x4 _ (le_refl _)).mem _ ?_
  exact View.cover_of_tiledL (pb_k1_t1 (F := Ideal) 𝒱 c bd i arg2 harg2 arg3 harg3 arg4 harg4 arg5 harg5 arg6 harg6 arg7 harg7 arg8 harg8 lanes (harg5.unread x3) (harg6.unread x4) (Scf.trips k1_t1_loop.lb k1_t1_loop.ub k1_t1_loop.st)) S1x32x128.size (by sl_kernel_rfl) _

end Cert.KernelIdeal.Mm
-- ==== Proof.QG.lean ====
module

public import proofs.«01_k».proof.Proof.QT
public import proofs.«01_k».proof.Proof.Trip

@[expose] public section

set_option maxRecDepth 16384

noncomputable section

namespace Cert.KernelIdeal.Q

open Idealize.ShloMosaic Idealize.SL.Sem Cert.KernelIdeal Cert.KernelIdeal.Gen Codec

variable (𝒱 : Variants) (c : Dev nD) (bd : Option 𝒱.V) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x256x448 .fp8e4m3) (harg3 : arg3.IsWhole) (arg4 : Memref sig .tc .vmem S1x8x128 .f32) (harg4 : arg4.IsWhole) (arg5 : Memref sig .tc .vmem S28x256x256 .bf16) (harg5 : arg5.IsWhole)
  (x : Vec Ideal S1x256x7168 .bf16)

/-- The largest magnitude of a segment. -/
def amaxA : EReal := Finset.univ.sup fun p : Fin 256 × Fin 7168 => mag (x (ix3 (0 : Fin 1) p.1 p.2))

/-- The segment's scale. -/
def gainOf (a : EReal) : EReal := if a = 0 then 1 else Ideal.div a (Ideal.ofBits .f32 0x45280000#32)

/-- A magnitude is not negative. -/
theorem mag_nonneg (a : EReal) : 0 ≤ mag a := by
  unfold mag
  rcases le_total 0 a with h | h
  · exact le_max_of_le_left h
  · exact le_max_of_le_right (EReal.neg_nonneg.2 h)

/-- No magnitude of a segment is larger than the largest. -/
theorem mag_le_amax (r : Fin 256) (e : Fin 7168) : mag (x (ix3 (0 : Fin 1) r e)) ≤ amaxA x :=
  Finset.le_sup (f := fun p : Fin 256 × Fin 7168 => mag (x (ix3 (0 : Fin 1) p.1 p.2))) (Finset.mem_univ (r, e))

/-- The largest magnitude is not negative. -/
theorem amaxA_nonneg : 0 ≤ amaxA x := (mag_nonneg _).trans (mag_le_amax x 0 0)

/-- The accumulator starts at zero. -/
theorem pay1_apply (r : Fin 32) (e : Fin 7168) : k0_pay1 (F := Ideal) (ix2 r e) = (0 : EReal) := by
  unfold k0_pay1
  pointwise

/-- A trip takes the larger of the accumulator and the rows' magnitudes. -/
theorem pay2_apply (a : FVec Ideal S32x7168 .bf16) (v : Vec Ideal S1x32x7168 .bf16) (r : Fin 32) (e : Fin 7168) :
    k0_pay2 a v (ix2 r e) = max (a (ix2 r e)) (mag (v (ix3 (0 : Fin 1) r e))) := by
  unfold k0_pay2
  pointwise
  rfl

/-- The maximum's loop has eight trips. -/
theorem trips1_lt (k : Fin k0_t1_loop.trips) : k.val < 8 := Nat.lt_of_lt_of_le k.isLt k0_t1_abs.2.1

/-- One trip of the maximum's loop. -/
theorem trip1 (k : Fin k0_t1_loop.trips) (acc : FVec Ideal S32x7168 .bf16) (r : Fin 32) (e : Fin 7168) :
    tripR_k0_t1 (F := Ideal) 𝒱 c bd i arg1 harg1 arg2 harg2 arg3 harg3 arg4 harg4 arg5 harg5 (harg1.unread x) k acc (ix2 r e)
      = max (acc (ix2 r e)) (mag (x (ix3 (0 : Fin 1) ⟨32 * k.val + r.val, by have := trips1_lt k; omega⟩ e))) := by
  unfold tripR_k0_t1 trip_k0_t1
  refine (pay2_apply _ _ r e).trans (congrArg (fun z => max (acc (ix2 r e)) (mag z)) ?_)
  rw [harg1.readAt_unread]
  refine congrArg x (funext fun a => ?_)
  match a with
  | ⟨0, _⟩ => exact Fin.ext (by show k0_off1 k 0 + 1 * 0 = 0; rw [k0_off1_eq]; rfl)
  | ⟨1, _⟩ => exact Fin.ext (by show k0_off1 k 1 + 1 * r.val = 32 * k.val + r.val; rw [k0_off1_eq]; show 32 * k.val + 1 * r.val = _; omega)
  | ⟨2, _⟩ => exact Fin.ext (by show k0_off1 k 2 + 1 * e.val = e.val; rw [k0_off1_eq]; show 0 + 1 * e.val = _; omega)

/-- The loop's accumulator after `n` trips. -/
abbrev accAt (n : ℕ) : FVec Ideal S32x7168 .bf16 :=
  st_k0_t1 (F := Ideal) 𝒱 c bd i arg1 harg1 arg2 harg2 arg3 harg3 arg4 harg4 arg5 harg5 (harg1.unread x) (k0_pay1 (F := Ideal)) n

/-- The accumulator never exceeds the largest magnitude. -/
theorem accAt_le (r : Fin 32) (e : Fin 7168) : ∀ n : ℕ, n ≤ k0_t1_loop.trips →
    accAt 𝒱 c bd i arg1 harg1 arg2 harg2 arg3 harg3 arg4 harg4 arg5 harg5 x n (ix2 r e) ≤ amaxA x
  | 0, _ => (le_of_eq (pay1_apply r e)).trans (amaxA_nonneg x)
  | n + 1, h => by
    have hs := congrFun (st_k0_t1_succ (F := Ideal) 𝒱 c bd i arg1 harg1 arg2 harg2 arg3 harg3 arg4 harg4 arg5 harg5 (harg1.unread x) (k0_pay1 (F := Ideal)) ⟨n, h⟩) (ix2 r e)
    refine (le_of_eq (hs.trans (trip1 𝒱 c bd i arg1 harg1 arg2 harg2 arg3 harg3 arg4 harg4 arg5 harg5 x ⟨n, h⟩ _ r e))).trans ?_
    exact max_le (accAt_le r e n (Nat.le_of_succ_le h)) (mag_le_amax x _ e)

/-- After its trip, the accumulator is at least a row's magnitude. -/
theorem le_accAt (r : Fin 32) (e : Fin 7168) (k : Fin 8) : ∀ n : ℕ, n ≤ k0_t1_loop.trips → k.val < n →
    mag (x (ix3 (0 : Fin 1) ⟨32 * k.val + r.val, by omega⟩ e)) ≤ accAt 𝒱 c bd i arg1 harg1 arg2 harg2 arg3 harg3 arg4 harg4 arg5 harg5 x n (ix2 r e)
  | 0, _, h => absurd h (by omega)
  | n + 1, h, hk => by
    have hs := congrFun (st_k0_t1_succ (F := Ideal) 𝒱 c bd i arg1 harg1 arg2 harg2 arg3 harg3 arg4 harg4 arg5 harg5 (harg1.unread x) (k0_pay1 (F := Ideal)) ⟨n, h⟩) (ix2 r e)
    refine le_trans ?_ (ge_of_eq (hs.trans (trip1 𝒱 c bd i arg1 harg1 arg2 harg2 arg3 harg3 arg4 harg4 arg5 harg5 x ⟨n, h⟩ _ r e)))
    by_cases he : k.val = n
    · refine le_max_of_le_right (le_of_eq ?_)
      refine congrArg (fun z => mag (x (ix3 0 z e))) (Fin.ext ?_)
      show 32 * k.val + r.val = 32 * n + r.val
      omega
    · exact le_max_of_le_left (le_accAt r e k n (Nat.le_of_succ_le h) (by omega))

/-- The word of minus infinity. -/
theorem ofBits_bot : Ideal.ofBits .f32 0xFF800000#32 = (⊥ : EReal) := by
  simp [Ideal.ofBits, Ideal.ieee]

/-- A fold of maxima from minus infinity is a supremum. -/
theorem fold_max_bot {ι : Type} [Fintype ι] (f : ι → EReal) : Finset.fold max (Ideal.ofBits .f32 0xFF800000#32) f Finset.univ = Finset.univ.sup f := by
  rw [ofBits_bot]
  rfl

/-- The segment's scale from the accumulator: the largest of its entries, over 2688. -/
theorem pay3_apply (v : FVec Ideal S32x7168 .bf16) (r : Fin 32) (l : Fin 128) :
    k0_pay3 v (ix2 r l) = gainOf (Finset.univ.sup fun p : Fin 32 × Fin 7168 => v (ix2 p.1 p.2)) := by
  unfold k0_pay3
  pointwise
  rw [fold_max_bot]
  rfl

/-- The maximum's loop has eight trips. -/
theorem trips1_eq : k0_t1_loop.trips = 8 := by decide +kernel

/-- The scale the quantiser computes for its segment. -/
theorem gain_eq (z : S32x128.Idx) : k0_pay3 (accAt 𝒱 c bd i arg1 harg1 arg2 harg2 arg3 harg3 arg4 harg4 arg5 harg5 x (Scf.trips k0_t1_loop.lb k0_t1_loop.ub k0_t1_loop.st)) z = gainOf (amaxA x) := by
  obtain ⟨r, l, rfl⟩ : ∃ (r : Fin 32) (l : Fin 128), z = ix2 r l := ⟨z 0, z 1, eq_ix2 z⟩
  rw [pay3_apply]
  refine congrArg gainOf (le_antisymm (Finset.sup_le fun p _ => accAt_le 𝒱 c bd i arg1 harg1 arg2 harg2 arg3 harg3 arg4 harg4 arg5 harg5 x p.1 p.2 _ (le_refl _)) (Finset.sup_le fun p _ => ?_))
  have hp : p.1.val < 256 := p.1.isLt
  refine le_trans (le_of_eq ?_) ((le_accAt 𝒱 c bd i arg1 harg1 arg2 harg2 arg3 harg3 arg4 harg4 arg5 harg5 x ⟨p.1.val % 32, by omega⟩ p.2 ⟨p.1.val / 32, by omega⟩ _ (le_refl _) ?_).trans
    (Finset.le_sup (f := fun q : Fin 32 × Fin 7168 => accAt 𝒱 c bd i arg1 harg1 arg2 harg2 arg3 harg3 arg4 harg4 arg5 harg5 x k0_t1_loop.trips (ix2 q.1 q.2)) (Finset.mem_univ (⟨p.1.val % 32, by omega⟩, p.2))))
  · refine congrArg (fun z => mag (x (ix3 0 z p.2))) (Fin.ext ?_)
    show p.1.val = 32 * (p.1.val / 32) + p.1.val % 32
    omega
  · show p.1.val / 32 < k0_t1_loop.trips
    rw [trips1_eq]
    omega

/-- The tile of a constant array is constant. -/
theorem pay4_apply {G : EReal} (v : FVec Ideal S32x7168 .bf16) (hv : ∀ z, k0_pay3 v z = G) (z : S1x8x128.Idx) : k0_pay4 v z = G := by
  obtain ⟨q, r, l, rfl⟩ : ∃ (q : Fin 1) (r : Fin 8) (l : Fin 128), z = ix3 q r l := ⟨z 0, z 1, z 2, eq_ix3 z⟩
  unfold k0_pay4
  generalize k0_pay3 v = w at hv ⊢
  pointwise
  exact hv _

/-- The stored tile holds the segment's scale everywhere. -/
theorem gain_piece {G : EReal} (v : FVec Ideal S32x7168 .bf16) (hv : ∀ z, k0_pay3 v z = G) (inb : ∀ a, (![0, 0, 0] : Fin 3 → ℕ) a + S1x8x128.size a ≤ S1x8x128.size a)
    (z : (Rect.unit (s := S1x8x128) ![0, 0, 0] S1x8x128.size inb).shape.Idx) : k0_pay4 v z = G := pay4_apply v hv z

section Loop

variable (v2 : FVec Ideal S32x7168 .bf16) (G : EReal) (hg : ∀ z, k0_pay3 v2 z = G)

include hg

/-- Every store of the quantising loop is a block of the three arrays. -/
theorem loop_pieces : ∀ n : ℕ, n ≤ k0_t2_loop.trips →
    View.PiecesOf (codesArr x G) (pb_k0_t2 (F := Ideal) 𝒱 c bd i arg1 harg1 arg2 harg2 arg3 harg3 arg4 harg4 arg5 harg5 v2 (harg1.unread x) n).1
      ∧ View.PiecesOf (scalesArr x G) (pb_k0_t2 (F := Ideal) 𝒱 c bd i arg1 harg1 arg2 harg2 arg3 harg3 arg4 harg4 arg5 harg5 v2 (harg1.unread x) n).2.1
      ∧ View.PiecesOf (xdqArr x G) (pb_k0_t2 (F := Ideal) 𝒱 c bd i arg1 harg1 arg2 harg2 arg3 harg3 arg4 harg4 arg5 harg5 v2 (harg1.unread x) n).2.2
  | 0, _ => ⟨trivial, trivial, trivial⟩
  | n + 1, h => by
    have ih := loop_pieces n (Nat.le_of_succ_le h)
    rw [pb_k0_t2_succ (F := Ideal) 𝒱 c bd i arg1 harg1 arg2 harg2 arg3 harg3 arg4 harg4 arg5 harg5 v2 (harg1.unread x) ⟨n, h⟩]
    exact ⟨Mm.pieces_append _ _ _ (trip_codes 𝒱 c bd i arg1 harg1 arg2 harg2 arg3 harg3 arg4 harg4 arg5 harg5 v2 x G hg ⟨n, h⟩) ih.1,
      Mm.pieces_append _ _ _ (trip_scales 𝒱 c bd i arg1 harg1 arg2 harg2 arg3 harg3 arg4 harg4 arg5 harg5 v2 x G hg ⟨n, h⟩) ih.2.1,
      Mm.pieces_append _ _ _ (trip_xdq 𝒱 c bd i arg1 harg1 arg2 harg2 arg3 harg3 arg4 harg4 arg5 harg5 v2 x G hg ⟨n, h⟩) ih.2.2⟩

end Loop

/-- The stores of the whole body. -/
theorem body_pieces :
    View.PiecesOf (codesArr x (gainOf (amaxA x))) (kernelRun0_A (F := Ideal) c i arg1 harg1 arg2 harg2 arg3 harg3 arg4 harg4 arg5 harg5 x).1
      ∧ View.PiecesOf (scalesArr x (gainOf (amaxA x))) (kernelRun0_A (F := Ideal) c i arg1 harg1 arg2 harg2 arg3 harg3 arg4 harg4 arg5 harg5 x).2.1
      ∧ View.PiecesOf (fun _ => (gainOf (amaxA x) : Elt Ideal .f32)) (kernelRun0_A (F := Ideal) c i arg1 harg1 arg2 harg2 arg3 harg3 arg4 harg4 arg5 harg5 x).2.2.1
      ∧ View.PiecesOf (xdqArr x (gainOf (amaxA x))) (kernelRun0_A (F := Ideal) c i arg1 harg1 arg2 harg2 arg3 harg3 arg4 harg4 arg5 harg5 x).2.2.2.1 := by
  have hg := gain_eq Variants.none c none i arg1 harg1 arg2 harg2 arg3 harg3 arg4 harg4 arg5 harg5 x
  have h := loop_pieces Variants.none c none i arg1 harg1 arg2 harg2 arg3 harg3 arg4 harg4 arg5 harg5 x _ _ hg _ (le_refl _)
  unfold kernelRun0_A
  dsimp only
  refine ⟨h.1, h.2.1, ⟨?_, trivial⟩, h.2.2⟩
  clear h
  unfold accAt at hg
  generalize st_k0_t1 (F := Ideal) Variants.none c none i arg1 harg1 arg2 harg2 arg3 harg3 arg4 harg4 arg5 harg5 (harg1.unread x) (k0_pay1 (F := Ideal)) _ = v at hg ⊢
  generalize gainOf (amaxA x) = G at hg ⊢
  intro z
  have e : k0_pay4 v z = G := pay4_apply v hg z
  dsimp only
  refine Eq.trans ?_ e
  rfl

/-- The bytes of codes the body leaves. -/
theorem out0_A_1_eq : out0_A_1 (F := Ideal) c i arg1 harg1 arg2 harg2 arg3 harg3 arg4 harg4 arg5 harg5 x = codesArr x (gainOf (amaxA x)) := by
  unfold out0_A_1
  rw [View.read_writes_junk_eq_canon]
  funext y
  exact View.canon_apply_of_pieces _ _ (body_pieces c i arg1 harg1 arg2 harg2 arg3 harg3 arg4 harg4 arg5 harg5 x).1.mem y (cover0_A_1 c i arg1 harg1 arg2 harg2 arg3 harg3 arg4 harg4 arg5 harg5 x y)

/-- The scales of blocks the body leaves. -/
theorem out0_A_2_eq : out0_A_2 (F := Ideal) c i arg1 harg1 arg2 harg2 arg3 harg3 arg4 harg4 arg5 harg5 x = scalesArr x (gainOf (amaxA x)) := by
  unfold out0_A_2
  rw [View.read_writes_junk_eq_canon]
  funext y
  exact View.canon_apply_of_pieces _ _ (body_pieces c i arg1 harg1 arg2 harg2 arg3 harg3 arg4 harg4 arg5 harg5 x).2.1.mem y (cover0_A_2 c i arg1 harg1 arg2 harg2 arg3 harg3 arg4 harg4 arg5 harg5 x y)

/-- The segment's scale, in every place of its output block. -/
theorem out0_A_3_eq : out0_A_3 (F := Ideal) c i arg1 harg1 arg2 harg2 arg3 harg3 arg4 harg4 arg5 harg5 x = fun _ => (gainOf (amaxA x) : Elt Ideal .f32) := by
  unfold out0_A_3
  rw [View.read_writes_junk_eq_canon]
  funext y
  exact View.canon_apply_of_pieces (fun _ => (gainOf (amaxA x) : Elt Ideal .f32)) _ (body_pieces c i arg1 harg1 arg2 harg2 arg3 harg3 arg4 harg4 arg5 harg5 x).2.2.1.mem y (cover0_A_3 c i arg1 harg1 arg2 harg2 arg3 harg3 arg4 harg4 arg5 harg5 x y)

/-- The decoded elements the body leaves. -/
theorem out0_A_4_eq : out0_A_4 (F := Ideal) c i arg1 harg1 arg2 harg2 arg3 harg3 arg4 harg4 arg5 harg5 x = xdqArr x (gainOf (amaxA x)) := by
  unfold out0_A_4
  rw [View.read_writes_junk_eq_canon]
  funext y
  exact View.canon_apply_of_pieces _ _ (body_pieces c i arg1 harg1 arg2 harg2 arg3 harg3 arg4 harg4 arg5 harg5 x).2.2.2.mem y (cover0_A_4 c i arg1 harg1 arg2 harg2 arg3 harg3 arg4 harg4 arg5 harg5 x y)

end Cert.KernelIdeal.Q
-- ==== Proof.MmVal.lean ====
module

public import proofs.«01_k».proof.Proof.Trip

@[expose] public section

set_option maxRecDepth 16384

noncomputable section

namespace Cert.KernelIdeal.Mm

open Idealize.ShloMosaic Idealize.SL.Sem Cert.KernelIdeal Cert.KernelIdeal.Gen Codec

/-- One chunk's product: rows of `a` against rows of `b`. -/
def cm (a b : FVec Ideal S1x512x256 .bf16) : FVec Ideal S512x512 .f32 :=
  matmul dot_S512x256_S512x256_S512x512_1_1_0_0_n_n none (shapeCast S512x256 a shapeCasts_S1x512x256_S512x256)
    (shapeCast S512x256 b shapeCasts_S1x512x256_S512x256) (constant S512x512 .f32 0x00000000#32)

/-- One chunk's product: a sum over 256 lanes. -/
theorem cm_apply (a b : FVec Ideal S1x512x256 .bf16) (m n : Fin 512) :
    cm a b (ix2 m n) = ∑ l : Fin 256, (a (ix3 (0 : Fin 1) m l) : EReal) * (b (ix3 (0 : Fin 1) n l) : EReal) := by
  unfold cm
  pointwise

/-- The products of the chunks `0` to `n`, added in order. -/
def chain (a b : ℕ → FVec Ideal S1x512x256 .bf16) : ℕ → FVec Ideal S512x512 .f32
  | 0 => cm (a 0) (b 0)
  | n + 1 => addf (chain a b n) (cm (a (n + 1)) (b (n + 1)))

/-- The chunks' products added up. -/
theorem chain_apply (a b : ℕ → FVec Ideal S1x512x256 .bf16) (m n : Fin 512) : ∀ t : ℕ,
    chain a b t (ix2 m n) = ∑ c ∈ Finset.range (t + 1), ∑ l : Fin 256, (a c (ix3 (0 : Fin 1) m l) : EReal) * (b c (ix3 (0 : Fin 1) n l) : EReal)
  | 0 => by
    rw [Finset.sum_range_one]
    exact cm_apply _ _ m n
  | t + 1 => by
    rw [Finset.sum_range_succ, ← chain_apply a b m n t, ← cm_apply]
    rfl

/-- A chunk lies within the array. -/
theorem chunk_inb (c : ℕ) : ∀ a, (![c % 28, 0, 0] : Fin 3 → ℕ) a + S1x512x256.size a ≤ S28x512x256.size a
  | ⟨0, _⟩ => by show c % 28 + 1 ≤ 28; omega
  | ⟨1, _⟩ => by show 0 + 512 ≤ 512; omega
  | ⟨2, _⟩ => by show 0 + 256 ≤ 256; omega

/-- Chunk `c` of a buffer of 28 chunks. -/
abbrev chunk (c : ℕ) : Rect S28x512x256 := Rect.unit ![c % 28, 0, 0] S1x512x256.size (chunk_inb c)

variable (c : Dev nD) (i : grid1.Coords) (arg2 : Memref sig .tc .smem S1 .f32) (harg2 : arg2.IsWhole) (arg3 : Memref sig .tc .smem S8 .f32) (harg3 : arg3.IsWhole) (arg4 : Memref sig .tc .vmem S28x512x256 .bf16) (harg4 : arg4.IsWhole) (arg5 : Memref sig .tc .vmem S512x3584 .i8) (harg5 : arg5.IsWhole) (arg6 : Memref sig .tc .vmem S512x448 .fp8e4m3) (harg6 : arg6.IsWhole) (arg7 : Memref sig .tc .vmem S1x512x512 .bf16) (harg7 : arg7.IsWhole) (arg8 : Memref sig .tc .vmem S28x512x256 .bf16) (harg8 : arg8.IsWhole)
  (x0 : Vec Ideal S1 .f32) (x1 : Vec Ideal S8 .f32) (x2 : Vec Ideal S28x512x256 .bf16) (x3 : Vec Ideal S512x3584 .i8) (x4 : Vec Ideal S512x448 .fp8e4m3)

/-- The chunks of the activations, as loaded. -/
def xs (t : ℕ) : FVec Ideal S1x512x256 .bf16 := View.readAt (Elt Ideal) arg4.view (chunk t).toLoadRect (harg4.unread x2)

/-- The chunks of the decoded weights, as loaded. -/
def ws (t : ℕ) : FVec Ideal S1x512x256 .bf16 :=
  arg8.view.readCov (pb_k1_t1 (F := Ideal) Variants.none c none i arg2 harg2 arg3 harg3 arg4 harg4 arg5 harg5 arg6 harg6 arg7 harg7 arg8 harg8 lanes (harg5.unread x3) (harg6.unread x4)
    (Scf.trips k1_t1_loop.lb k1_t1_loop.ub k1_t1_loop.st)) (chunk t).toLoadRect

set_option maxHeartbeats 4000000 in
/-- The accumulator the kernel forms is the chain of the 28 chunk products. -/
theorem sl_r_9_eq : k1_pay178 (kernelRun1_A.sl.r_9 (F := Ideal) c i arg2 harg2 arg3 harg3 arg4 harg4 arg5 harg5 arg6 harg6 arg7 harg7 arg8 harg8 x2 x3 x4)
    (xs arg4 harg4 x2 27) (ws c i arg2 harg2 arg3 harg3 arg4 harg4 arg5 harg5 arg6 harg6 arg7 harg7 arg8 harg8 x3 x4 27)
    = chain (xs arg4 harg4 x2) (ws c i arg2 harg2 arg3 harg3 arg4 harg4 arg5 harg5 arg6 harg6 arg7 harg7 arg8 harg8 x3 x4) 27 := by
  rfl

/-- Where a chunk's element lies in the array. -/
theorem idx_chunk (t : Fin 28) (m : Fin 512) (l : Fin 256) : (chunk t.val).toLoadRect.idx (ix3 (0 : Fin 1) m l) = ix3 t m l := by
  funext a
  match a with
  | ⟨0, _⟩ => exact Fin.ext (by show t.val % 28 + 1 * 0 = t.val; omega)
  | ⟨1, _⟩ => exact Fin.ext (by show 0 + 1 * m.val = m.val; omega)
  | ⟨2, _⟩ => exact Fin.ext (by show 0 + 1 * l.val = l.val; omega)

/-- A chunk of the decoded rows. -/
theorem xs_apply (t : Fin 28) (m : Fin 512) (l : Fin 256) : xs arg4 harg4 x2 t.val (ix3 (0 : Fin 1) m l) = x2 (ix3 t m l) := by
  unfold xs
  rw [harg4.readAt_unread, idx_chunk]

/-- A chunk of the decoded weights in the scratch buffer. -/
theorem ws_apply (t : Fin 28) (m : Fin 512) (l : Fin 256) : ws c i arg2 harg2 arg3 harg3 arg4 harg4 arg5 harg5 arg6 harg6 arg7 harg7 arg8 harg8 x3 x4 t.val (ix3 (0 : Fin 1) m l) = wdeq x3 x4 t m l := by
  have h := congrFun (scratch_read Variants.none c none i arg2 harg2 arg3 harg3 arg4 harg4 arg5 harg5 arg6 harg6 arg7 harg7 arg8 harg8 x3 x4 (chunk t.val).toLoadRect) (ix3 (0 : Fin 1) m l)
  have e : wdeqA x3 x4 ((chunk t.val).toLoadRect.idx (ix3 (0 : Fin 1) m l)) = wdeq x3 x4 t m l := by rw [idx_chunk]; rfl
  exact h.trans e

/-- The products of one row of activations with one row of decoded weights. -/
def dotRow (m n : Fin 512) : EReal := ∑ t : Fin 28, ∑ l : Fin 256, (x2 (ix3 t m l) : EReal) * wdeq x3 x4 t n l

/-- The accumulator after the last chunk. -/
theorem acc_apply (m n : Fin 512) :
    chain (xs arg4 harg4 x2) (ws c i arg2 harg2 arg3 harg3 arg4 harg4 arg5 harg5 arg6 harg6 arg7 harg7 arg8 harg8 x3 x4) 27 (ix2 m n) = dotRow x2 x3 x4 m n := by
  rw [chain_apply, Finset.sum_range]
  refine Finset.sum_congr rfl fun t _ => Finset.sum_congr rfl fun l _ => ?_
  rw [xs_apply, ws_apply]

/-- What the matmul call leaves in one block of its result. -/
def mmBlk (y : S1x512x512.Idx) : Elt Ideal .bf16 :=
  (dotRow x2 x3 x4 (y 1) (y 2) * (x1 (ix1 ⟨2 * (i 0).val + (y 1).val / 256, by
    have h0 : (i 0).val < 4 := (i 0).isLt
    have h1 : (y 1).val < 512 := (y 1).isLt
    omega⟩) : EReal)) * (x0 (ix1 0) : EReal)

/-- The index of the first segment's scale. -/
theorem off89_lo : k1_off89 i 0#32 = ![2 * (i 0).val] := by
  have h : ∀ z : Fin 4, ((Scalar.indexCast (Scalar.addi (Scalar.muli (BitVec.ofNat 32 z.val) 2#32) 0#32) : Index).toNat) = 2 * z.val := by decide +kernel
  exact congrArg (fun q => (![q] : Fin 1 → ℕ)) (h (i 0))

/-- The index of the second segment's scale. -/
theorem off89_hi : k1_off89 i 1#32 = ![2 * (i 0).val + 1] := by
  have h : ∀ z : Fin 4, ((Scalar.indexCast (Scalar.addi (Scalar.muli (BitVec.ofNat 32 z.val) 2#32) 1#32) : Index).toNat) = 2 * z.val + 1 := by decide +kernel
  exact congrArg (fun q => (![q] : Fin 1 → ℕ)) (h (i 0))

/-- The first segment's scale. -/
theorem g_lo : kernelRun1_A.sl.r_10 (F := Ideal) c i arg3 harg3 x1 = x1 (ix1 ⟨2 * (i 0).val, by have h0 : (i 0).val < 4 := (i 0).isLt; omega⟩) := by
  unfold kernelRun1_A.sl.r_10
  rw [harg3.readAt_unread]
  refine congrArg x1 (funext fun a => ?_)
  match a with
  | ⟨0, _⟩ => exact Fin.ext (by show k1_off89 i 0#32 0 + 1 * 0 = 2 * (i 0).val; rw [off89_lo]; rfl)

/-- The second segment's scale. -/
theorem g_hi : kernelRun1_A.sl.r_12 (F := Ideal) c i arg3 harg3 x1 = x1 (ix1 ⟨2 * (i 0).val + 1, by have h0 : (i 0).val < 4 := (i 0).isLt; omega⟩) := by
  unfold kernelRun1_A.sl.r_12
  rw [harg3.readAt_unread]
  refine congrArg x1 (funext fun a => ?_)
  match a with
  | ⟨0, _⟩ => exact Fin.ext (by show k1_off89 i 1#32 0 + 1 * 0 = 2 * (i 0).val + 1; rw [off89_hi]; rfl)

/-- The weights' global scale. -/
theorem wg_read : kernelRun1_A.sl.r_11 (F := Ideal) c arg2 harg2 x0 = x0 (ix1 0) := by
  unfold kernelRun1_A.sl.r_11
  rw [harg2.readAt_unread]
  refine congrArg x0 (funext fun a => ?_)
  match a with
  | ⟨0, _⟩ => rfl

/-- The rows of the first half of the block are scaled by the block's first segment scale. -/
theorem pay179_apply (v : FVec Ideal S512x512 .f32) (a b : FVec Ideal S1x512x256 .bf16) (g w : Elt Ideal .f32) (u : Fin 1) (m : Fin 256) (n : Fin 512) :
    k1_pay179 v a b g w (ix3 u m n) = ((k1_pay178 v a b (ix2 (⟨m.val, by omega⟩ : Fin 512) n) : EReal) * (g : EReal)) * (w : EReal) := by
  unfold k1_pay179
  pointwise

/-- The rows of the second half of the block are scaled by the block's second segment scale. -/
theorem pay180_apply (v : FVec Ideal S512x512 .f32) (a b : FVec Ideal S1x512x256 .bf16) (g w : Elt Ideal .f32) (u : Fin 1) (m : Fin 256) (n : Fin 512) :
    k1_pay180 v a b g w (ix3 u m n) = ((k1_pay178 v a b (ix2 (⟨256 + m.val, by omega⟩ : Fin 512) n) : EReal) * (g : EReal)) * (w : EReal) := by
  unfold k1_pay180
  pointwise

/-- Where an element of half an output block lies in the block. -/
theorem emb_half (h : ℕ) {od : Fin 3 → ℕ} (inb) (ho : od = ![0, h, 0]) (hh : h + 256 ≤ 512) (u : Fin 1) (m : Fin 256) (n : Fin 512) :
    (Rect.unit (s := S1x512x512) od S1x256x512.size inb).emb (ix3 u m n) = ix3 (0 : Fin 1) (⟨h + m.val, by omega⟩ : Fin 512) n := by
  subst ho
  have hu : u.val = 0 := by omega
  funext a
  match a with
  | ⟨0, _⟩ => exact Fin.ext (by show 0 + 1 * u.val = 0; omega)
  | ⟨1, _⟩ => exact Fin.ext (by show h + 1 * m.val = h + m.val; omega)
  | ⟨2, _⟩ => exact Fin.ext (by show 0 + 1 * n.val = n.val; omega)

/-- Both stores of the matmul call are blocks of `mmBlk`. -/
theorem out_pieces : View.PiecesOf (mmBlk i x0 x1 x2 x3 x4) (kernelRun1_A (F := Ideal) c i arg2 harg2 arg3 harg3 arg4 harg4 arg5 harg5 arg6 harg6 arg7 harg7 arg8 harg8 x0 x1 x2 x3 x4).1 := by
  unfold kernelRun1_A
  dsimp only
  refine ⟨fun x => ?_, fun x => ?_, trivial⟩
  · obtain ⟨u, m, n, rfl⟩ : ∃ (u : Fin 1) (m : Fin 256) (n : Fin 512), x = ix3 u m n := ⟨x 0, x 1, x 2, eq_ix3 x⟩
    refine (pay180_apply _ _ _ _ _ u m n).trans ?_
    rw [emb_half 256 _ rfl (by omega), g_hi, wg_read]
    refine (congrArg (fun z : EReal => (z * _) * _) ((congrFun (sl_r_9_eq c i arg2 harg2 arg3 harg3 arg4 harg4 arg5 harg5 arg6 harg6 arg7 harg7 arg8 harg8 x2 x3 x4) _).trans (acc_apply c i arg2 harg2 arg3 harg3 arg4 harg4 arg5 harg5 arg6 harg6 arg7 harg7 arg8 harg8 x2 x3 x4 _ n))).trans ?_
    unfold mmBlk
    refine congrArg (fun z => (dotRow x2 x3 x4 _ n * (x1 (ix1 z) : EReal)) * (x0 (ix1 0) : EReal)) (Fin.ext ?_)
    show 2 * (i 0).val + 1 = 2 * (i 0).val + (256 + m.val) / 256
    omega
  · obtain ⟨u, m, n, rfl⟩ : ∃ (u : Fin 1) (m : Fin 256) (n : Fin 512), x = ix3 u m n := ⟨x 0, x 1, x 2, eq_ix3 x⟩
    refine (pay179_apply _ _ _ _ _ u m n).trans ?_
    rw [emb_half 0 _ rfl (by omega), g_lo, wg_read]
    refine (congrArg (fun z : EReal => (z * _) * _) ((congrFun (sl_r_9_eq c i arg2 harg2 arg3 harg3 arg4 harg4 arg5 harg5 arg6 harg6 arg7 harg7 arg8 harg8 x2 x3 x4) _).trans (acc_apply c i arg2 harg2 arg3 harg3 arg4 harg4 arg5 harg5 arg6 harg6 arg7 harg7 arg8 harg8 x2 x3 x4 _ n))).trans ?_
    unfold mmBlk
    have h0 : (⟨m.val, by omega⟩ : Fin 512) = ⟨0 + m.val, by omega⟩ := Fin.ext (by simp)
    rw [h0]
    refine congrArg (fun z => (dotRow x2 x3 x4 _ n * (x1 (ix1 z) : EReal)) * (x0 (ix1 0) : EReal)) (Fin.ext ?_)
    show 2 * (i 0).val = 2 * (i 0).val + (0 + m.val) / 256
    omega

/-- What the matmul call's body leaves in its output block. -/
theorem out1_A_5_eq : out1_A_5 (F := Ideal) c i arg2 harg2 arg3 harg3 arg4 harg4 arg5 harg5 arg6 harg6 arg7 harg7 arg8 harg8 x0 x1 x2 x3 x4 = mmBlk i x0 x1 x2 x3 x4 := by
  unfold out1_A_5
  rw [View.read_writes_junk_eq_canon]
  funext y
  exact View.canon_apply_of_pieces _ _ (out_pieces c i arg2 harg2 arg3 harg3 arg4 harg4 arg5 harg5 arg6 harg6 arg7 harg7 arg8 harg8 x0 x1 x2 x3 x4).mem y (cover1_A_5 c i arg2 harg2 arg3 harg3 arg4 harg4 arg5 harg5 arg6 harg6 arg7 harg7 arg8 harg8 x0 x1 x2 x3 x4 y)

end Cert.KernelIdeal.Mm
-- ==== Proof.KArr.lean ====
module

public import proofs.«01_k».proof.Proof.QG
public import proofs.«01_k».proof.Proof.MmVal
public import Idealize.ShloMosaic.Lib.Pipeline.ValueKit

@[expose] public section

set_option maxRecDepth 16384

noncomputable section

namespace Cert.KernelIdeal.Out

open Idealize.ShloMosaic Idealize.SL.Sem Cert.KernelIdeal Cert.KernelIdeal.Gen Codec Q

variable (X : Vec Ideal S1x2048x7168 .bf16)

/-- The rows of segment `s`. -/
def seg (s : Fin 8) : Vec Ideal S1x256x7168 .bf16 := fun y => X (ix3 (0 : Fin 1) ⟨256 * s.val + (y 1).val, by have h : (y 1).val < 256 := (y 1).isLt; omega⟩ (y 2))

/-- The scale of segment `s`. -/
def gain (s : Fin 8) : EReal := gainOf (amaxA (seg X s))

/-- The segment of a row. -/
def sg (r : Fin 2048) : Fin 8 := ⟨r.val / 256, by omega⟩

/-- The place of a row in its segment. -/
def lo (r : Fin 2048) : Fin 256 := ⟨r.val % 256, by omega⟩

/-- All bytes of codes. -/
def codesAll : S1x2048x3584.Idx → Elt Ideal .i8 := fun y => codesBlk (seg X (sg (y 1))) (gain X (sg (y 1))) (lo (y 1)) (y 2)

/-- All scales of blocks. -/
def scalesAll : S1x2048x448.Idx → Elt Ideal .fp8e4m3 := fun y => scaleA (seg X (sg (y 1))) (gain X (sg (y 1))) (lo (y 1)) (y 2)

/-- The segments' scales, each filling an 8 × 128 tile. -/
def gainsAll : S8x8x128.Idx → Elt Ideal .f32 := fun y => gain X (y 0)

/-- All decoded elements. -/
def xdqAll : S28x2048x256.Idx → Elt Ideal .bf16 := fun y => xdqBlk (seg X (sg (y 1))) (gain X (sg (y 1))) (y 0) (lo (y 1)) (y 2)

section Region0

variable (V : (c : Dev nD) → (b : Ref sig .tc) → Buf (Elt Ideal) ((c.tc : Thread nD τ).loc b)) (c : Dev nD)

/-- Which block of window 0 a point of call 0 reads or writes. -/
theorem index0_0 : ∀ t : Fin cfg0.N, win0_0.index t = ![0, t.val, 0] := (by decide +kernel : ∀ t : Fin grid0.N, _)
/-- Which block of window 1 a point of call 0 reads or writes. -/
theorem index0_1 : ∀ t : Fin cfg0.N, win0_1.index t = ![0, t.val, 0] := (by decide +kernel : ∀ t : Fin grid0.N, _)
/-- Which block of window 2 a point of call 0 reads or writes. -/
theorem index0_2 : ∀ t : Fin cfg0.N, win0_2.index t = ![0, t.val, 0] := (by decide +kernel : ∀ t : Fin grid0.N, _)
/-- Which block of window 3 a point of call 0 reads or writes. -/
theorem index0_3 : ∀ t : Fin cfg0.N, win0_3.index t = ![t.val, 0, 0] := (by decide +kernel : ∀ t : Fin grid0.N, _)
/-- Which block of window 4 a point of call 0 reads or writes. -/
theorem index0_4 : ∀ t : Fin cfg0.N, win0_4.index t = ![0, t.val, 0] := (by decide +kernel : ∀ t : Fin grid0.N, _)

/-- The quantiser's grid has eight points. -/
theorem lt8 (t : Fin cfg0.N) : t.val < 8 := Nat.lt_of_lt_of_le t.isLt (by decide +kernel)

/-- The block of `x` a point reads is its segment. -/
theorem iblk_seg (t : Fin cfg0.N) : iblk0 V c 0 t = seg (V c main_arg0) ⟨t.val, lt8 t⟩ := by
  funext y
  unfold seg
  blk_simp [iblk0]
  refine congrArg (V c main_arg0) (funext fun a => ?_)
  have h0 : (y 0).val < 1 := (y 0).isLt
  match a with
  | ⟨0, _⟩ => refine Fin.ext ?_; blk_simp [index0_0]; rfl
  | ⟨1, _⟩ => refine Fin.ext ?_; blk_simp [index0_0]; show t.val * 256 + (y 1).val = 256 * t.val + (y 1).val; omega
  | ⟨2, _⟩ => refine Fin.ext ?_; blk_simp [index0_0]; rfl

/-- The segment of a row given by segment and place. -/
theorem sg_of (s : Fin 8) (r : Fin 256) (h : 256 * s.val + r.val < 2048) : sg ⟨256 * s.val + r.val, h⟩ = s := Fin.ext (by show (256 * s.val + r.val) / 256 = s.val; omega)

/-- The place of a row given by segment and place. -/
theorem lo_of (s : Fin 8) (r : Fin 256) (h : 256 * s.val + r.val < 2048) : lo ⟨256 * s.val + r.val, h⟩ = r := Fin.ext (by show (256 * s.val + r.val) % 256 = r.val; omega)

/-- What window 1 of call 0 leaves in its array. -/
theorem final0_1 : (dat0 V c).arrAt 1 cfg0.N = codesAll (V c main_arg0) := by
  refine (dat0 V c).arrAt_eq_of_covers 1 _ (by decide +kernel) fun t hf y => ?_
  blk_simp
  rw [after0_1]
  unfold outsAt0
  dsimp only
  rw [out0_A_1_eq, iblk_seg]
  have e : ((View.whole main_v0_0).slice (win0_1.rect t)).emb y = ix3 (0 : Fin 1) (⟨256 * t.val + (y 1).val, by have := lt8 t; have h : (y 1).val < 256 := (y 1).isLt; omega⟩ : Fin 2048) (y 2) := by
    have h0 : (y 0).val < 1 := (y 0).isLt
    funext a
    match a with
    | ⟨0, _⟩ => refine Fin.ext ?_; blk_simp [index0_1]; rfl
    | ⟨1, _⟩ => refine Fin.ext ?_; blk_simp [index0_1]; show t.val * 256 + (y 1).val = 256 * t.val + (y 1).val; omega
    | ⟨2, _⟩ => refine Fin.ext ?_; blk_simp [index0_1]; rfl
  rw [e]
  unfold codesAll codesArr gain
  show _ = codesBlk (seg _ (sg ⟨256 * t.val + (y 1).val, _⟩)) (gainOf (amaxA (seg _ (sg ⟨256 * t.val + (y 1).val, _⟩)))) (lo ⟨256 * t.val + (y 1).val, _⟩) (y 2)
  rw [sg_of ⟨t.val, lt8 t⟩ (y 1), lo_of ⟨t.val, lt8 t⟩ (y 1)]

/-- What window 2 of call 0 leaves in its array. -/
theorem final0_2 : (dat0 V c).arrAt 2 cfg0.N = scalesAll (V c main_arg0) := by
  refine (dat0 V c).arrAt_eq_of_covers 2 _ (by decide +kernel) fun t hf y => ?_
  blk_simp
  rw [after0_2]
  unfold outsAt0
  dsimp only
  rw [out0_A_2_eq, iblk_seg]
  have e : ((View.whole main_v0_1).slice (win0_2.rect t)).emb y = ix3 (0 : Fin 1) (⟨256 * t.val + (y 1).val, by have := lt8 t; have h : (y 1).val < 256 := (y 1).isLt; omega⟩ : Fin 2048) (y 2) := by
    have h0 : (y 0).val < 1 := (y 0).isLt
    funext a
    match a with
    | ⟨0, _⟩ => refine Fin.ext ?_; blk_simp [index0_2]; rfl
    | ⟨1, _⟩ => refine Fin.ext ?_; blk_simp [index0_2]; show t.val * 256 + (y 1).val = 256 * t.val + (y 1).val; omega
    | ⟨2, _⟩ => refine Fin.ext ?_; blk_simp [index0_2]; rfl
  rw [e]
  unfold scalesAll scalesArr gain
  show _ = scaleA (seg _ (sg ⟨256 * t.val + (y 1).val, _⟩)) (gainOf (amaxA (seg _ (sg ⟨256 * t.val + (y 1).val, _⟩)))) (lo ⟨256 * t.val + (y 1).val, _⟩) (y 2)
  rw [sg_of ⟨t.val, lt8 t⟩ (y 1), lo_of ⟨t.val, lt8 t⟩ (y 1)]

/-- What window 3 of call 0 leaves in its array. -/
theorem final0_3 : (dat0 V c).arrAt 3 cfg0.N = gainsAll (V c main_arg0) := by
  refine (dat0 V c).arrAt_eq_of_covers 3 _ (by decide +kernel) fun t hf y => ?_
  blk_simp
  rw [after0_3]
  unfold outsAt0
  dsimp only
  rw [out0_A_3_eq, iblk_seg]
  have e : ((View.whole main_v0_2).slice (win0_3.rect t)).emb y 0 = (⟨t.val, lt8 t⟩ : Fin 8) := by
    refine Fin.ext ?_
    blk_simp [index0_3]
  exact congrArg (gain (V c main_arg0)) e.symm

/-- What window 4 of call 0 leaves in its array. -/
theorem final0_4 : (dat0 V c).arrAt 4 cfg0.N = xdqAll (V c main_arg0) := by
  refine (dat0 V c).arrAt_eq_of_covers 4 _ (by decide +kernel) fun t hf y => ?_
  blk_simp
  rw [after0_4]
  unfold outsAt0
  dsimp only
  rw [out0_A_4_eq, iblk_seg]
  have e : ((View.whole main_v0_3).slice (win0_4.rect t)).emb y = ix3 (y 0) (⟨256 * t.val + (y 1).val, by have := lt8 t; have h : (y 1).val < 256 := (y 1).isLt; omega⟩ : Fin 2048) (y 2) := by
    funext a
    match a with
    | ⟨0, _⟩ => refine Fin.ext ?_; blk_simp [index0_4]; rfl
    | ⟨1, _⟩ => refine Fin.ext ?_; blk_simp [index0_4]; show t.val * 256 + (y 1).val = 256 * t.val + (y 1).val; omega
    | ⟨2, _⟩ => refine Fin.ext ?_; blk_simp [index0_4]; rfl
  rw [e]
  unfold xdqAll xdqArr gain
  show _ = xdqBlk (seg _ (sg ⟨256 * t.val + (y 1).val, _⟩)) (gainOf (amaxA (seg _ (sg ⟨256 * t.val + (y 1).val, _⟩)))) (y 0) (lo ⟨256 * t.val + (y 1).val, _⟩) (y 2)
  rw [sg_of ⟨t.val, lt8 t⟩ (y 1), lo_of ⟨t.val, lt8 t⟩ (y 1)]

end Region0

section Region1

variable (V : (c : Dev nD) → (b : Ref sig .tc) → Buf (Elt Ideal) ((c.tc : Thread nD τ).loc b)) (c : Dev nD)

/-- The matmul call's result, from its five operands. -/
def mmAll (w : Vec Ideal S1 .f32) (g : Vec Ideal S8 .f32) (xd : Vec Ideal S28x2048x256 .bf16) (wc : Vec Ideal S4608x3584 .i8) (ws : Vec Ideal S4608x448 .fp8e4m3) : S1x2048x4608.Idx → Elt Ideal .bf16 := fun y =>
  ((∑ t : Fin 28, ∑ l : Fin 256, (xd (ix3 t (y 1) l) : EReal)
      * (e2m1 (if l.val < 128 then nibLo (wc (ix2 (y 2) ⟨128 * t.val + l.val % 128, by omega⟩)) else nibHi (wc (ix2 (y 2) ⟨128 * t.val + l.val % 128, by omega⟩)))
        * (ws (ix2 (y 2) ⟨16 * t.val + l.val % 128 / 8, by omega⟩) : EReal))) * (g (ix1 (sg (y 1))) : EReal)) * (w (ix1 0) : EReal)

/-- Which block of window 0 a point of call 1 reads or writes. -/
theorem index1_0 : ∀ t : Fin cfg1.N, win1_0.index t = ![0] := (by decide +kernel : ∀ t : Fin grid1.N, _)
/-- Which block of window 1 a point of call 1 reads or writes. -/
theorem index1_1 : ∀ t : Fin cfg1.N, win1_1.index t = ![0] := (by decide +kernel : ∀ t : Fin grid1.N, _)
/-- Which block of window 2 a point of call 1 reads or writes. -/
theorem index1_2 : ∀ t : Fin cfg1.N, win1_2.index t = ![0, (grid1.coords t 0).val, 0] := (by decide +kernel : ∀ t : Fin grid1.N, _)
/-- Which block of window 3 a point of call 1 reads or writes. -/
theorem index1_3 : ∀ t : Fin cfg1.N, win1_3.index t = ![(grid1.coords t 1).val, 0] := (by decide +kernel : ∀ t : Fin grid1.N, _)
/-- Which block of window 4 a point of call 1 reads or writes. -/
theorem index1_4 : ∀ t : Fin cfg1.N, win1_4.index t = ![(grid1.coords t 1).val, 0] := (by decide +kernel : ∀ t : Fin grid1.N, _)
/-- Which block of window 5 a point of call 1 reads or writes. -/
theorem index1_5 : ∀ t : Fin cfg1.N, win1_5.index t = ![0, (grid1.coords t 0).val, (grid1.coords t 1).val] := (by decide +kernel : ∀ t : Fin grid1.N, _)

/-- The block of window 0 that a point of call 1 reads. -/
theorem iblk1_0_eq (t : Fin cfg1.N) : iblk1 V c 0 t (ix1 (0 : Fin 1)) = V c main_arg3 (ix1 (0 : Fin 1)) := by
  blk_simp [iblk1]
  refine congrArg (V c main_arg3) (funext fun a => ?_)
  match a with
  | ⟨0, _⟩ => refine Fin.ext ?_; blk_simp [index1_0]

/-- The block of window 1 that a point of call 1 reads. -/
theorem iblk1_1_eq (t : Fin cfg1.N) (k : Fin 8) : iblk1 V c 1 t (ix1 k) = V c main_v2 (ix1 k) := by
  blk_simp [iblk1]
  refine congrArg (V c main_v2) (funext fun a => ?_)
  match a with
  | ⟨0, _⟩ => refine Fin.ext ?_; blk_simp [index1_1]

/-- The block of window 2 that a point of call 1 reads. -/
theorem iblk1_2_eq (t : Fin cfg1.N) (k : Fin 28) (r : Fin 512) (l : Fin 256) (h : 512 * (grid1.coords t 0).val + r.val < 2048) :
    iblk1 V c 2 t (ix3 k r l) = V c main_v0_3 (ix3 k (⟨512 * (grid1.coords t 0).val + r.val, h⟩ : Fin 2048) l) := by
  blk_simp [iblk1]
  refine congrArg (V c main_v0_3) (funext fun a => ?_)
  match a with
  | ⟨0, _⟩ => refine Fin.ext ?_; blk_simp [index1_2]
  | ⟨1, _⟩ => refine Fin.ext ?_; blk_simp [index1_2]; show (grid1.coords t 0).val * 512 + r.val = 512 * (grid1.coords t 0).val + r.val; omega
  | ⟨2, _⟩ => refine Fin.ext ?_; blk_simp [index1_2]

/-- The block of window 3 that a point of call 1 reads. -/
theorem iblk1_3_eq (t : Fin cfg1.N) (r : Fin 512) (l : Fin 3584) (h : 512 * (grid1.coords t 1).val + r.val < 4608) :
    iblk1 V c 3 t (ix2 r l) = V c main_arg1 (ix2 (⟨512 * (grid1.coords t 1).val + r.val, h⟩ : Fin 4608) l) := by
  blk_simp [iblk1]
  refine congrArg (V c main_arg1) (funext fun a => ?_)
  match a with
  | ⟨0, _⟩ => refine Fin.ext ?_; blk_simp [index1_3]; show (grid1.coords t 1).val * 512 + r.val = 512 * (grid1.coords t 1).val + r.val; omega
  | ⟨1, _⟩ => refine Fin.ext ?_; blk_simp [index1_3]

/-- The block of window 4 that a point of call 1 reads. -/
theorem iblk1_4_eq (t : Fin cfg1.N) (r : Fin 512) (l : Fin 448) (h : 512 * (grid1.coords t 1).val + r.val < 4608) :
    iblk1 V c 4 t (ix2 r l) = V c main_arg2 (ix2 (⟨512 * (grid1.coords t 1).val + r.val, h⟩ : Fin 4608) l) := by
  blk_simp [iblk1]
  refine congrArg (V c main_arg2) (funext fun a => ?_)
  match a with
  | ⟨0, _⟩ => refine Fin.ext ?_; blk_simp [index1_4]; show (grid1.coords t 1).val * 512 + r.val = 512 * (grid1.coords t 1).val + r.val; omega
  | ⟨1, _⟩ => refine Fin.ext ?_; blk_simp [index1_4]

/-- What window 5 of call 1 leaves in its array. -/
theorem final1_5 : (dat1 V c).arrAt 5 cfg1.N = mmAll (V c main_arg3) (V c main_v2) (V c main_v0_3) (V c main_arg1) (V c main_arg2) := by
  refine (dat1 V c).arrAt_eq_of_covers 5 _ (by decide +kernel) fun t hf y => ?_
  blk_simp
  rw [after1_5]
  unfold outsAt1
  rw [Mm.out1_A_5_eq]
  have hi0 : (grid1.coords t 0).val < 4 := (grid1.coords t 0).isLt
  have hi1 : (grid1.coords t 1).val < 9 := (grid1.coords t 1).isLt
  have hy1 : (y 1).val < 512 := (y 1).isLt
  have hy2 : (y 2).val < 512 := (y 2).isLt
  have e : ((View.whole main_v3).slice (win1_5.rect t)).emb y = ix3 (0 : Fin 1) (⟨512 * (grid1.coords t 0).val + (y 1).val, by omega⟩ : Fin 2048) (⟨512 * (grid1.coords t 1).val + (y 2).val, by omega⟩ : Fin 4608) := by
    have h0 : (y 0).val < 1 := (y 0).isLt
    funext a
    match a with
    | ⟨0, _⟩ => refine Fin.ext ?_; blk_simp [index1_5]; rfl
    | ⟨1, _⟩ => refine Fin.ext ?_; blk_simp [index1_5]; show (grid1.coords t 0).val * 512 + (y 1).val = 512 * (grid1.coords t 0).val + (y 1).val; omega
    | ⟨2, _⟩ => refine Fin.ext ?_; blk_simp [index1_5]; show (grid1.coords t 1).val * 512 + (y 2).val = 512 * (grid1.coords t 1).val + (y 2).val; omega
  rw [e]
  unfold Mm.mmBlk mmAll
  refine congrArg₂ (fun a b : EReal => a * b) (congrArg₂ (fun a b : EReal => a * b) ?_ ?_) (iblk1_0_eq V c t)
  · unfold Mm.dotRow
    refine Finset.sum_congr rfl fun k _ => Finset.sum_congr rfl fun l _ => ?_
    refine congrArg₂ (fun a b : EReal => a * b) (iblk1_2_eq V c t k (y 1) l _) ?_
    unfold Mm.wdeq
    refine congrArg₂ (fun a b : EReal => a * b) ?_ (iblk1_4_eq V c t (y 2) _ _)
    refine congrArg e2m1 ?_
    exact congrArg (fun b => if l.val < 128 then nibLo b else nibHi b) (iblk1_3_eq V c t (y 2) _ _)
  · refine (iblk1_1_eq V c t _).trans (congrArg (fun k => V c main_v2 (ix1 k)) (Fin.ext ?_))
    show 2 * (grid1.coords t 0).val + (y 1).val / 256 = (512 * (grid1.coords t 0).val + (y 1).val) / 256
    omega

end Region1

end Cert.KernelIdeal.Out
-- ==== Proof.KRun.lean ====
module

public import proofs.«01_k».proof.Proof.KArr

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel terminates, and its results hold what the last segment leaves. -/
theorem run : θ_run defs (onTc (τ := τ) (main (F := Ideal))) ⟨m, fun _ => 0, ρ⟩ (fun r => ∀ c : Dev nD,
      (r.2.mem ((c.tc : Thread nD τ).loc main_v3) = W3 m ρ c (Proc.devRef .tc main_v3)
      ∧ r.2.mem ((c.tc : Thread nD τ).loc main_v0_0) = W3 m ρ c (Proc.devRef .tc main_v0_0)
      ∧ r.2.mem ((c.tc : Thread nD τ).loc main_v0_1) = W3 m ρ c (Proc.devRef .tc main_v0_1)
      ∧ r.2.mem ((c.tc : Thread nD τ).loc main_v2) = W3 m ρ c (Proc.devRef .tc main_v2))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v3 (by decide)), h c _ (mem_uc main_v0_0 (by decide)), h c _ (mem_uc main_v0_1 (by decide)), h c _ (mem_uc main_v2 (by decide))⟩)

/-- The argument the quantiser reads, at launch. -/
abbrev argX (c : Dev nD) : Vec Ideal S1x2048x7168 .bf16 := m ((c.tc : Thread nD τ).loc main_arg0)

/-- The bytes of the codes at the end. -/
theorem W3_codes (c : Dev nD) : W3 m ρ c (Proc.devRef .tc main_v0_0) = codesAll (argX m c) :=
  ((W3_of m ρ c main_v0_0 (by decide +kernel)).trans (W2_of m ρ c main_v0_0 (by decide))).trans
    ((W1_arr m ρ c 1).trans (final0_1 (V0 m ρ) c))

/-- The block scales at the end. -/
theorem W3_scales (c : Dev nD) : W3 m ρ c (Proc.devRef .tc main_v0_1) = scalesAll (argX m c) :=
  ((W3_of m ρ c main_v0_1 (by decide +kernel)).trans (W2_of m ρ c main_v0_1 (by decide))).trans
    ((W1_arr m ρ c 2).trans (final0_2 (V0 m ρ) c))

/-- The segment scales after the quantiser. -/
theorem W1_gains (c : Dev nD) : W1 m ρ c (Proc.devRef .tc main_v0_2) = gainsAll (argX m c) :=
  (W1_arr m ρ c 3).trans (final0_3 (V0 m ρ) c)

/-- The decoded elements after the quantiser. -/
theorem W1_xdq (c : Dev nD) : W1 m ρ c (Proc.devRef .tc main_v0_3) = xdqAll (argX m c) :=
  (W1_arr m ρ c 4).trans (final0_4 (V0 m ρ) c)

/-- The eight segment scales, as the host slices them out. -/
def gains8 (X : Vec Ideal S1x2048x7168 .bf16) : S8.Idx → Elt Ideal .f32 := fun y => gain X (y 0)

/-- Slicing and reshaping reads one entry of each segment's tile. -/
theorem gains8_eq (G : Vec Ideal S8x8x128 .f32) (k : Fin 8) :
    (shapeCast S8 (extractStridedSlice S8x1x1 ![0, 0, 0] G slices_S8x8x128_S8x1x1_0_0_0) shapeCasts_S8x1x1_S8) (ix1 k) = G (ix3 k (0 : Fin 8) (0 : Fin 128)) := by
  pointwise

/-- The eight segment scales before the matmul. -/
theorem W2_gains (c : Dev nD) : W2 m ρ c (Proc.devRef .tc main_v2) = gains8 (argX m c) := by
  have h : W2 m ρ c (Proc.devRef .tc main_v2)
      = shapeCast S8 (extractStridedSlice S8x1x1 ![0, 0, 0] (W1 m ρ c (Proc.devRef .tc main_v0_2) : Vec Ideal S8x8x128 .f32) slices_S8x8x128_S8x1x1_0_0_0) shapeCasts_S8x1x1_S8 := by
    unfold W2
    after_results
    rfl
  rw [h, W1_gains]
  funext y
  obtain ⟨k, rfl⟩ : ∃ k : Fin 8, y = ix1 k := ⟨y 0, eq_ix1 y⟩
  exact gains8_eq _ k

/-- The eight segment scales at the end. -/
theorem W3_gains (c : Dev nD) : W3 m ρ c (Proc.devRef .tc main_v2) = gains8 (argX m c) :=
  (W3_of m ρ c main_v2 (by decide +kernel)).trans (W2_gains m ρ c)

/-- The matmul's result at the end. -/
theorem W3_out (c : Dev nD) : W3 m ρ c (Proc.devRef .tc main_v3)
    = mmAll (m ((c.tc : Thread nD τ).loc main_arg3)) (gains8 (argX m c)) (xdqAll (argX m c)) (m ((c.tc : Thread nD τ).loc main_arg1)) (m ((c.tc : Thread nD τ).loc main_arg2)) := by
  refine (W3_arr m ρ c 5).trans ((final1_5 (V2 m ρ) c).trans ?_)
  have e0 : V2 m ρ c main_arg3 = m ((c.tc : Thread nD τ).loc main_arg3) := W2_args m ρ c main_arg3 (by decide)
  have e1 : V2 m ρ c main_v2 = gains8 (argX m c) := W2_gains m ρ c
  have e2 : V2 m ρ c main_v0_3 = xdqAll (argX m c) := (W2_of m ρ c main_v0_3 (by decide)).trans (W1_xdq m ρ c)
  have e3 : V2 m ρ c main_arg1 = m ((c.tc : Thread nD τ).loc main_arg1) := W2_args m ρ c main_arg1 (by decide)
  have e4 : V2 m ρ c main_arg2 = m ((c.tc : Thread nD τ).loc main_arg2) := W2_args m ρ c main_arg2 (by decide)
  rw [e0, e1, e2, e3, e4]

end Cert.KernelIdeal.Out
-- ==== Proof.RDef.lean ====
module

public import proofs.«01_k».proof.Proof.Gen.ReferenceIdeal.Frame
public import Idealize.ShloMosaic.Lib.StableHlo.ReadAt
public import Idealize.ShloMosaic.PureOps.Ideal
public import Idealize.ShloMosaic.Lib.Pointwise

/-!
The reference's host lines as functions of whole arrays, one per quantity that the text names, and the proof that
the lines compute them: each stretch of lines is read from any contents of the buffers before it.
-/

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen

/-- `x` at f32, its rows split in segments and its columns in blocks of sixteen. -/
def wideA (x : FVec Ideal S1x2048x7168 .bf16) : FVec Ideal S1x8x256x448x16 .f32 :=
  shapeCast S1x8x256x448x16 (extf .f32 x bitsLt_bf16_f32) shapeCasts_S1x2048x7168_S1x8x256x448x16

/-- The magnitudes of an array of blocks. -/
def absA (v : FVec Ideal S1x8x256x448x16 .f32) : FVec Ideal S1x8x256x448x16 .f32 := Host.absf v

/-- Each segment's greatest magnitude. -/
def peakA (a : FVec Ideal S1x8x256x448x16 .f32) : FVec Ideal S8 .f32 :=
  Host.reduce FloatOps.maximumf a (constant S_ .f32 0xFF800000#32) reducesTo_S1x8x256x448x16_S8_d0_2_3_4 h_S_

/-- Each segment's global scale, from its greatest magnitude. -/
def gainA (p : FVec Ideal S8 .f32) : FVec Ideal S8 .f32 :=
  select (cmpf .oeq p (broadcastInDim S8 ![] bcast_S_S8 (constant S_ .f32 0x00000000#32)))
    (broadcastInDim S8 ![] bcast_S_S8 (constant S_ .f32 0x3F800000#32))
    (Host.divf p (broadcastInDim S8 ![] bcast_S_S8 (constant S_ .f32 0x45280000#32)))

/-- The global scales as a column for the blocks. -/
def colA (g : FVec Ideal S8 .f32) : FVec Ideal S1x8x1x1x1 .f32 := broadcastInDim S1x8x1x1x1 ![1] bcast_S8_S1x8x1x1x1_1 g

/-- Each block's greatest magnitude. -/
def blockPeakA (a : FVec Ideal S1x8x256x448x16 .f32) : FVec Ideal S1x8x256x448 .f32 :=
  Host.reduce FloatOps.maximumf a (constant S_ .f32 0xFF800000#32) reducesTo_S1x8x256x448x16_S1x8x256x448_d4 h_S_

/-- Each block's scale before it is clipped. -/
def ratioA (b : FVec Ideal S1x8x256x448 .f32) (gc : FVec Ideal S1x8x1x1x1 .f32) : FVec Ideal S1x8x256x448x1 .f32 :=
  Host.divf
    (mulf (broadcastInDim S1x8x256x448x1 ![0, 1, 2, 3] bcast_S1x8x256x448_S1x8x256x448x1_0_1_2_3 b)
      (broadcastInDim S1x8x256x448x1 ![] bcast_S_S1x8x256x448x1 (constant S_ .f32 0x3F800800#32)))
    (broadcastInDim S1x8x256x448x1 ![0, 1, 2, 3, 4] bcast_S1x8x1x1x1_S1x8x256x448x1_0_1_2_3_4
      (mulf (broadcastInDim S1x8x1x1x1 ![] bcast_S_S1x8x1x1x1 (constant S_ .f32 0x40C00000#32)) gc))

/-- Each block's scale, clipped, the blocks of a row of `x` beside each other. -/
def scalesA (q : FVec Ideal S1x8x256x448x1 .f32) : FVec Ideal S2048x448 .f32 :=
  shapeCast S2048x448
    (minimumf (broadcastInDim S1x8x256x448x1 ![] bcast_S_S1x8x256x448x1 (constant S_ .f32 0x43E00000#32))
      (maximumf (broadcastInDim S1x8x256x448x1 ![] bcast_S_S1x8x256x448x1 (constant S_ .f32 0x00000000#32)) q) : FVec Ideal S1x8x256x448x1 .f32)
    shapeCasts_S1x8x256x448x1_S2048x448

/-- A row's scales put back block by block. -/
def blocksA (s : FVec Ideal S2048x448 .f32) : FVec Ideal S1x8x256x448x1 .f32 :=
  shapeCast S1x8x256x448x1 s shapeCasts_S2048x448_S1x8x256x448x1

/-- What each block is divided by. -/
def denomA (s : FVec Ideal S1x8x256x448x1 .f32) (gc : FVec Ideal S1x8x1x1x1 .f32) : FVec Ideal S1x8x256x448x1 .f32 :=
  select (cmpf .oeq s (broadcastInDim S1x8x256x448x1 ![] bcast_S_S1x8x256x448x1 (constant S_ .f32 0x00000000#32)))
    (broadcastInDim S1x8x256x448x1 ![] bcast_S_S1x8x256x448x1 (constant S_ .f32 0x3F800000#32))
    (mulf s (broadcastInDim S1x8x256x448x1 ![0, 1, 2, 3, 4] bcast_S1x8x1x1x1_S1x8x256x448x1_0_1_2_3_4 gc))

/-- The magnitudes divided by their block's divisor, at most six. -/
def smallA (a : FVec Ideal S1x8x256x448x16 .f32) (d : FVec Ideal S1x8x256x448x1 .f32) : FVec Ideal S1x8x256x448x16 .f32 :=
  minimumf (Host.divf a (broadcastInDim S1x8x256x448x16 ![0, 1, 2, 3, 4] bcast_S1x8x256x448x1_S1x8x256x448x16_0_1_2_3_4 d))
    (broadcastInDim S1x8x256x448x16 ![] bcast_S_S1x8x256x448x16 (constant S_ .f32 0x40C00000#32))

/-- One where the value passes the threshold `w`. -/
def passA (p : CmpFPredicate) (w : BitVec 32) (a : FVec Ideal S1x8x256x448x16 .f32) : IVec S1x8x256x448x16 32 :=
  extui 32 (cmpf p a (broadcastInDim S1x8x256x448x16 ![] bcast_S_S1x8x256x448x16 (constant S_ .f32 w))) natLt_1_32

/-- How many of the seven thresholds each magnitude passes. -/
def indexA (a : FVec Ideal S1x8x256x448x16 .f32) : IVec S1x8x256x448x16 32 :=
  addi (addi (addi (addi (addi (addi (passA .ogt 0x3E800000#32 a) (passA .oge 0x3F400000#32 a)) (passA .ogt 0x3FA00000#32 a))
    (passA .oge 0x3FE00000#32 a)) (passA .ogt 0x40200000#32 a)) (passA .oge 0x40600000#32 a)) (passA .ogt 0x40A00000#32 a)

/-- The nibbles: the count, and eight more for a negative value whose count is not zero. -/
def nibbleA (v : FVec Ideal S1x8x256x448x16 .f32) (i : IVec S1x8x256x448x16 32) : IVec S1x8x256x448x16 32 :=
  addi i (muli (broadcastInDim S1x8x256x448x16 ![] bcast_S_S1x8x256x448x16 (constantI S_ 32 8#32))
    (extui 32 (andi (cmpf .olt v (broadcastInDim S1x8x256x448x16 ![] bcast_S_S1x8x256x448x16 (constant S_ .f32 0x00000000#32)))
      (cmpi .sgt i (broadcastInDim S1x8x256x448x16 ![] bcast_S_S1x8x256x448x16 (constantI S_ 32 0#32)))) natLt_1_32))

/-- The nibbles as rows. -/
def rowsA (n : IVec S1x8x256x448x16 32) : IVec S1x2048x7168 32 :=
  shapeCast S1x2048x7168 n shapeCasts_S1x8x256x448x16_S1x2048x7168

/-- Whether a nibble has the bit `k`. -/
def bitA {t : Shape} (h : S_.BroadcastsInDim t (![] : Fin 0 → Fin t.rank)) (k : BitVec 32) (n : IVec t 32) : IVec t 1 :=
  cmpi .ne (andi n (broadcastInDim t ![] h (constantI S_ 32 k))) (broadcastInDim t ![] h (constantI S_ 32 0#32))

/-- One of two constants, by a bit. -/
def pickA {t : Shape} (h : S_.BroadcastsInDim t (![] : Fin 0 → Fin t.rank)) (b : IVec t 1) (u v : BitVec 16) : FVec Ideal t .bf16 :=
  select b (broadcastInDim t ![] h (constant S_ .bf16 u)) (broadcastInDim t ![] h (constant S_ .bf16 v))

/-- The magnitude of a nibble, by its bits. -/
def sizeA {t : Shape} (h : S_.BroadcastsInDim t (![] : Fin 0 → Fin t.rank)) (b0 b1 b2 : IVec t 1) : FVec Ideal t .bf16 :=
  select b2 (select b1 (pickA h b0 0x40C0#16 0x4080#16) (pickA h b0 0x4040#16 0x4000#16))
    (select b1 (pickA h b0 0x3FC0#16 0x3F80#16) (pickA h b0 0x3F00#16 0x0000#16))

/-- The value of a nibble. -/
def valueA {t : Shape} (h : S_.BroadcastsInDim t (![] : Fin 0 → Fin t.rank)) (b0 b1 b2 b3 : IVec t 1) : FVec Ideal t .bf16 :=
  select b3 (Host.negf (sizeA h b0 b1 b2)) (sizeA h b0 b1 b2)

/-- The dequantised rows of `x`. -/
def xhatA (v : FVec Ideal S1x2048x7168 .bf16) (s : FVec Ideal S1x2048x448 .bf16) : FVec Ideal S1x2048x7168 .bf16 :=
  shapeCast S1x2048x7168
    (mulf (shapeCast S1x2048x448x16 v shapeCasts_S1x2048x7168_S1x2048x448x16)
      (broadcastInDim S1x2048x448x16 ![0, 1, 2, 3] bcast_S1x2048x448x1_S1x2048x448x16_0_1_2_3
        (broadcastInDim S1x2048x448x1 ![0, 1, 2] bcast_S1x2048x448_S1x2048x448x1_0_1_2 s)) : FVec Ideal S1x2048x448x16 .bf16)
    shapeCasts_S1x2048x448x16_S1x2048x7168

/-- The nibbles of the weights, the low one of each byte first. -/
def weightNibbleA (w : IVec S4608x3584 8) : IVec S4608x7168 32 :=
  shapeCast S4608x7168
    (concatenate S4608x3584x2 2
      [⟨S4608x3584x1, broadcastInDim S4608x3584x1 ![0, 1] bcast_S4608x3584_S4608x3584x1_0_1
          (andi (extui 32 w natLt_8_32) (broadcastInDim S4608x3584 ![] bcast_S_S4608x3584 (constantI S_ 32 15#32)))⟩,
       ⟨S4608x3584x1, broadcastInDim S4608x3584x1 ![0, 1] bcast_S4608x3584_S4608x3584x1_0_1
          (Host.shrsi (extui 32 w natLt_8_32) (broadcastInDim S4608x3584 ![] bcast_S_S4608x3584 (constantI S_ 32 4#32)))⟩]
      concatenates_S4608x3584x1_S4608x3584x1_S4608x3584x2_d2 : IVec S4608x3584x2 32)
    shapeCasts_S4608x3584x2_S4608x7168

/-- The dequantised weights. -/
def whatA (v : FVec Ideal S4608x7168 .bf16) (s : FVec Ideal S4608x448 .bf16) : FVec Ideal S4608x7168 .bf16 :=
  shapeCast S4608x7168
    (mulf (shapeCast S4608x448x16 v shapeCasts_S4608x7168_S4608x448x16)
      (broadcastInDim S4608x448x16 ![0, 1, 2] bcast_S4608x448x1_S4608x448x16_0_1_2
        (broadcastInDim S4608x448x1 ![0, 1] bcast_S4608x448_S4608x448x1_0_1 s)) : FVec Ideal S4608x448x16 .bf16)
    shapeCasts_S4608x448x16_S4608x7168

/-- The product of the dequantised rows and weights. -/
def productA (x : FVec Ideal S1x2048x7168 .bf16) (w : FVec Ideal S4608x7168 .bf16) : FVec Ideal S1x2048x4608 .f32 :=
  Host.dotGeneral dot_S1x2048x7168_S4608x7168_S1x2048x4608_2_1_01_0_n_n none x w

/-- The result: the product times the row's global scale times that of the weights. -/
def resultA (a : FVec Ideal S1x2048x4608 .f32) (g : FVec Ideal S8 .f32) (w : FVec Ideal S1 .f32) : FVec Ideal S1x2048x4608 .bf16 :=
  truncf .bf16
    (mulf
      (mulf a (broadcastInDim S1x2048x4608 ![0, 1, 2] bcast_S1x2048x1_S1x2048x4608_0_1_2
        (shapeCast S1x2048x1 (shapeCast S2048 (broadcastInDim S8x256 ![0] bcast_S8_S8x256_0 g) shapeCasts_S8x256_S2048) shapeCasts_S2048_S1x2048x1)))
      (broadcastInDim S1x2048x4608 ![] bcast_S_S1x2048x4608 (shapeCast S_ w shapeCasts_S1_S_)))
    bitsLt_bf16_f32

/-- One of each two nibbles of a row. -/
def halfA (n : IVec S1x2048x7168 32) : IVec S1x2048x3584x2 32 :=
  shapeCast S1x2048x3584x2 n shapeCasts_S1x2048x7168_S1x2048x3584x2

/-- The bytes of a row's nibbles, two and two. -/
def bytesA (n : IVec S1x2048x7168 32) : IVec S1x2048x3584 8 :=
  trunci 8
    (ori (shapeCast S1x2048x3584 (extractStridedSlice S1x2048x3584x1 ![0, 0, 0, 0] (halfA n) slices_S1x2048x3584x2_S1x2048x3584x1_0_0_0_0) shapeCasts_S1x2048x3584x1_S1x2048x3584)
      (Host.shli (shapeCast S1x2048x3584 (extractStridedSlice S1x2048x3584x1 ![0, 0, 0, 1] (halfA n) slices_S1x2048x3584x2_S1x2048x3584x1_0_0_0_1) shapeCasts_S1x2048x3584x1_S1x2048x3584)
        (broadcastInDim S1x2048x3584 ![] bcast_S_S1x2048x3584 (constantI S_ 32 4#32))))
    natLt_8_32

end Cert.ReferenceIdeal.Val
-- ==== Proof.RRead.lean ====
module

public import proofs.«01_k».proof.Proof.RDef

/-!
The reference's host lines compute the functions of RDef: each stretch read from any contents of the buffers before it.
-/

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen

variable (V : Valuation τ sig (Elt Ideal))

/-- The lines up to the global scales. -/
abbrev lines1 : List (HloOp τ sig (Elt Ideal)) := hostOps0 ++ hostOps0_1
/-- The lines from the global scales to the block scales. -/
abbrev lines2 : List (HloOp τ sig (Elt Ideal)) := hostOps0_2 ++ (hostOps0_3 ++ hostOps0_4)
/-- The lines of the blocks' divisors. -/
abbrev lines3 : List (HloOp τ sig (Elt Ideal)) := hostOps1 ++ hostOps1_1
/-- The lines that decode the nibbles of `x`. -/
abbrev lines5 : List (HloOp τ sig (Elt Ideal)) := hostOps1_3 ++ (hostOps1_4 ++ (hostOps1_5 ++ (hostOps1_6 ++ (hostOps1_7 ++ (hostOps1_8 ++ (hostOps1_9 ++ (hostOps1_10 ++ (hostOps1_11 ++ (hostOps1_12 ++ (hostOps1_13 ++ hostOps1_14))))))))))
/-- The lines that decode the nibbles of the weights. -/
abbrev lines7 : List (HloOp τ sig (Elt Ideal)) := hostOps1_16 ++ (hostOps1_17 ++ (hostOps1_18 ++ (hostOps1_19 ++ (hostOps1_20 ++ (hostOps1_21 ++ (hostOps1_22 ++ (hostOps1_23 ++ (hostOps1_24 ++ (hostOps1_25 ++ (hostOps1_26 ++ hostOps1_27))))))))))

/-- What part 1 leaves in `main_v1`. -/
theorem l1_v1 : StableHlo.after lines1 V (Proc.devRef .tc main_v1) = wideA (V (Proc.devRef .tc main_arg0)) := by unfold lines1; after_reads_simp; rfl
/-- What part 1 leaves in `main_v2`. -/
theorem l1_v2 : StableHlo.after lines1 V (Proc.devRef .tc main_v2) = absA (wideA (V (Proc.devRef .tc main_arg0))) := by unfold lines1; after_reads_simp; rfl
set_option maxRecDepth 65536 in
/-- What part 1 leaves in `main_v8`. -/
theorem l1_v8 : StableHlo.after lines1 V (Proc.devRef .tc main_v8) = gainA (peakA (absA (wideA (V (Proc.devRef .tc main_arg0))))) := by
  unfold lines1 gainA peakA absA wideA; after_reads_simp
  simp -implicitDefEqProofs only [StableHlo.TRef.toBuf, StableHlo.TRef.ofBuf, cast_cast, cast_eq, id]
  try rfl

/-- What part 2 leaves in `main_v9`. -/
theorem l2_v9 : StableHlo.after lines2 V (Proc.devRef .tc main_v9) = colA (V (Proc.devRef .tc main_v8)) := by unfold lines2; after_reads_simp; rfl
/-- What part 2 leaves in `main_v19`. -/
theorem l2_v19 : StableHlo.after lines2 V (Proc.devRef .tc main_v19)
    = scalesA (ratioA (blockPeakA (V (Proc.devRef .tc main_v2))) (colA (V (Proc.devRef .tc main_v8)))) := by unfold lines2; after_reads_simp; rfl

/-- What part 3 leaves in `main_v26`. -/
theorem l3_v26 : StableHlo.after lines3 V (Proc.devRef .tc main_v26) = denomA (blocksA (V (Proc.devRef .tc main_v20_1))) (V (Proc.devRef .tc main_v9)) := by unfold lines3; after_reads_simp; rfl

set_option maxHeartbeats 4000000 in
/-- What part 5 leaves in `main_v93`. -/
theorem l5_v93 (h28 : V (Proc.devRef .tc main_cst_28) = (constant S_ .bf16 0x40C0#16 : FVec Ideal S_ .bf16)) (h29 : V (Proc.devRef .tc main_cst_29) = (constant S_ .bf16 0x4080#16 : FVec Ideal S_ .bf16)) : StableHlo.after lines5 V (Proc.devRef .tc main_v93) = valueA bcast_S_S1x2048x7168 (V (Proc.devRef .tc main_v72)) (V (Proc.devRef .tc main_v76)) (V (Proc.devRef .tc main_v80)) (V (Proc.devRef .tc main_v84)) := by
  unfold lines5; after_reads_simp
  rw [h28, h29]
  rfl

set_option maxHeartbeats 4000000 in
/-- What part 7 leaves in `main_v132`. -/
theorem l7_v132 (h46 : V (Proc.devRef .tc main_cst_46) = (constant S_ .bf16 0x40C0#16 : FVec Ideal S_ .bf16)) (h47 : V (Proc.devRef .tc main_cst_47) = (constant S_ .bf16 0x4080#16 : FVec Ideal S_ .bf16)) : StableHlo.after lines7 V (Proc.devRef .tc main_v132) = valueA bcast_S_S4608x7168 (V (Proc.devRef .tc main_v111)) (V (Proc.devRef .tc main_v115)) (V (Proc.devRef .tc main_v119)) (V (Proc.devRef .tc main_v123)) := by
  unfold lines7; after_reads_simp
  rw [h46, h47]
  rfl

set_option maxHeartbeats 4000000 in
/-- What part 4 leaves in `main_v67`. -/
theorem l4_v67  : StableHlo.after hostOps1_2 V (Proc.devRef .tc main_v67) = rowsA (nibbleA (V (Proc.devRef .tc main_v1)) (indexA (smallA (V (Proc.devRef .tc main_v2)) (V (Proc.devRef .tc main_v26))))) := by
  after_reads_simp
  rfl

set_option maxHeartbeats 4000000 in
/-- What part 4 leaves in `main_v68`. -/
theorem l4_v68  : StableHlo.after hostOps1_2 V (Proc.devRef .tc main_v68) = (shapeCast S1x2048x448 (V (Proc.devRef .tc main_v20_2) : FVec Ideal S2048x448 .bf16) shapeCasts_S2048x448_S1x2048x448 : FVec Ideal S1x2048x448 .bf16) := by
  after_reads_simp
  rfl

set_option maxHeartbeats 4000000 in
/-- What part 4 leaves in `main_v72`. -/
theorem l4_v72  : StableHlo.after hostOps1_2 V (Proc.devRef .tc main_v72) = bitA bcast_S_S1x2048x7168 1#32 (StableHlo.after hostOps1_2 V (Proc.devRef .tc main_v67)) := by
  after_reads_simp
  rfl

set_option maxHeartbeats 4000000 in
/-- What part 4 leaves in `main_v76`. -/
theorem l4_v76  : StableHlo.after hostOps1_2 V (Proc.devRef .tc main_v76) = bitA bcast_S_S1x2048x7168 2#32 (StableHlo.after hostOps1_2 V (Proc.devRef .tc main_v67)) := by
  after_reads_simp
  rfl

set_option maxHeartbeats 4000000 in
/-- What part 4 leaves in `main_v80`. -/
theorem l4_v80  : StableHlo.after hostOps1_2 V (Proc.devRef .tc main_v80) = bitA bcast_S_S1x2048x7168 4#32 (StableHlo.after hostOps1_2 V (Proc.devRef .tc main_v67)) := by
  after_reads_simp
  rfl

set_option maxHeartbeats 4000000 in
/-- What part 4 leaves in `main_v84`. -/
theorem l4_v84  : StableHlo.after hostOps1_2 V (Proc.devRef .tc main_v84) = bitA bcast_S_S1x2048x7168 8#32 (StableHlo.after hostOps1_2 V (Proc.devRef .tc main_v67)) := by
  after_reads_simp
  rfl

set_option maxHeartbeats 4000000 in
/-- The constant part 4 leaves in `main_cst_28`. -/
theorem l4_c28  : StableHlo.after hostOps1_2 V (Proc.devRef .tc main_cst_28) = (constant S_ .bf16 0x40C0#16 : FVec Ideal S_ .bf16) := by
  after_reads_simp

set_option maxHeartbeats 4000000 in
/-- The constant part 4 leaves in `main_cst_29`. -/
theorem l4_c29  : StableHlo.after hostOps1_2 V (Proc.devRef .tc main_cst_29) = (constant S_ .bf16 0x4080#16 : FVec Ideal S_ .bf16) := by
  after_reads_simp

set_option maxHeartbeats 4000000 in
/-- What part 6 leaves in `main_v98`. -/
theorem l6_v98  : StableHlo.after hostOps1_15 V (Proc.devRef .tc main_v98) = xhatA (V (Proc.devRef .tc main_v93)) (V (Proc.devRef .tc main_v68)) := by
  after_reads_simp
  rfl

set_option maxHeartbeats 4000000 in
/-- What part 6 leaves in `main_v107`. -/
theorem l6_v107  : StableHlo.after hostOps1_15 V (Proc.devRef .tc main_v107) = weightNibbleA (V (Proc.devRef .tc main_arg1)) := by
  after_reads_simp
  rfl

set_option maxHeartbeats 4000000 in
/-- What part 6 leaves in `main_v111`. -/
theorem l6_v111  : StableHlo.after hostOps1_15 V (Proc.devRef .tc main_v111) = bitA bcast_S_S4608x7168 1#32 (StableHlo.after hostOps1_15 V (Proc.devRef .tc main_v107)) := by
  after_reads_simp
  rfl

set_option maxHeartbeats 4000000 in
/-- What part 6 leaves in `main_v115`. -/
theorem l6_v115  : StableHlo.after hostOps1_15 V (Proc.devRef .tc main_v115) = bitA bcast_S_S4608x7168 2#32 (StableHlo.after hostOps1_15 V (Proc.devRef .tc main_v107)) := by
  after_reads_simp
  rfl

set_option maxHeartbeats 4000000 in
/-- What part 6 leaves in `main_v119`. -/
theorem l6_v119  : StableHlo.after hostOps1_15 V (Proc.devRef .tc main_v119) = bitA bcast_S_S4608x7168 4#32 (StableHlo.after hostOps1_15 V (Proc.devRef .tc main_v107)) := by
  after_reads_simp
  rfl

set_option maxHeartbeats 4000000 in
/-- What part 6 leaves in `main_v123`. -/
theorem l6_v123  : StableHlo.after hostOps1_15 V (Proc.devRef .tc main_v123) = bitA bcast_S_S4608x7168 8#32 (StableHlo.after hostOps1_15 V (Proc.devRef .tc main_v107)) := by
  after_reads_simp
  rfl

set_option maxHeartbeats 4000000 in
/-- The constant part 6 leaves in `main_cst_46`. -/
theorem l6_c46  : StableHlo.after hostOps1_15 V (Proc.devRef .tc main_cst_46) = (constant S_ .bf16 0x40C0#16 : FVec Ideal S_ .bf16) := by
  after_reads_simp

set_option maxHeartbeats 4000000 in
/-- The constant part 6 leaves in `main_cst_47`. -/
theorem l6_c47  : StableHlo.after hostOps1_15 V (Proc.devRef .tc main_cst_47) = (constant S_ .bf16 0x4080#16 : FVec Ideal S_ .bf16) := by
  after_reads_simp

set_option maxHeartbeats 4000000 in
/-- What part 8 leaves in `main_v147`. -/
theorem l8_v147  : StableHlo.after hostOps1_28 V (Proc.devRef .tc main_v147) = resultA (productA (V (Proc.devRef .tc main_v98)) (whatA (V (Proc.devRef .tc main_v132)) (V (Proc.devRef .tc main_v20_3)))) (V (Proc.devRef .tc main_v8)) (V (Proc.devRef .tc main_arg3)) := by
  after_reads_simp
  rfl

set_option maxHeartbeats 4000000 in
/-- What part 8 leaves in `main_v156`. -/
theorem l8_v156  : StableHlo.after hostOps1_28 V (Proc.devRef .tc main_v156) = bytesA (V (Proc.devRef .tc main_v67)) := by
  after_reads_simp
  rfl

set_option maxHeartbeats 4000000 in
/-- What part 8 leaves in `main_v157`. -/
theorem l8_v157  : StableHlo.after hostOps1_28 V (Proc.devRef .tc main_v157) = (shapeCast S1x2048x448 (V (Proc.devRef .tc main_v20_0) : FVec Ideal S2048x448 .fp8e4m3) shapeCasts_S2048x448_S1x2048x448 : FVec Ideal S1x2048x448 .fp8e4m3) := by
  after_reads_simp
  rfl

end Cert.ReferenceIdeal.Val
-- ==== Proof.RKeep.lean ====
module

public import proofs.«01_k».proof.Proof.RRead
public import Idealize.ShloMosaic.Lib.Pipeline.ValueKit
public import Idealize.ShloMosaic.Lib.Pipeline.ReadBack

/-!
What each stretch of the reference's lines leaves alone, and its results as functions of its arguments.
-/

@[expose] public section

set_option maxRecDepth 16384

noncomputable section

namespace Cert.ReferenceIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

/-! ## What each stretch of lines leaves alone -/

section Keep

variable (V : Valuation τ sig (Elt Ideal)) (r : Ref sig .tc)

/-- The buffers that the lines up to the global scales write. -/
abbrev W1 : List (Ref sig .tc) := [main_v0, main_v1, main_v2, main_cst, main_v3, main_cst_0, main_v4, main_v5, main_cst_1, main_v6, main_v7, main_cst_2, main_call0_v0, main_call0_v1, main_v8]

/-- The buffers that the lines of the block scales write. -/
abbrev W2 : List (Ref sig .tc) := [main_v9, main_cst_3, main_v10, main_v11, main_cst_4, main_v12, main_v13, main_cst_5, main_v14, main_v15, main_v16, main_v17, main_cst_6, main_cst_7, main_call1_v0, main_call1_v1, main_call1_v2, main_call1_v3, main_call1_v4, main_v18, main_v19]

/-- A buffer that the lines up to the global scales do not write keeps its contents. -/
theorem keep1 (h : r ∉ W1) :
    StableHlo.after lines1 V (Proc.devRef .tc r) = V (Proc.devRef .tc r) :=
  StableHlo.after_of_writes_sub (r := r) lines1 V (W := W1) (StableHlo.forall_writes_sub_of_map rfl) h

/-- The same of the lines from the global scales to the block scales. -/
theorem keep2 (h : r ∉ W2) :
    StableHlo.after lines2 V (Proc.devRef .tc r) = V (Proc.devRef .tc r) :=
  StableHlo.after_of_writes_sub (r := r) lines2 V (W := W2) (StableHlo.forall_writes_sub_of_map rfl) h

/-- The same of the lines of the divisors. -/
theorem keep3 (h : r ∉ hostOps1_W ++ hostOps1_1_W) :
    StableHlo.after lines3 V (Proc.devRef .tc r) = V (Proc.devRef .tc r) :=
  StableHlo.after_of_writes_sub (r := r) lines3 V (W := hostOps1_W ++ hostOps1_1_W) (StableHlo.forall_writes_sub_of_map rfl) h

/-- The same of the lines of the nibbles. -/
theorem keep4 (h : r ∉ hostOps1_2_W) :
    StableHlo.after hostOps1_2 V (Proc.devRef .tc r) = V (Proc.devRef .tc r) :=
  StableHlo.after_of_writes_sub (r := r) hostOps1_2 V hostOps1_2_writes h

/-- The buffers that the decoding of `x` writes. -/
abbrev W5 : List (Ref sig .tc) := hostOps1_3_W ++ (hostOps1_4_W ++ (hostOps1_5_W ++ (hostOps1_6_W ++ (hostOps1_7_W ++ (hostOps1_8_W ++ (hostOps1_9_W ++ (hostOps1_10_W ++ (hostOps1_11_W ++ (hostOps1_12_W ++ (hostOps1_13_W ++ hostOps1_14_W))))))))))

/-- The same of the lines that decode `x`. -/
theorem keep5 (h : r ∉ W5) : StableHlo.after lines5 V (Proc.devRef .tc r) = V (Proc.devRef .tc r) :=
  StableHlo.after_of_writes_sub (r := r) lines5 V (W := W5) (StableHlo.forall_writes_sub_of_map rfl) h

/-- The same of the lines of the weights' nibbles. -/
theorem keep6 (h : r ∉ hostOps1_15_W) :
    StableHlo.after hostOps1_15 V (Proc.devRef .tc r) = V (Proc.devRef .tc r) :=
  StableHlo.after_of_writes_sub (r := r) hostOps1_15 V hostOps1_15_writes h

/-- The buffers that the decoding of the weights writes. -/
abbrev W7 : List (Ref sig .tc) := hostOps1_16_W ++ (hostOps1_17_W ++ (hostOps1_18_W ++ (hostOps1_19_W ++ (hostOps1_20_W ++ (hostOps1_21_W ++ (hostOps1_22_W ++ (hostOps1_23_W ++ (hostOps1_24_W ++ (hostOps1_25_W ++ (hostOps1_26_W ++ hostOps1_27_W))))))))))

/-- The same of the lines that decode the weights. -/
theorem keep7 (h : r ∉ W7) : StableHlo.after lines7 V (Proc.devRef .tc r) = V (Proc.devRef .tc r) :=
  StableHlo.after_of_writes_sub (r := r) lines7 V (W := W7) (StableHlo.forall_writes_sub_of_map rfl) h

/-- The same of the last lines. -/
theorem keep8 (h : r ∉ hostOps1_28_W) :
    StableHlo.after hostOps1_28 V (Proc.devRef .tc r) = V (Proc.devRef .tc r) :=
  StableHlo.after_of_writes_sub (r := r) hostOps1_28 V hostOps1_28_writes h

end Keep

/-! ## The results as functions of the arguments -/

/-- The global scales. -/
def gR (x : FVec Ideal S1x2048x7168 .bf16) : FVec Ideal S8 .f32 := gainA (peakA (absA (wideA x)))

/-- The block scales. -/
def sR (x : FVec Ideal S1x2048x7168 .bf16) : FVec Ideal S2048x448 .f32 :=
  scalesA (ratioA (blockPeakA (absA (wideA x))) (colA (gR x)))

/-- The nibbles of `x`. -/
def nR (x : FVec Ideal S1x2048x7168 .bf16) : IVec S1x2048x7168 32 :=
  rowsA (nibbleA (wideA x) (indexA (smallA (absA (wideA x)) (denomA (blocksA (sR x)) (colA (gR x))))))

/-- The values of an array of nibbles. -/
def decR {t : Shape} (h : S_.BroadcastsInDim t (![] : Fin 0 → Fin t.rank)) (n : IVec t 32) : FVec Ideal t .bf16 :=
  valueA h (bitA h 1#32 n) (bitA h 2#32 n) (bitA h 4#32 n) (bitA h 8#32 n)

/-- The dequantised `x`. -/
def xR (x : FVec Ideal S1x2048x7168 .bf16) : FVec Ideal S1x2048x7168 .bf16 :=
  xhatA (decR bcast_S_S1x2048x7168 (nR x)) (shapeCast S1x2048x448 (sR x) shapeCasts_S2048x448_S1x2048x448)

/-- The dequantised weights. -/
def wR (wc : IVec S4608x3584 8) (ws : FVec Ideal S4608x448 .bf16) : FVec Ideal S4608x7168 .bf16 :=
  whatA (decR bcast_S_S4608x7168 (weightNibbleA wc)) ws

end Cert.ReferenceIdeal.Val
-- ==== Proof.RReg.lean ====
module

public import proofs.«01_k».proof.Proof.RKeep
public import Idealize.ShloMosaic.Lib.Pipeline.ValueKit
public import Idealize.ShloMosaic.Lib.Pipeline.ReadBack

/-!
The reference's run: its results as the functions of RDef applied to its arguments.
-/

@[expose] public section

set_option maxRecDepth 16384

noncomputable section

namespace Cert.ReferenceIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

/-! ## The call of the casts -/

section Region

variable (m : (ℓ : Loc nD τ sig) → Buf (Elt Ideal) ℓ) (c : Dev nD)

/-- What the call leaves in window 2's block is its input, the casts changing nothing of a real value. -/
theorem out2_eq (x0 : Vec Ideal S2048x448 .f32) (x1 : Vec Ideal S4608x448 .fp8e4m3) : out0_2 x0 x1 = (x0 : S2048x448.Idx → EReal) := by
  funext y
  refine View.canon_apply_of_pieces (Val := Elt Ideal) (e := .fp8e4m3) (x0 : S2048x448.Idx → EReal) _ ?_ y (cover0_2 _ y)
  simp only [List.mem_singleton, forall_eq]
  intro x
  unfold k0_pay1
  exact congrFun (shapeCast_self (View.ld x0 r0_0) shapeCasts_S2048x448_S2048x448) x

/-- Window 2's array, from what its one block holds. -/
theorem arr2 (dat : Dat τ (Elt Ideal) Unit ℕ (UR sig nD τ) ℕ cfg0 c) (G : FVec Ideal S2048x448 .fp8e4m3) (h : ∀ t, dat.after 2 t = G) : dat.arrAt 2 cfg0.N = G := by
  refine dat.arrAt_eq_of_covers 2 _ (by decide +kernel) fun t hf y => ?_
  rw [h]
  refine congrArg G (funext fun a => ?_)
  match a with
  | ⟨0, _⟩ => refine Fin.ext ?_; blk_simp; show (y 0).val = 0 * 2048 + (y 0).val; omega
  | ⟨1, _⟩ => refine Fin.ext ?_; blk_simp; show (y 1).val = 0 * 448 + (y 1).val; omega

/-- What the call leaves in window 3's block is its input, the casts changing nothing of a real value. -/
theorem out3_eq (x0 : Vec Ideal S2048x448 .f32) (x1 : Vec Ideal S4608x448 .fp8e4m3) : out0_3 x0 x1 = (x0 : S2048x448.Idx → EReal) := by
  funext y
  refine View.canon_apply_of_pieces (Val := Elt Ideal) (e := .f32) (x0 : S2048x448.Idx → EReal) _ ?_ y (cover0_3 _ y)
  simp only [List.mem_singleton, forall_eq]
  intro x
  unfold k0_pay2 k0_pay1
  exact congrFun (shapeCast_self (View.ld x0 r0_0) shapeCasts_S2048x448_S2048x448) x

/-- Window 3's array, from what its one block holds. -/
theorem arr3 (dat : Dat τ (Elt Ideal) Unit ℕ (UR sig nD τ) ℕ cfg0 c) (G : FVec Ideal S2048x448 .f32) (h : ∀ t, dat.after 3 t = G) : dat.arrAt 3 cfg0.N = G := by
  refine dat.arrAt_eq_of_covers 3 _ (by decide +kernel) fun t hf y => ?_
  rw [h]
  refine congrArg G (funext fun a => ?_)
  match a with
  | ⟨0, _⟩ => refine Fin.ext ?_; blk_simp; show (y 0).val = 0 * 2048 + (y 0).val; omega
  | ⟨1, _⟩ => refine Fin.ext ?_; blk_simp; show (y 1).val = 0 * 448 + (y 1).val; omega

/-- What the call leaves in window 4's block is its input, the casts changing nothing of a real value. -/
theorem out4_eq (x0 : Vec Ideal S2048x448 .f32) (x1 : Vec Ideal S4608x448 .fp8e4m3) : out0_4 x0 x1 = (x0 : S2048x448.Idx → EReal) := by
  funext y
  refine View.canon_apply_of_pieces (Val := Elt Ideal) (e := .bf16) (x0 : S2048x448.Idx → EReal) _ ?_ y (cover0_4 _ y)
  simp only [List.mem_singleton, forall_eq]
  intro x
  unfold k0_pay3 k0_pay1
  exact congrFun (shapeCast_self (View.ld x0 r0_0) shapeCasts_S2048x448_S2048x448) x

/-- Window 4's array, from what its one block holds. -/
theorem arr4 (dat : Dat τ (Elt Ideal) Unit ℕ (UR sig nD τ) ℕ cfg0 c) (G : FVec Ideal S2048x448 .bf16) (h : ∀ t, dat.after 4 t = G) : dat.arrAt 4 cfg0.N = G := by
  refine dat.arrAt_eq_of_covers 4 _ (by decide +kernel) fun t hf y => ?_
  rw [h]
  refine congrArg G (funext fun a => ?_)
  match a with
  | ⟨0, _⟩ => refine Fin.ext ?_; blk_simp; show (y 0).val = 0 * 2048 + (y 0).val; omega
  | ⟨1, _⟩ => refine Fin.ext ?_; blk_simp; show (y 1).val = 0 * 448 + (y 1).val; omega

/-- What the call leaves in window 5's block is its input, the casts changing nothing of a real value. -/
theorem out5_eq (x0 : Vec Ideal S2048x448 .f32) (x1 : Vec Ideal S4608x448 .fp8e4m3) : out0_5 x0 x1 = (x1 : S4608x448.Idx → EReal) := by
  funext y
  refine View.canon_apply_of_pieces (Val := Elt Ideal) (e := .bf16) (x1 : S4608x448.Idx → EReal) _ ?_ y (cover0_5 _ y)
  simp only [List.mem_singleton, forall_eq]
  intro x
  unfold k0_pay4
  rfl

/-- Window 5's array, from what its one block holds. -/
theorem arr5 (dat : Dat τ (Elt Ideal) Unit ℕ (UR sig nD τ) ℕ cfg0 c) (G : FVec Ideal S4608x448 .bf16) (h : ∀ t, dat.after 5 t = G) : dat.arrAt 5 cfg0.N = G := by
  refine dat.arrAt_eq_of_covers 5 _ (by decide +kernel) fun t hf y => ?_
  rw [h]
  refine congrArg G (funext fun a => ?_)
  match a with
  | ⟨0, _⟩ => refine Fin.ext ?_; blk_simp; show (y 0).val = 0 * 4608 + (y 0).val; omega
  | ⟨1, _⟩ => refine Fin.ext ?_; blk_simp; show (y 1).val = 0 * 448 + (y 1).val; omega

/-- Window 0's one block is its whole array. -/
theorem blk0 (t : Fin cfg0.N) (A : FVec Ideal S2048x448 .f32) : ((cfg0.win 0).blk t).view.read (Elt Ideal) A = A := by
  funext y
  show A _ = A _
  refine congrArg A (funext fun a => ?_)
  match a with
  | ⟨0, _⟩ => refine Fin.ext ?_; blk_simp; show 0 * 2048 + (y 0).val = (y 0).val; omega
  | ⟨1, _⟩ => refine Fin.ext ?_; blk_simp; show 0 * 448 + (y 1).val = (y 1).val; omega

/-- Window 1's one block is its whole array. -/
theorem blk1 (t : Fin cfg0.N) (A : FVec Ideal S4608x448 .fp8e4m3) : ((cfg0.win 1).blk t).view.read (Elt Ideal) A = A := by
  funext y
  show A _ = A _
  refine congrArg A (funext fun a => ?_)
  match a with
  | ⟨0, _⟩ => refine Fin.ext ?_; blk_simp; show 0 * 4608 + (y 0).val = (y 0).val; omega
  | ⟨1, _⟩ => refine Fin.ext ?_; blk_simp; show 0 * 448 + (y 1).val = (y 1).val; omega

/-- What the region leaves in the array of its window 2. -/
theorem final2 : (dats m 0 c).arrAt 2 cfg0.N = (V0 m c (Proc.devRef .tc main_v19) : FVec Ideal S2048x448 .f32) :=
  arr2 c (dats m 0 c) _ fun t => (after0_2 m c t).trans ((out2_eq _ _).trans (blk0 t _))

/-- What the region leaves in the array of its window 3. -/
theorem final3 : (dats m 0 c).arrAt 3 cfg0.N = (V0 m c (Proc.devRef .tc main_v19) : FVec Ideal S2048x448 .f32) :=
  arr3 c (dats m 0 c) _ fun t => (after0_3 m c t).trans ((out3_eq _ _).trans (blk0 t _))

/-- What the region leaves in the array of its window 4. -/
theorem final4 : (dats m 0 c).arrAt 4 cfg0.N = (V0 m c (Proc.devRef .tc main_v19) : FVec Ideal S2048x448 .f32) :=
  arr4 c (dats m 0 c) _ fun t => (after0_4 m c t).trans ((out4_eq _ _).trans (blk0 t _))

/-- What the region leaves in the array of its window 5. -/
theorem final5 : (dats m 0 c).arrAt 5 cfg0.N = (V0 m c (Proc.devRef .tc main_arg2) : FVec Ideal S4608x448 .fp8e4m3) :=
  arr5 c (dats m 0 c) _ fun t => (after0_5 m c t).trans ((out5_eq _ _).trans (blk1 t _))

end Region

end Cert.ReferenceIdeal.Val
-- ==== Proof.RRun.lean ====
module

public import proofs.«01_k».proof.Proof.RReg
public import Idealize.ShloMosaic.Lib.Pipeline.ValueKit
public import Idealize.ShloMosaic.Lib.Pipeline.ReadBack

/-!
The reference's run: its results as the functions of RDef applied to its arguments.
-/

@[expose] public section

set_option maxRecDepth 16384

noncomputable section

namespace Cert.ReferenceIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

section Run

variable (m : (ℓ : Loc nD τ sig) → Buf (Elt Ideal) ℓ) (ρ : Dev nD → PrngReg) (c : Dev nD)

/-- The argument `x`. -/
def argX : FVec Ideal S1x2048x7168 .bf16 := m (c, Proc.devRef .tc main_arg0)
/-- The weights' codes. -/
def argC : IVec S4608x3584 8 := m (c, Proc.devRef .tc main_arg1)
/-- The weights' block scales. -/
def argS : FVec Ideal S4608x448 .bf16 := (m (c, Proc.devRef .tc main_arg2) : S4608x448.Idx → EReal)
/-- The weights' global scale. -/
def argG : FVec Ideal S1 .f32 := m (c, Proc.devRef .tc main_arg3)

/-! The contents of the buffers after each stretch of lines. -/

/-- The memory after part 1. -/
def U1 : Valuation τ sig (Elt Ideal) := StableHlo.after lines1 fun b => m (c, b)
/-- The memory after part 2. -/
def U2 : Valuation τ sig (Elt Ideal) := StableHlo.after lines2 (U1 m c)
/-- The memory after part 3. -/
def U3 : Valuation τ sig (Elt Ideal) := Pipeline.withArrays spec0 c (V0 m c) fun w => (dats m 0 c).arrAt w cfg0.N
/-- The memory after part 4. -/
def U4 : Valuation τ sig (Elt Ideal) := StableHlo.after lines3 (U3 m c)
/-- The memory after part 5. -/
def U5 : Valuation τ sig (Elt Ideal) := StableHlo.after hostOps1_2 (U4 m c)
/-- The memory after part 6. -/
def U6 : Valuation τ sig (Elt Ideal) := StableHlo.after lines5 (U5 m c)
/-- The memory after part 7. -/
def U7 : Valuation τ sig (Elt Ideal) := StableHlo.after hostOps1_15 (U6 m c)
/-- The memory after part 8. -/
def U8 : Valuation τ sig (Elt Ideal) := StableHlo.after lines7 (U7 m c)
/-- The memory after part 9. -/
def U9 : Valuation τ sig (Elt Ideal) := StableHlo.after hostOps1_28 (U8 m c)

/-- The memory before the region is what the first two parts leave. -/
theorem V0_eq : V0 m c = U2 m c := by
  unfold U2 U1 lines1 lines2
  simp only [V0, List.flatten_cons, List.flatten_nil, List.append_nil, StableHlo.after_append]

/-- `main_v1` after part 1. -/
theorem u1_v1 : U1 m c (Proc.devRef .tc main_v1) = wideA (argX m c) :=
  l1_v1 _

/-- `main_v2` after part 1. -/
theorem u1_v2 : U1 m c (Proc.devRef .tc main_v2) = absA (wideA (argX m c)) :=
  l1_v2 _

/-- `main_v8` after part 1. -/
theorem u1_v8 : U1 m c (Proc.devRef .tc main_v8) = gR (argX m c) :=
  l1_v8 _

/-- `main_arg1` after part 1: as it was. -/
theorem u1_arg1 : U1 m c (Proc.devRef .tc main_arg1) = argC m c :=
  (keep1 _ main_arg1 (by decide +kernel)).trans (rfl)

/-- `main_arg2` after part 1: as it was. -/
theorem u1_arg2 : U1 m c (Proc.devRef .tc main_arg2) = argS m c :=
  (keep1 _ main_arg2 (by decide +kernel)).trans (rfl)

/-- `main_arg3` after part 1: as it was. -/
theorem u1_arg3 : U1 m c (Proc.devRef .tc main_arg3) = argG m c :=
  (keep1 _ main_arg3 (by decide +kernel)).trans (rfl)

/-- `main_v1` after part 2. -/
theorem u2_v1 : U2 m c (Proc.devRef .tc main_v1) = wideA (argX m c) :=
  (keep2 _ main_v1 (by decide +kernel)).trans (u1_v1 m c)

/-- `main_v2` after part 2. -/
theorem u2_v2 : U2 m c (Proc.devRef .tc main_v2) = absA (wideA (argX m c)) :=
  (keep2 _ main_v2 (by decide +kernel)).trans (u1_v2 m c)

/-- `main_v8` after part 2. -/
theorem u2_v8 : U2 m c (Proc.devRef .tc main_v8) = gR (argX m c) :=
  (keep2 _ main_v8 (by decide +kernel)).trans (u1_v8 m c)

/-- `main_arg1` after part 2: as it was. -/
theorem u2_arg1 : U2 m c (Proc.devRef .tc main_arg1) = argC m c :=
  (keep2 _ main_arg1 (by decide +kernel)).trans (u1_arg1 m c)

/-- `main_arg2` after part 2: as it was. -/
theorem u2_arg2 : U2 m c (Proc.devRef .tc main_arg2) = argS m c :=
  (keep2 _ main_arg2 (by decide +kernel)).trans (u1_arg2 m c)

/-- `main_arg3` after part 2: as it was. -/
theorem u2_arg3 : U2 m c (Proc.devRef .tc main_arg3) = argG m c :=
  (keep2 _ main_arg3 (by decide +kernel)).trans (u1_arg3 m c)

/-- `main_v9` after part 2. -/
theorem u2_v9 : U2 m c (Proc.devRef .tc main_v9) = colA (gR (argX m c)) :=
  (l2_v9 _).trans (congrArg colA (u1_v8 m c))

/-- `main_v19` after part 2. -/
theorem u2_v19 : U2 m c (Proc.devRef .tc main_v19) = sR (argX m c) :=
  (l2_v19 _).trans (congrArg₂ (fun a g => scalesA (ratioA (blockPeakA a) (colA g))) (u1_v2 m c) (u1_v8 m c))

/-- `main_v1` after part 3. -/
theorem u3_v1 : U3 m c (Proc.devRef .tc main_v1) = wideA (argX m c) :=
  (Pipeline.withArrays_of_ne spec0 c (V0 m c) _ main_v1 (by decide +kernel)).trans ((congrFun (V0_eq m c) _).trans (u2_v1 m c))

/-- `main_v2` after part 3. -/
theorem u3_v2 : U3 m c (Proc.devRef .tc main_v2) = absA (wideA (argX m c)) :=
  (Pipeline.withArrays_of_ne spec0 c (V0 m c) _ main_v2 (by decide +kernel)).trans ((congrFun (V0_eq m c) _).trans (u2_v2 m c))

/-- `main_v8` after part 3. -/
theorem u3_v8 : U3 m c (Proc.devRef .tc main_v8) = gR (argX m c) :=
  (Pipeline.withArrays_of_ne spec0 c (V0 m c) _ main_v8 (by decide +kernel)).trans ((congrFun (V0_eq m c) _).trans (u2_v8 m c))

/-- `main_v9` after part 3. -/
theorem u3_v9 : U3 m c (Proc.devRef .tc main_v9) = colA (gR (argX m c)) :=
  (Pipeline.withArrays_of_ne spec0 c (V0 m c) _ main_v9 (by decide +kernel)).trans ((congrFun (V0_eq m c) _).trans (u2_v9 m c))

/-- `main_arg1` after part 3: as it was. -/
theorem u3_arg1 : U3 m c (Proc.devRef .tc main_arg1) = argC m c :=
  (Pipeline.withArrays_of_ne spec0 c (V0 m c) _ main_arg1 (by decide +kernel)).trans ((congrFun (V0_eq m c) _).trans (u2_arg1 m c))

/-- `main_arg3` after part 3: as it was. -/
theorem u3_arg3 : U3 m c (Proc.devRef .tc main_arg3) = argG m c :=
  (Pipeline.withArrays_of_ne spec0 c (V0 m c) _ main_arg3 (by decide +kernel)).trans ((congrFun (V0_eq m c) _).trans (u2_arg3 m c))

/-- The region's arrays are distinct. -/
theorem arr_inj : Function.Injective (Pipeline.arrRef spec0) := by decide +kernel

/-- `main_v20_0` after part 3. -/
theorem u3_v20_0 : U3 m c (Proc.devRef .tc main_v20_0) = sR (argX m c) :=
  (Pipeline.withArrays_arr spec0 arr_inj c (V0 m c) (fun w => (dats m 0 c).arrAt w cfg0.N) 2).trans ((final2 m c).trans ((congrFun (V0_eq m c) _).trans (u2_v19 m c)))

/-- `main_v20_1` after part 3. -/
theorem u3_v20_1 : U3 m c (Proc.devRef .tc main_v20_1) = sR (argX m c) :=
  (Pipeline.withArrays_arr spec0 arr_inj c (V0 m c) (fun w => (dats m 0 c).arrAt w cfg0.N) 3).trans ((final3 m c).trans ((congrFun (V0_eq m c) _).trans (u2_v19 m c)))

/-- `main_v20_2` after part 3. -/
theorem u3_v20_2 : U3 m c (Proc.devRef .tc main_v20_2) = sR (argX m c) :=
  (Pipeline.withArrays_arr spec0 arr_inj c (V0 m c) (fun w => (dats m 0 c).arrAt w cfg0.N) 4).trans ((final4 m c).trans ((congrFun (V0_eq m c) _).trans (u2_v19 m c)))

/-- `main_v20_3` after part 3. -/
theorem u3_v20_3 : U3 m c (Proc.devRef .tc main_v20_3) = argS m c :=
  (Pipeline.withArrays_arr spec0 arr_inj c (V0 m c) (fun w => (dats m 0 c).arrAt w cfg0.N) 5).trans ((final5 m c).trans ((congrFun (V0_eq m c) _).trans (u2_arg2 m c)))

/-- `main_v1` after part 4. -/
theorem u4_v1 : U4 m c (Proc.devRef .tc main_v1) = wideA (argX m c) :=
  (keep3 _ main_v1 (by decide +kernel)).trans (u3_v1 m c)

/-- `main_v2` after part 4. -/
theorem u4_v2 : U4 m c (Proc.devRef .tc main_v2) = absA (wideA (argX m c)) :=
  (keep3 _ main_v2 (by decide +kernel)).trans (u3_v2 m c)

/-- `main_v8` after part 4. -/
theorem u4_v8 : U4 m c (Proc.devRef .tc main_v8) = gR (argX m c) :=
  (keep3 _ main_v8 (by decide +kernel)).trans (u3_v8 m c)

/-- `main_arg1` after part 4: as it was. -/
theorem u4_arg1 : U4 m c (Proc.devRef .tc main_arg1) = argC m c :=
  (keep3 _ main_arg1 (by decide +kernel)).trans (u3_arg1 m c)

/-- `main_arg3` after part 4: as it was. -/
theorem u4_arg3 : U4 m c (Proc.devRef .tc main_arg3) = argG m c :=
  (keep3 _ main_arg3 (by decide +kernel)).trans (u3_arg3 m c)

/-- `main_v20_0` after part 4. -/
theorem u4_v20_0 : U4 m c (Proc.devRef .tc main_v20_0) = sR (argX m c) :=
  (keep3 _ main_v20_0 (by decide +kernel)).trans (u3_v20_0 m c)

/-- `main_v20_2` after part 4. -/
theorem u4_v20_2 : U4 m c (Proc.devRef .tc main_v20_2) = sR (argX m c) :=
  (keep3 _ main_v20_2 (by decide +kernel)).trans (u3_v20_2 m c)

/-- `main_v20_3` after part 4. -/
theorem u4_v20_3 : U4 m c (Proc.devRef .tc main_v20_3) = argS m c :=
  (keep3 _ main_v20_3 (by decide +kernel)).trans (u3_v20_3 m c)

/-- `main_v26` after part 4. -/
theorem u4_v26 : U4 m c (Proc.devRef .tc main_v26) = denomA (blocksA (sR (argX m c))) (colA (gR (argX m c))) :=
  (l3_v26 _).trans (congrArg₂ (fun s g => denomA (blocksA s) g) (u3_v20_1 m c) (u3_v9 m c))

/-- `main_v8` after part 5. -/
theorem u5_v8 : U5 m c (Proc.devRef .tc main_v8) = gR (argX m c) :=
  (keep4 _ main_v8 (by decide +kernel)).trans (u4_v8 m c)

/-- `main_arg1` after part 5: as it was. -/
theorem u5_arg1 : U5 m c (Proc.devRef .tc main_arg1) = argC m c :=
  (keep4 _ main_arg1 (by decide +kernel)).trans (u4_arg1 m c)

/-- `main_arg3` after part 5: as it was. -/
theorem u5_arg3 : U5 m c (Proc.devRef .tc main_arg3) = argG m c :=
  (keep4 _ main_arg3 (by decide +kernel)).trans (u4_arg3 m c)

/-- `main_v20_0` after part 5. -/
theorem u5_v20_0 : U5 m c (Proc.devRef .tc main_v20_0) = sR (argX m c) :=
  (keep4 _ main_v20_0 (by decide +kernel)).trans (u4_v20_0 m c)

/-- `main_v20_3` after part 5. -/
theorem u5_v20_3 : U5 m c (Proc.devRef .tc main_v20_3) = argS m c :=
  (keep4 _ main_v20_3 (by decide +kernel)).trans (u4_v20_3 m c)

/-- `main_v67` after part 5. -/
theorem u5_v67 : U5 m c (Proc.devRef .tc main_v67) = nR (argX m c) := by
  unfold U5
  rw [l4_v67, u4_v1, u4_v2, u4_v26]
  rfl

/-- `main_v68` after part 5. -/
theorem u5_v68 : U5 m c (Proc.devRef .tc main_v68) = (shapeCast S1x2048x448 (sR (argX m c)) shapeCasts_S2048x448_S1x2048x448 : FVec Ideal S1x2048x448 .bf16) := by
  unfold U5
  rw [l4_v68, u4_v20_2]

/-- `main_v72` after part 5. -/
theorem u5_v72 : U5 m c (Proc.devRef .tc main_v72) = bitA bcast_S_S1x2048x7168 1#32 (nR (argX m c)) :=
  (l4_v72 _).trans (congrArg (bitA bcast_S_S1x2048x7168 1#32) (u5_v67 m c))

/-- `main_v76` after part 5. -/
theorem u5_v76 : U5 m c (Proc.devRef .tc main_v76) = bitA bcast_S_S1x2048x7168 2#32 (nR (argX m c)) :=
  (l4_v76 _).trans (congrArg (bitA bcast_S_S1x2048x7168 2#32) (u5_v67 m c))

/-- `main_v80` after part 5. -/
theorem u5_v80 : U5 m c (Proc.devRef .tc main_v80) = bitA bcast_S_S1x2048x7168 4#32 (nR (argX m c)) :=
  (l4_v80 _).trans (congrArg (bitA bcast_S_S1x2048x7168 4#32) (u5_v67 m c))

/-- `main_v84` after part 5. -/
theorem u5_v84 : U5 m c (Proc.devRef .tc main_v84) = bitA bcast_S_S1x2048x7168 8#32 (nR (argX m c)) :=
  (l4_v84 _).trans (congrArg (bitA bcast_S_S1x2048x7168 8#32) (u5_v67 m c))

/-- `main_v93` after part 6. -/
theorem u6_v93 : U6 m c (Proc.devRef .tc main_v93) = decR bcast_S_S1x2048x7168 (nR (argX m c)) := by
  show StableHlo.after lines5 (U5 m c) _ = _
  rw [l5_v93 (U5 m c) (l4_c28 (U4 m c)) (l4_c29 (U4 m c)), u5_v72, u5_v76, u5_v80, u5_v84]
  rfl

/-- `main_v8` after part 6. -/
theorem u6_v8 : U6 m c (Proc.devRef .tc main_v8) = gR (argX m c) :=
  (keep5 _ main_v8 (by decide +kernel)).trans (u5_v8 m c)

/-- `main_arg1` after part 6: as it was. -/
theorem u6_arg1 : U6 m c (Proc.devRef .tc main_arg1) = argC m c :=
  (keep5 _ main_arg1 (by decide +kernel)).trans (u5_arg1 m c)

/-- `main_arg3` after part 6: as it was. -/
theorem u6_arg3 : U6 m c (Proc.devRef .tc main_arg3) = argG m c :=
  (keep5 _ main_arg3 (by decide +kernel)).trans (u5_arg3 m c)

/-- `main_v20_0` after part 6. -/
theorem u6_v20_0 : U6 m c (Proc.devRef .tc main_v20_0) = sR (argX m c) :=
  (keep5 _ main_v20_0 (by decide +kernel)).trans (u5_v20_0 m c)

/-- `main_v20_3` after part 6. -/
theorem u6_v20_3 : U6 m c (Proc.devRef .tc main_v20_3) = argS m c :=
  (keep5 _ main_v20_3 (by decide +kernel)).trans (u5_v20_3 m c)

/-- `main_v67` after part 6. -/
theorem u6_v67 : U6 m c (Proc.devRef .tc main_v67) = nR (argX m c) :=
  (keep5 _ main_v67 (by decide +kernel)).trans (u5_v67 m c)

/-- `main_v68` after part 6. -/
theorem u6_v68 : U6 m c (Proc.devRef .tc main_v68) = (shapeCast S1x2048x448 (sR (argX m c)) shapeCasts_S2048x448_S1x2048x448 : FVec Ideal S1x2048x448 .bf16) :=
  (keep5 _ main_v68 (by decide +kernel)).trans (u5_v68 m c)

/-- `main_v8` after part 7. -/
theorem u7_v8 : U7 m c (Proc.devRef .tc main_v8) = gR (argX m c) :=
  (keep6 _ main_v8 (by decide +kernel)).trans (u6_v8 m c)

/-- `main_arg3` after part 7: as it was. -/
theorem u7_arg3 : U7 m c (Proc.devRef .tc main_arg3) = argG m c :=
  (keep6 _ main_arg3 (by decide +kernel)).trans (u6_arg3 m c)

/-- `main_v20_0` after part 7. -/
theorem u7_v20_0 : U7 m c (Proc.devRef .tc main_v20_0) = sR (argX m c) :=
  (keep6 _ main_v20_0 (by decide +kernel)).trans (u6_v20_0 m c)

/-- `main_v20_3` after part 7. -/
theorem u7_v20_3 : U7 m c (Proc.devRef .tc main_v20_3) = argS m c :=
  (keep6 _ main_v20_3 (by decide +kernel)).trans (u6_v20_3 m c)

/-- `main_v67` after part 7. -/
theorem u7_v67 : U7 m c (Proc.devRef .tc main_v67) = nR (argX m c) :=
  (keep6 _ main_v67 (by decide +kernel)).trans (u6_v67 m c)

/-- `main_v98` after part 7. -/
theorem u7_v98 : U7 m c (Proc.devRef .tc main_v98) = xR (argX m c) :=
  (l6_v98 _).trans (congrArg₂ xhatA (u6_v93 m c) (u6_v68 m c))

/-- `main_v107` after part 7. -/
theorem u7_v107 : U7 m c (Proc.devRef .tc main_v107) = weightNibbleA (argC m c) :=
  (l6_v107 _).trans (congrArg weightNibbleA (u6_arg1 m c))

/-- `main_v111` after part 7. -/
theorem u7_v111 : U7 m c (Proc.devRef .tc main_v111) = bitA bcast_S_S4608x7168 1#32 (weightNibbleA (argC m c)) :=
  (l6_v111 _).trans (congrArg (bitA bcast_S_S4608x7168 1#32) (u7_v107 m c))

/-- `main_v115` after part 7. -/
theorem u7_v115 : U7 m c (Proc.devRef .tc main_v115) = bitA bcast_S_S4608x7168 2#32 (weightNibbleA (argC m c)) :=
  (l6_v115 _).trans (congrArg (bitA bcast_S_S4608x7168 2#32) (u7_v107 m c))

/-- `main_v119` after part 7. -/
theorem u7_v119 : U7 m c (Proc.devRef .tc main_v119) = bitA bcast_S_S4608x7168 4#32 (weightNibbleA (argC m c)) :=
  (l6_v119 _).trans (congrArg (bitA bcast_S_S4608x7168 4#32) (u7_v107 m c))

/-- `main_v123` after part 7. -/
theorem u7_v123 : U7 m c (Proc.devRef .tc main_v123) = bitA bcast_S_S4608x7168 8#32 (weightNibbleA (argC m c)) :=
  (l6_v123 _).trans (congrArg (bitA bcast_S_S4608x7168 8#32) (u7_v107 m c))

/-- `main_v132` after part 8. -/
theorem u8_v132 : U8 m c (Proc.devRef .tc main_v132) = decR bcast_S_S4608x7168 (weightNibbleA (argC m c)) := by
  show StableHlo.after lines7 (U7 m c) _ = _
  rw [l7_v132 (U7 m c) (l6_c46 (U6 m c)) (l6_c47 (U6 m c)), u7_v111, u7_v115, u7_v119, u7_v123]
  rfl

/-- `main_v8` after part 8. -/
theorem u8_v8 : U8 m c (Proc.devRef .tc main_v8) = gR (argX m c) :=
  (keep7 _ main_v8 (by decide +kernel)).trans (u7_v8 m c)

/-- `main_arg3` after part 8: as it was. -/
theorem u8_arg3 : U8 m c (Proc.devRef .tc main_arg3) = argG m c :=
  (keep7 _ main_arg3 (by decide +kernel)).trans (u7_arg3 m c)

/-- `main_v20_0` after part 8. -/
theorem u8_v20_0 : U8 m c (Proc.devRef .tc main_v20_0) = sR (argX m c) :=
  (keep7 _ main_v20_0 (by decide +kernel)).trans (u7_v20_0 m c)

/-- `main_v20_3` after part 8. -/
theorem u8_v20_3 : U8 m c (Proc.devRef .tc main_v20_3) = argS m c :=
  (keep7 _ main_v20_3 (by decide +kernel)).trans (u7_v20_3 m c)

/-- `main_v67` after part 8. -/
theorem u8_v67 : U8 m c (Proc.devRef .tc main_v67) = nR (argX m c) :=
  (keep7 _ main_v67 (by decide +kernel)).trans (u7_v67 m c)

/-- `main_v98` after part 8. -/
theorem u8_v98 : U8 m c (Proc.devRef .tc main_v98) = xR (argX m c) :=
  (keep7 _ main_v98 (by decide +kernel)).trans (u7_v98 m c)

/-- The result of the matrix product. -/
theorem u9_v147 : U9 m c (Proc.devRef .tc main_v147) = resultA (productA (xR (argX m c)) (wR (argC m c) (argS m c))) (gR (argX m c)) (argG m c) := by
  unfold U9
  rw [l8_v147, u8_v98, u8_v132, u8_v20_3, u8_v8, u8_arg3]
  rfl

/-- The codes. -/
theorem u9_v156 : U9 m c (Proc.devRef .tc main_v156) = bytesA (nR (argX m c)) :=
  (l8_v156 _).trans (congrArg bytesA (u8_v67 m c))

/-- The block scales. -/
theorem u9_v157 : U9 m c (Proc.devRef .tc main_v157) = (shapeCast S1x2048x448 (sR (argX m c)) shapeCasts_S2048x448_S1x2048x448 : FVec Ideal S1x2048x448 .fp8e4m3) := by
  unfold U9
  rw [l8_v157, u8_v20_0]

/-- The global scales. -/
theorem u9_v8 : U9 m c (Proc.devRef .tc main_v8) = gR (argX m c) :=
  (keep8 _ main_v8 (by decide +kernel)).trans (u8_v8 m c)

/-- The memory at the end is what the last part leaves. -/
theorem tail_eq (b : Ref sig .tc) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28] c b
    = U9 m c (Proc.devRef .tc b) := by
  unfold Pipeline.afterTail₀ U9 U8 U7 U6 U5 U4 lines3 lines5 lines7
  simp only [List.flatten_cons, List.flatten_nil, List.append_nil, StableHlo.after_append]
  rfl

/-- The reference terminates, and its results hold what its lines compute of the arguments. -/
theorem run : θ_run defs (onTc (τ := τ) (main (F := Ideal))) ⟨m, fun _ => 0, ρ⟩ (fun r => ∀ c : Dev nD,
      r.2.mem ((c.tc : Thread nD τ).loc main_v147) = resultA (productA (xR (argX m c)) (wR (argC m c) (argS m c))) (gR (argX m c)) (argG m c)
      ∧ r.2.mem ((c.tc : Thread nD τ).loc main_v156) = bytesA (nR (argX m c))
      ∧ r.2.mem ((c.tc : Thread nD τ).loc main_v157) = (shapeCast S1x2048x448 (sR (argX m c)) shapeCasts_S2048x448_S1x2048x448 : FVec Ideal S1x2048x448 .fp8e4m3)
      ∧ r.2.mem ((c.tc : Thread nD τ).loc main_v8) = gR (argX m c)) :=
  (θ_run defs _ _).mono (fun _ h c =>
    ⟨((h c).2 main_v147 (Pipeline.mem_restRefs_of main_v147 (by decide) (by decide))).trans ((tail_eq m c _).trans (u9_v147 m c)),
     ((h c).2 main_v156 (Pipeline.mem_restRefs_of main_v156 (by decide) (by decide))).trans ((tail_eq m c _).trans (u9_v156 m c)),
     ((h c).2 main_v157 (Pipeline.mem_restRefs_of main_v157 (by decide) (by decide))).trans ((tail_eq m c _).trans (u9_v157 m c)),
     ((h c).2 main_v8 (Pipeline.mem_restRefs_of main_v8 (by decide) (by decide))).trans ((tail_eq m c _).trans (u9_v8 m c))⟩)
    (run_main m ρ)

end Run

end Cert.ReferenceIdeal.Val
-- ==== Proof.RElt.lean ====
module

public import proofs.«01_k».proof.Proof.RKeep

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen

section x

variable (x : FVec Ideal S1x2048x7168 .bf16)

/-- An element of the segmented, blocked `x`. -/
theorem wideA_apply (s : Fin 8) (p : Fin 256) (b : Fin 448) (l : Fin 16) :
    wideA x (ix5 0 s p b l) = x (ix3 0 ⟨s.val * 256 + p.val, by omega⟩ ⟨b.val * 16 + l.val, by omega⟩) := by
  unfold wideA
  pointwise

/-- The magnitude of an element. -/
theorem absA_apply (s : Fin 8) (p : Fin 256) (b : Fin 448) (l : Fin 16) :
    absA (wideA x) (ix5 0 s p b l) = max (x (ix3 0 ⟨s.val * 256 + p.val, by omega⟩ ⟨b.val * 16 + l.val, by omega⟩)) (-x (ix3 0 ⟨s.val * 256 + p.val, by omega⟩ ⟨b.val * 16 + l.val, by omega⟩)) := by
  unfold absA wideA
  pointwise
  rfl

/-- The largest magnitude of a segment, as a fold over the elements of the segment. -/
theorem peakA_apply (s : Fin 8) :
    peakA (absA (wideA x)) (ix1 s) = Finset.fold max (Ideal.ofBits .f32 0xFF800000#32) (absA (wideA x)) {i | reducesTo_S1x8x256x448x16_S8_d0_2_3_4.drop i = ix1 s} := by
  unfold peakA
  pointwise

/-- The largest magnitude of a block, as a fold over its elements. -/
theorem blockPeakA_apply (s : Fin 8) (p : Fin 256) (b : Fin 448) :
    blockPeakA (absA (wideA x)) (ix4 0 s p b) = Finset.fold max (Ideal.ofBits .f32 0xFF800000#32) (fun l : Fin 16 => absA (wideA x) (ix5 0 s p b l)) Finset.univ := by
  unfold blockPeakA
  pointwise

end x

/-- The scale of a segment from its largest magnitude. -/
theorem gainA_apply (a : FVec Ideal S8 .f32) (s : Fin 8) :
    gainA a (ix1 s) = if a (ix1 s) = 0 then 1 else Ideal.div (a (ix1 s)) (Ideal.ofBits .f32 0x45280000#32) := by
  unfold gainA
  pointwise

/-- The scale of a block from its largest magnitude and the segment's scale. -/
theorem scalesA_apply (a : FVec Ideal S1x8x256x448 .f32) (g : FVec Ideal S8 .f32) (r : Fin 2048) (b : Fin 448) :
    scalesA (ratioA a (colA g)) (ix2 r b)
      = min (Ideal.ofBits .f32 0x43E00000#32) (max 0 (Ideal.div (a (ix4 0 ⟨r.val / 256, by omega⟩ ⟨r.val % 256, by omega⟩ b) * Ideal.ofBits .f32 0x3F800800#32)
          (Ideal.ofBits .f32 0x40C00000#32 * g (ix1 ⟨r.val / 256, by omega⟩)))) := by
  unfold scalesA ratioA colA
  pointwise

/-- The magnitude of an element divided by its step size, cut at six. -/
theorem smallA_apply (a : FVec Ideal S1x8x256x448x16 .f32) (s : FVec Ideal S2048x448 .f32) (g : FVec Ideal S8 .f32) (t : Fin 8) (p : Fin 256) (b : Fin 448) (l : Fin 16) :
    smallA a (denomA (blocksA s) (colA g)) (ix5 0 t p b l)
      = min (Ideal.div (a (ix5 0 t p b l)) (if s (ix2 ⟨t.val * 256 + p.val, by omega⟩ b) = 0 then 1 else s (ix2 ⟨t.val * 256 + p.val, by omega⟩ b) * g (ix1 t)))
          (Ideal.ofBits .f32 0x40C00000#32) := by
  unfold smallA denomA blocksA colA
  pointwise

/-- The index of a magnitude: how many of the seven thresholds it passes. -/
theorem indexA_apply (a : FVec Ideal S1x8x256x448x16 .f32) (j : S1x8x256x448x16.Idx) :
    indexA a j = (BitVec.ofBool (decide (Ideal.ofBits .f32 0x3E800000#32 < a j))).setWidth 32 + (BitVec.ofBool (decide (Ideal.ofBits .f32 0x3F400000#32 ≤ a j))).setWidth 32
      + (BitVec.ofBool (decide (Ideal.ofBits .f32 0x3FA00000#32 < a j))).setWidth 32 + (BitVec.ofBool (decide (Ideal.ofBits .f32 0x3FE00000#32 ≤ a j))).setWidth 32
      + (BitVec.ofBool (decide (Ideal.ofBits .f32 0x40200000#32 < a j))).setWidth 32 + (BitVec.ofBool (decide (Ideal.ofBits .f32 0x40600000#32 ≤ a j))).setWidth 32
      + (BitVec.ofBool (decide (Ideal.ofBits .f32 0x40A00000#32 < a j))).setWidth 32 := by
  unfold indexA passA
  pointwise
  rfl

/-- The code of an element from its index and its sign. -/
theorem nibbleA_apply (w : FVec Ideal S1x8x256x448x16 .f32) (i : IVec S1x8x256x448x16 32) (r : Fin 2048) (e : Fin 7168) :
    rowsA (nibbleA w i) (ix3 0 r e)
      = (fun j => i j + 8#32 * (BitVec.ofBool (decide (w j < 0)) &&& IntOp.cmpi .sgt (i j) 0#32).setWidth 32)
          (ix5 0 ⟨r.val / 256, by omega⟩ ⟨r.val % 256, by omega⟩ ⟨e.val / 16, by omega⟩ ⟨e.val % 16, by omega⟩) := by
  unfold rowsA nibbleA
  pointwise
  rfl

/-- A byte holds the codes of two neighbouring elements. -/
theorem bytesA_apply (n : IVec S1x2048x7168 32) (r : Fin 2048) (l : Fin 3584) :
    bytesA n (ix3 0 r l) = (IntOp.ori (n (ix3 0 r ⟨l.val * 2, by omega⟩)) (IntOp.shli .host (n (ix3 0 r ⟨l.val * 2 + 1, by omega⟩)) 4#32)).setWidth 8 := by
  unfold bytesA halfA
  pointwise

/-- An element of the decoded `x`. -/
theorem xhatA_apply (v : FVec Ideal S1x2048x7168 .bf16) (s : FVec Ideal S1x2048x448 .bf16) (r : Fin 2048) (e : Fin 7168) :
    xhatA v s (ix3 0 r e) = v (ix3 0 r e) * s (ix3 0 r ⟨e.val / 16, by omega⟩) := by
  unfold xhatA
  pointwise

/-- A code of the weights: the low half of its byte for an even element, the high half for an odd one. -/
theorem weightNibbleA_apply (w : IVec S4608x3584 8) (o : Fin 4608) (e : Fin 7168) :
    weightNibbleA w (ix2 o e) = if e.val % 2 < 1 then IntOp.andi ((w (ix2 o ⟨e.val / 2, by omega⟩)).setWidth 32) 15#32
      else IntOp.shrsi .host ((w (ix2 o ⟨e.val / 2, by omega⟩)).setWidth 32) 4#32 := by
  unfold weightNibbleA
  pointwise
  rfl

/-- An element of the decoded weights. -/
theorem whatA_apply (v : FVec Ideal S4608x7168 .bf16) (s : FVec Ideal S4608x448 .bf16) (o : Fin 4608) (e : Fin 7168) :
    whatA v s (ix2 o e) = v (ix2 o e) * s (ix2 o ⟨e.val / 16, by omega⟩) := by
  unfold whatA
  pointwise

/-- An element of the result. -/
theorem resultA_apply (a : FVec Ideal S1x2048x7168 .bf16) (w : FVec Ideal S4608x7168 .bf16) (g : FVec Ideal S8 .f32) (ws : FVec Ideal S1 .f32) (r : Fin 2048) (o : Fin 4608) :
    resultA (productA a w) g ws (ix3 0 r o) = (∑ e : Fin 7168, a (ix3 0 r e) * w (ix2 o e)) * g (ix1 ⟨r.val / 256, by omega⟩) * ws (ix1 0) := by
  unfold resultA productA
  pointwise

/-- The scales of the blocks with a leading axis of extent one. -/
theorem cast_apply (s : FVec Ideal S2048x448 .f32) (r : Fin 2048) (b : Fin 448) :
    shapeCast S1x2048x448 s shapeCasts_S2048x448_S1x2048x448 (ix3 0 r b) = s (ix2 r b) := by
  pointwise

/-- The value of a code, written with the bits of the code. -/
def nibbleValue (n : BitVec 32) : EReal :=
  have b (k : BitVec 32) : BitVec 1 := IntOp.cmpi .ne (IntOp.andi n k) 0#32
  have v : EReal := Scalar.select (b 4#32)
    (Scalar.select (b 2#32) (Scalar.select (b 1#32) (Ideal.ofBits .bf16 0x40C0#16) (Ideal.ofBits .bf16 0x4080#16))
      (Scalar.select (b 1#32) (Ideal.ofBits .bf16 0x4040#16) (Ideal.ofBits .bf16 0x4000#16)))
    (Scalar.select (b 2#32) (Scalar.select (b 1#32) (Ideal.ofBits .bf16 0x3FC0#16) 1)
      (Scalar.select (b 1#32) (Ideal.ofBits .bf16 0x3F00#16) 0))
  Scalar.select (b 8#32) (-v) v

/-- The decoding of an array of codes reads each code. -/
theorem decR_x (n : IVec S1x2048x7168 32) (j : S1x2048x7168.Idx) : decR bcast_S_S1x2048x7168 n j = nibbleValue (n j) := by
  unfold decR valueA sizeA pickA bitA
  pointwise
  rfl

/-- The decoding of the weights' codes reads each code. -/
theorem decR_w (n : IVec S4608x7168 32) (j : S4608x7168.Idx) : decR bcast_S_S4608x7168 n j = nibbleValue (n j) := by
  unfold decR valueA sizeA pickA bitA
  pointwise
  rfl

end Cert.ReferenceIdeal.Val
-- ==== Proof.EqA.lean ====
module

public import proofs.«01_k».proof.Proof.QG
public import proofs.«01_k».proof.Proof.RElt

@[expose] public section

set_option maxRecDepth 16384

noncomputable section

namespace Cert.Equal

open Idealize.ShloMosaic Cert.KernelIdeal.Codec Cert.KernelIdeal.Q Cert.ReferenceIdeal.Val

/-- The word of six. -/
theorem bits_six : Ideal.ofBits .f32 0x40C00000#32 = ((6 : ℝ) : EReal) := by
  simp [Ideal.ofBits, Ideal.ieee, -EReal.coe_mul]; norm_num

/-- The word of minus six. -/
theorem bits_neg_six : Ideal.ofBits .f32 0xC0C00000#32 = ((-6 : ℝ) : EReal) := by
  simp [Ideal.ofBits, Ideal.ieee, -EReal.coe_mul]; norm_num

/-- The word of one. -/
theorem bits_one : Ideal.ofBits .f32 0x3F800000#32 = ((1 : ℝ) : EReal) := by
  simp [Ideal.ofBits, Ideal.ieee, -EReal.coe_mul]; norm_num

/-- The word of zero. -/
theorem bits_zero : Ideal.ofBits .f32 0x00000000#32 = (0 : EReal) := by
  simp [Ideal.ofBits, Ideal.ieee]

/-- The word of 448. -/
theorem bits_448 : Ideal.ofBits .f32 0x43E00000#32 = ((448 : ℝ) : EReal) := by
  simp [Ideal.ofBits, Ideal.ieee, -EReal.coe_mul]; norm_num

/-- The word of 2688. -/
theorem bits_2688 : Ideal.ofBits .f32 0x45280000#32 = ((2688 : ℝ) : EReal) := by
  simp [Ideal.ofBits, Ideal.ieee, -EReal.coe_mul]; norm_num

/-- A segment's scale is positive. -/
theorem gainOf_pos (a : EReal) (h : 0 ≤ a) : 0 < gainOf a := by
  unfold gainOf
  split
  · exact zero_lt_one
  · rename_i hn
    rw [bits_2688]
    have h0 : ((2688 : ℝ) : EReal) ≠ 0 := by norm_num
    unfold Ideal.div
    rw [if_neg h0, ← EReal.coe_inv]
    induction a with
    | bot => simp at h
    | top => rw [EReal.top_mul_coe_of_pos (by norm_num)]; exact EReal.zero_lt_top
    | coe a =>
      rw [← EReal.coe_mul]
      have ha : 0 < a := lt_of_le_of_ne (by exact_mod_cast h) (fun e => hn (by rw [← e]; rfl))
      exact_mod_cast mul_pos ha (by norm_num)

/-- The step size of an element: one where the scale is zero. -/
def stepOf (s g : EReal) : EReal := if s = 0 then 1 else s * g

/-- A step size is a positive real number. -/
theorem step_real (b g : EReal) (hg : 0 < g) : ∃ d : ℝ, 0 < d ∧ stepOf (scaleOf b g) g = (d : EReal) := by
  unfold stepOf
  split
  · exact ⟨1, one_pos, rfl⟩
  · rename_i hn
    have h0 : 0 ≤ scaleOf b g := by
      unfold scaleOf
      rw [bits_448, bits_zero]
      exact le_min (by norm_num) (le_max_left _ _)
    have h1 : scaleOf b g ≤ ((448 : ℝ) : EReal) := by
      unfold scaleOf
      rw [bits_448]
      exact min_le_left _ _
    induction g with
    | bot => simp at hg
    | top =>
      refine absurd ?_ hn
      unfold scaleOf Ideal.div
      rw [bits_448, bits_zero, bits_six, EReal.coe_mul_top_of_pos (by norm_num), if_neg (by simp), EReal.inv_top, mul_zero, max_self]
      exact min_eq_right (by norm_num)
    | coe g =>
      generalize scaleOf b (g : EReal) = s at *
      induction s with
      | bot => simp at h0
      | top => simp at h1
      | coe s =>
        refine ⟨s * g, mul_pos (lt_of_le_of_ne (by exact_mod_cast h0) (fun e => hn (by rw [← e]; rfl))) (by exact_mod_cast hg), ?_⟩
        rw [EReal.coe_mul]

/-- The kernel's reciprocal of a step size is the inverse of that real number. -/
theorem rcp_step (s g : EReal) (d : ℝ) (hd : 0 < d) (h : stepOf s g = (d : EReal)) : rcpOf s g = ((d⁻¹ : ℝ) : EReal) := by
  unfold rcpOf
  rw [bits_zero, bits_one]
  have e : (if s = 0 then ((1 : ℝ) : EReal) else s * g) = (d : EReal) := h
  have h0 : (d : EReal) ≠ 0 := by exact_mod_cast hd.ne'
  rw [e]
  unfold Ideal.div
  rw [if_neg h0, ← EReal.coe_inv, EReal.coe_one, one_mul]

/-- Multiplying by a positive real multiplies the magnitude. -/
theorem mag_mul (u : EReal) (r : ℝ) (hr : 0 < r) : mag (u * (r : EReal)) = mag u * (r : EReal) := by
  have hm : Monotone fun y : EReal => y * (r : EReal) := fun a b h => mul_le_mul_of_nonneg_right h (by exact_mod_cast hr.le)
  unfold mag
  rw [hm.map_max, EReal.neg_mul]

/-- The magnitude of a clipped value is the magnitude cut at six. -/
theorem mag_clip (z : EReal) : mag (min ((6 : ℝ) : EReal) (max ((-6 : ℝ) : EReal) z)) = min (mag z) ((6 : ℝ) : EReal) := by
  have n6 : -((6 : ℝ) : EReal) = ((-6 : ℝ) : EReal) := rfl
  have m6 : -((-6 : ℝ) : EReal) = ((6 : ℝ) : EReal) := by rw [← EReal.coe_neg]; norm_num
  have l6 : ((-6 : ℝ) : EReal) ≤ ((6 : ℝ) : EReal) := by exact_mod_cast (by norm_num : (-6 : ℝ) ≤ 6)
  unfold mag
  rcases le_total z ((-6 : ℝ) : EReal) with h | h
  · have h' : ((6 : ℝ) : EReal) ≤ -z := by rw [← m6]; exact EReal.neg_le_neg_iff.2 h
    rw [max_eq_left h, min_eq_right l6, m6, max_eq_right l6, min_eq_right (h'.trans (le_max_right _ _))]
  · rw [max_eq_right h]
    have h' : -z ≤ ((6 : ℝ) : EReal) := by rw [← m6]; exact EReal.neg_le_neg_iff.2 h
    rcases le_total z ((6 : ℝ) : EReal) with k | k
    · rw [min_eq_right k, min_eq_left (max_le k h')]
    · rw [min_eq_left k, n6, max_eq_left l6, min_eq_right (k.trans (le_max_left _ _))]

/-- Multiplying by a positive real keeps the sign. -/
theorem mul_neg_iff (u : EReal) (r : ℝ) (hr : 0 < r) : u * (r : EReal) < 0 ↔ u < 0 := by
  induction u with
  | bot => rw [EReal.bot_mul_coe_of_pos hr]
  | top => rw [EReal.top_mul_coe_of_pos hr]
  | coe u =>
    rw [← EReal.coe_mul]
    constructor
    · intro h
      have h : u * r < 0 := by exact_mod_cast h
      exact_mod_cast (by nlinarith : u < 0)
    · intro h
      have h : u < 0 := by exact_mod_cast h
      exact_mod_cast (by nlinarith : u * r < 0)

/-- Clipping to six on both sides keeps the sign. -/
theorem clip_neg_iff (z : EReal) : min ((6 : ℝ) : EReal) (max ((-6 : ℝ) : EReal) z) < 0 ↔ z < 0 := by
  have h6 : ¬ ((6 : ℝ) : EReal) < 0 := by norm_num
  have n6 : ((-6 : ℝ) : EReal) < 0 := by exact_mod_cast (by norm_num : (-6 : ℝ) < 0)
  rw [min_lt_iff, max_lt_iff]
  tauto

/-- The code the plain quantiser gives an element: the index of its magnitude, and the sign where the index is not zero. -/
def plain (neg : Prop) [Decidable neg] (m : EReal) : BitVec 32 :=
  count (passes m) + 8#32 * (BitVec.ofBool (decide neg) &&& IntOp.cmpi .sgt (count (passes m)) 0#32).setWidth 32

/-- Adding eight for a negative number whose index is not zero is the sign bit set with the negative zero written as zero. -/
theorem code_of_count : ∀ (b : Fin 7 → Bool) (n : Bool),
    count b + 8#32 * (BitVec.ofBool n &&& IntOp.cmpi .sgt (count b) 0#32).setWidth 32 = clr (bif n then count b ||| 8#32 else count b) := by
  decide +kernel

/-- The plain quantiser's code is the kernel's, the negative zero written as zero. -/
theorem plain_eq (u b g : EReal) (hg : 0 < g) :
    plain (u < 0) (min (Ideal.div (mag u) (stepOf (scaleOf b g) g)) (Ideal.ofBits .f32 0x40C00000#32)) = clr (codeOf (clipOf u (rcpOf (scaleOf b g) g))) := by
  obtain ⟨d, hd, h⟩ := step_real b g hg
  have h0 : (d : EReal) ≠ 0 := by exact_mod_cast hd.ne'
  have hi : 0 < d⁻¹ := inv_pos.2 hd
  rw [rcp_step _ _ d hd h, h]
  unfold Ideal.div
  rw [if_neg h0, ← EReal.coe_inv, ← mag_mul u _ hi]
  unfold clipOf codeOf plain
  rw [bits_six, bits_neg_six, bits_zero, ← mag_clip]
  rw [code_of_count]
  congr 1
  have e : (min ((6 : ℝ) : EReal) (max ((-6 : ℝ) : EReal) (u * ((d⁻¹ : ℝ) : EReal))) < 0) = (u < 0) :=
    propext ((clip_neg_iff _).trans (mul_neg_iff u _ hi))
  by_cases hu : u < 0
  · rw [if_pos (by rw [e]; exact hu)]; simp [hu]
  · rw [if_neg (by rw [e]; exact hu)]; simp [hu]

/-- The byte of two codes. -/
theorem byte_of : ∀ a b : Fin 16, (IntOp.ori (clr (BitVec.ofNat 32 a.val)) (IntOp.shli .host (clr (BitVec.ofNat 32 b.val)) 4#32)).setWidth 8
    = byteOf (BitVec.ofNat 32 a.val) (BitVec.ofNat 32 b.val) := by
  decide +kernel

/-- `byte_of` for words below 16. -/
theorem byte_eq (a b : BitVec 32) (ha : a.toNat < 16) (hb : b.toNat < 16) :
    (IntOp.ori (clr a) (IntOp.shli .host (clr b) 4#32)).setWidth 8 = byteOf a b := by
  have h := byte_of ⟨a.toNat, ha⟩ ⟨b.toNat, hb⟩
  simpa using h

end Cert.Equal
-- ==== Proof.EqB.lean ====
module

public import proofs.«01_k».proof.Proof.QC
public import proofs.«01_k».proof.Proof.RElt

@[expose] public section

set_option maxRecDepth 16384

noncomputable section

namespace Cert.Equal

open Idealize.ShloMosaic Cert.KernelIdeal.Codec Cert.KernelIdeal.Q Cert.ReferenceIdeal.Val

/-- Twice the value of a code, as an integer. -/
def twice (n : BitVec 32) : ℤ := ![0, 1, 2, 3, 4, 6, 8, 12, 0, -1, -2, -3, -4, -6, -8, -12] (Fin.ofNat 16 n.toNat)

/-- The integer table read at a code. -/
theorem table_int : ∀ k : Fin 16,
    (if (BitVec.ofNat 32 k.val).slt 8#32 then (3362009616#32 >>> ((BitVec.ofNat 32 k.val &&& 7#32) <<< 2)) &&& 15#32
      else 0#32 - ((3362009616#32 >>> ((BitVec.ofNat 32 k.val &&& 7#32) <<< 2)) &&& 15#32)).toInt = twice (BitVec.ofNat 32 k.val) := by
  decide +kernel

/-- The integer table's value of a code. -/
theorem e2m1_twice (k : Fin 16) : e2m1 (BitVec.ofNat 32 k.val) = (((twice (BitVec.ofNat 32 k.val) : ℝ) / 2 : ℝ) : EReal) := by
  unfold e2m1
  rw [table_int k, ← EReal.coe_mul]
  congr 1
  ring

/-- The word of six. -/
theorem bits_6 : Ideal.ofBits .bf16 0x40C0#16 = ((6 : ℝ) : EReal) := by simp [Ideal.ofBits, Ideal.ieee, -EReal.coe_mul]; norm_num
/-- The word of four. -/
theorem bits_4 : Ideal.ofBits .bf16 0x4080#16 = ((4 : ℝ) : EReal) := by simp [Ideal.ofBits, Ideal.ieee, -EReal.coe_mul]; norm_num
/-- The word of three. -/
theorem bits_3 : Ideal.ofBits .bf16 0x4040#16 = ((3 : ℝ) : EReal) := by simp [Ideal.ofBits, Ideal.ieee, -EReal.coe_mul]; norm_num
/-- The word of two. -/
theorem bits_2 : Ideal.ofBits .bf16 0x4000#16 = ((2 : ℝ) : EReal) := by simp [Ideal.ofBits, Ideal.ieee, -EReal.coe_mul]; norm_num
/-- The word of three halves. -/
theorem bits_3_2 : Ideal.ofBits .bf16 0x3FC0#16 = ((3 / 2 : ℝ) : EReal) := by simp [Ideal.ofBits, Ideal.ieee, -EReal.coe_mul]; norm_num
/-- The word of one half. -/
theorem bits_1_2 : Ideal.ofBits .bf16 0x3F00#16 = ((1 / 2 : ℝ) : EReal) := by simp [Ideal.ofBits, Ideal.ieee, -EReal.coe_mul]; norm_num

/-- A bit of a code. -/
theorem bit_ofNat : ∀ (k : Fin 16) (j : Fin 4), IntOp.cmpi .ne (IntOp.andi (BitVec.ofNat 32 k.val) (BitVec.ofNat 32 (2 ^ j.val))) 0#32 = BitVec.ofBool (k.val.testBit j.val) := by
  decide +kernel

/-- A selection by a known bit. -/
theorem select_bool (b : Bool) (x y : EReal) : Scalar.select (BitVec.ofBool b) x y = bif b then x else y := by
  cases b <;> simp [Scalar.select]

/-- The value of a code read by its bits is the integer table's. -/
theorem value_eq (k : Fin 16) : nibbleValue (BitVec.ofNat 32 k.val) = e2m1 (BitVec.ofNat 32 k.val) := by
  have b0 : IntOp.cmpi .ne (IntOp.andi (BitVec.ofNat 32 k.val) 1#32) 0#32 = BitVec.ofBool (k.val.testBit 0) := bit_ofNat k 0
  have b1 : IntOp.cmpi .ne (IntOp.andi (BitVec.ofNat 32 k.val) 2#32) 0#32 = BitVec.ofBool (k.val.testBit 1) := bit_ofNat k 1
  have b2 : IntOp.cmpi .ne (IntOp.andi (BitVec.ofNat 32 k.val) 4#32) 0#32 = BitVec.ofBool (k.val.testBit 2) := bit_ofNat k 2
  have b3 : IntOp.cmpi .ne (IntOp.andi (BitVec.ofNat 32 k.val) 8#32) 0#32 = BitVec.ofBool (k.val.testBit 3) := bit_ofNat k 3
  rw [e2m1_twice]
  unfold nibbleValue
  dsimp only
  simp only [b0, b1, b2, b3, select_bool, bits_6, bits_4, bits_3, bits_2, bits_3_2, bits_1_2]
  fin_cases k <;> simp [twice, Nat.testBit, Fin.ofNat, ← EReal.coe_neg] <;> norm_num

/-- `value_eq` for words below 16. -/
theorem value_of_lt (n : BitVec 32) (h : n.toNat < 16) : nibbleValue n = e2m1 n := by
  have e := value_eq ⟨n.toNat, h⟩
  simpa using e

/-- Writing the negative zero as zero keeps a code's value, and keeps it below 16. -/
theorem twice_clr : ∀ k : Fin 16, twice (clr (BitVec.ofNat 32 k.val)) = twice (BitVec.ofNat 32 k.val) ∧ (clr (BitVec.ofNat 32 k.val)).toNat < 16 := by decide +kernel

/-- A code below 16 stays below 16. -/
theorem clr_lt (n : BitVec 32) (h : n.toNat < 16) : (clr n).toNat < 16 := by
  have e := (twice_clr ⟨n.toNat, h⟩).2
  simpa using e

/-- Writing the negative zero as zero does not change a code's value. -/
theorem e2m1_clr (n : BitVec 32) (h : n.toNat < 16) : e2m1 (clr n) = e2m1 n := by
  have e := (twice_clr ⟨n.toNat, h⟩).1
  have h1 := e2m1_twice ⟨n.toNat, h⟩
  have h2 := e2m1_twice ⟨(clr n).toNat, clr_lt n h⟩
  simp only [BitVec.ofNat_toNat, BitVec.setWidth_eq] at e h1 h2
  rw [h1, h2, e]

/-- The two halves of a byte as the reference takes them, for each of the 256 bytes. -/
theorem nib_byte : ∀ w : Fin 256, IntOp.andi ((BitVec.ofNat 8 w.val).setWidth 32) 15#32 = nibLo (BitVec.ofNat 8 w.val)
    ∧ IntOp.shrsi .host ((BitVec.ofNat 8 w.val).setWidth 32) 4#32 = nibHi (BitVec.ofNat 8 w.val)
    ∧ (nibLo (BitVec.ofNat 8 w.val)).toNat < 16 ∧ (nibHi (BitVec.ofNat 8 w.val)).toNat < 16 := by
  decide +kernel

/-- The halves of a byte. -/
theorem nib_eq (w : BitVec 8) : IntOp.andi (w.setWidth 32) 15#32 = nibLo w ∧ IntOp.shrsi .host (w.setWidth 32) 4#32 = nibHi w ∧ (nibLo w).toNat < 16 ∧ (nibHi w).toNat < 16 := by
  have e := nib_byte ⟨w.toNat, w.isLt⟩
  simpa only [BitVec.ofNat_toNat, BitVec.setWidth_eq] using e

end Cert.Equal
-- ==== Proof.EqC.lean ====
module

public import proofs.«01_k».proof.Proof.KRun
public import proofs.«01_k».proof.Proof.EqA
public import proofs.«01_k».proof.Proof.EqB

@[expose] public section

set_option maxRecDepth 16384

noncomputable section

namespace Cert.Equal

open Idealize.ShloMosaic Cert.KernelIdeal.Codec Cert.KernelIdeal.Q Cert.KernelIdeal.Out
open Cert.ReferenceIdeal (S1x2048x7168 S4608x3584 S4608x448 S1 S8 S1x8x256x448x16)
open Cert.ReferenceIdeal.Val (wideA absA peakA gainA colA blockPeakA ratioA scalesA gR sR nR decR xR wR bytesA productA resultA xhatA whatA
  wideA_apply absA_apply peakA_apply blockPeakA_apply gainA_apply scalesA_apply smallA_apply indexA_apply nibbleA_apply bytesA_apply xhatA_apply
  weightNibbleA_apply whatA_apply resultA_apply cast_apply decR_x decR_w)

variable (x : FVec Ideal S1x2048x7168 .bf16)

/-- A magnitude of the segmented, blocked `x` is a magnitude of a segment. -/
theorem abs_seg (s : Fin 8) (p : Fin 256) (b : Fin 448) (l : Fin 16) :
    absA (wideA x) (ix5 0 s p b l) = mag (seg x s (ix3 (0 : Fin 1) p ⟨16 * b.val + l.val, by omega⟩)) := by
  rw [absA_apply]
  have e : x (ix3 0 ⟨s.val * 256 + p.val, by omega⟩ ⟨b.val * 16 + l.val, by omega⟩) = seg x s (ix3 (0 : Fin 1) p ⟨16 * b.val + l.val, by omega⟩) := by
    refine congrArg₂ (fun i j => x (ix3 0 i j)) (Fin.ext ?_) (Fin.ext ?_)
    · show s.val * 256 + p.val = 256 * s.val + p.val; omega
    · show b.val * 16 + l.val = 16 * b.val + l.val; omega
  rw [e]
  rfl

/-- The largest magnitude of a segment. -/
theorem peak_eq (s : Fin 8) : peakA (absA (wideA x)) (ix1 s) = amaxA (seg x s) := by
  rw [peakA_apply, ofBits_bot]
  show Finset.sup _ (absA (wideA x)) = _
  refine le_antisymm (Finset.sup_le fun i hi => ?_) (Finset.sup_le fun p _ => ?_)
  · have h1 : i 1 = s := congrFun (Finset.mem_filter.1 hi).2 0
    have h0 : i 0 = (0 : Fin 1) := Fin.ext (by have h : (i 0).val < 1 := (i 0).isLt; show (i 0).val = 0; omega)
    have e : i = ix5 0 s (i 2) (i 3) (i 4) := by
      funext a
      match a with
      | ⟨0, _⟩ => exact h0
      | ⟨1, _⟩ => exact h1
      | ⟨2, _⟩ => rfl
      | ⟨3, _⟩ => rfl
      | ⟨4, _⟩ => rfl
    exact (le_of_eq ((congrArg (absA (wideA x)) e).trans (abs_seg x s (i 2) (i 3) (i 4)))).trans (mag_le_amax _ _ _)
  · have hp := p.2.isLt
    have e : mag (seg x s (ix3 (0 : Fin 1) p.1 p.2)) = absA (wideA x) (ix5 0 s p.1 ⟨p.2.val / 16, by omega⟩ ⟨p.2.val % 16, by omega⟩) := by
      rw [abs_seg]
      refine congrArg (fun z => mag (seg x s (ix3 (0 : Fin 1) p.1 z))) (Fin.ext ?_)
      show p.2.val = 16 * (p.2.val / 16) + p.2.val % 16
      omega
    rw [e]
    refine Finset.le_sup (f := absA (wideA x)) (Finset.mem_filter.2 ⟨Finset.mem_univ _, ?_⟩)
    funext a
    match a with
    | ⟨0, _⟩ => rfl

/-- The segments' scales. -/
theorem gain_apply (s : Fin 8) : gR x (ix1 s) = gain x s := by
  unfold gR
  rw [gainA_apply, peak_eq]
  rfl

/-- The segments' scales, as arrays. -/
theorem gain_eq : gR x = gains8 x := by
  funext y
  rw [eq_ix1 y]
  exact gain_apply x (y 0)

/-- A segment's scale is positive. -/
theorem gain_pos (s : Fin 8) : 0 < gain x s := gainOf_pos _ (amaxA_nonneg _)

/-- The largest magnitude of a block. -/
theorem blockPeak_eq (s : Fin 8) (p : Fin 256) (b : Fin 448) : blockPeakA (absA (wideA x)) (ix4 0 s p b) = blkMaxA (seg x s) p b := by
  rw [blockPeakA_apply, fold_max_bot]
  exact congrArg (Finset.univ.sup) (funext fun l => abs_seg x s p b l)

/-- The scale of a block. -/
theorem scale_apply (r : Fin 2048) (b : Fin 448) : sR x (ix2 r b) = scaleA (seg x (sg r)) (gain x (sg r)) (lo r) b := by
  unfold sR
  rw [scalesA_apply, gain_apply, blockPeak_eq, ← bits_zero]
  rfl

/-- The code of an element. -/
theorem code_apply (r : Fin 2048) (e : Fin 7168) : nR x (ix3 0 r e) = clr (codeA (seg x (sg r)) (gain x (sg r)) (lo r) e) := by
  have hr := r.isLt
  have he := e.isLt
  have e1 : (⟨r.val / 256 * 256 + r.val % 256, by omega⟩ : Fin 2048) = r := Fin.ext (by show r.val / 256 * 256 + r.val % 256 = r.val; omega)
  have e2 : (⟨e.val / 16 * 16 + e.val % 16, by omega⟩ : Fin 7168) = e := Fin.ext (by show e.val / 16 * 16 + e.val % 16 = e.val; omega)
  have e3 : (⟨16 * (e.val / 16) + e.val % 16, by omega⟩ : Fin 7168) = e := Fin.ext (by show 16 * (e.val / 16) + e.val % 16 = e.val; omega)
  have hx : x (ix3 0 r e) = seg x (sg r) (ix3 (0 : Fin 1) (lo r) e) :=
    congrArg (fun i => x (ix3 0 i e)) (Fin.ext (by show r.val = 256 * (r.val / 256) + r.val % 256; omega))
  unfold nR codeA scaleA
  rw [← plain_eq _ _ _ (gain_pos x (sg r)), nibbleA_apply]
  dsimp only
  rw [indexA_apply, smallA_apply, wideA_apply, abs_seg, scale_apply, gain_apply]
  rw [e1, e2, e3, hx]
  rfl

/-- The scales of the blocks. -/
theorem scales_eq : shapeCast Cert.ReferenceIdeal.S1x2048x448 (sR x) Cert.ReferenceIdeal.Gen.shapeCasts_S2048x448_S1x2048x448 = scalesAll x := by
  funext y
  have h0 : y 0 = (0 : Fin 1) := Fin.ext (by have h : (y 0).val < 1 := (y 0).isLt; show (y 0).val = 0; omega)
  have e : y = ix3 0 (y 1) (y 2) := by
    funext a
    match a with
    | ⟨0, _⟩ => exact h0
    | ⟨1, _⟩ => rfl
    | ⟨2, _⟩ => rfl
  exact (congrArg _ e).trans ((cast_apply (sR x) (y 1) (y 2)).trans (scale_apply x (y 1) (y 2)))

/-- A code of an element is below 16. -/
theorem codeA_lt (s : Fin 8) (p : Fin 256) (e : Fin 7168) : (codeA (seg x s) (gain x s) p e).toNat < 16 := codeOf_lt _

/-- The bytes of the codes. -/
theorem codes_eq : bytesA (nR x) = codesAll x := by
  funext y
  have h0 : y 0 = (0 : Fin 1) := Fin.ext (by have h : (y 0).val < 1 := (y 0).isLt; show (y 0).val = 0; omega)
  have e : y = ix3 0 (y 1) (y 2) := by
    funext a
    match a with
    | ⟨0, _⟩ => exact h0
    | ⟨1, _⟩ => rfl
    | ⟨2, _⟩ => rfl
  refine (congrArg _ e).trans ?_
  have h (r : Fin 2048) (l : Fin 3584) : bytesA (nR x) (ix3 0 r l) = codesBlk (seg x (sg r)) (gain x (sg r)) (lo r) l := by
    rw [bytesA_apply, code_apply, code_apply, byte_eq _ _ (codeA_lt x _ _ _) (codeA_lt x _ _ _)]
    unfold codesBlk
    refine congrArg₂ (fun i j => byteOf (codeA (seg x (sg r)) (gain x (sg r)) (lo r) i) (codeA (seg x (sg r)) (gain x (sg r)) (lo r) j)) (Fin.ext ?_) (Fin.ext ?_)
    · show l.val * 2 = 2 * l.val; omega
    · show l.val * 2 + 1 = 2 * l.val + 1; omega
  exact h (y 1) (y 2)

/-- A decoded element of `x`. -/
theorem xR_apply (r : Fin 2048) (e : Fin 7168) :
    xR x (ix3 0 r e) = e2m1 (codeA (seg x (sg r)) (gain x (sg r)) (lo r) e) * scaleA (seg x (sg r)) (gain x (sg r)) (lo r) ⟨e.val / 16, by omega⟩ := by
  unfold xR
  rw [xhatA_apply, decR_x, cast_apply, scale_apply, code_apply, value_of_lt _ (clr_lt _ (codeA_lt x _ _ _)), e2m1_clr _ (codeA_lt x _ _ _)]

/-- A decoded element of the weights. -/
theorem wR_apply (wc : IVec S4608x3584 8) (ws : FVec Ideal S4608x448 .bf16) (o : Fin 4608) (e : Fin 7168) :
    wR wc ws (ix2 o e) = e2m1 (if e.val % 2 < 1 then nibLo (wc (ix2 o ⟨e.val / 2, by omega⟩)) else nibHi (wc (ix2 o ⟨e.val / 2, by omega⟩))) * ws (ix2 o ⟨e.val / 16, by omega⟩) := by
  obtain ⟨h1, h2, h3, h4⟩ := nib_eq (wc (ix2 o ⟨e.val / 2, by omega⟩))
  unfold wR
  rw [whatA_apply, decR_w, weightNibbleA_apply, h1, h2]
  congr 1
  split
  · exact value_of_lt _ h3
  · exact value_of_lt _ h4

/-- Every element is in one lane of one chunk. -/
theorem elem_bijective : Function.Bijective fun p : Fin 28 × Fin 256 => elemOf p.1 p.2 := by
  rw [Fintype.bijective_iff_injective_and_card]
  refine ⟨fun p q h => ?_, by simp⟩
  have h : 2 * (128 * p.1.val + p.2.val % 128) + p.2.val / 128 = 2 * (128 * q.1.val + q.2.val % 128) + q.2.val / 128 := congrArg Fin.val h
  have h1 := p.2.isLt
  have h2 := q.2.isLt
  exact Prod.ext (Fin.ext (by omega)) (Fin.ext (by omega))

/-- A sum over the elements, by chunks and lanes. -/
theorem sum_elems (F : Fin 7168 → EReal) : ∑ e : Fin 7168, F e = ∑ t : Fin 28, ∑ l : Fin 256, F (elemOf t l) := by
  rw [← Function.Bijective.sum_comp elem_bijective F, Fintype.sum_prod_type]

/-- The matmul's result. -/
theorem out_eq (wc : IVec S4608x3584 8) (ws : FVec Ideal S4608x448 .bf16) (w : FVec Ideal S1 .f32) :
    resultA (productA (xR x) (wR wc ws)) (gR x) w = mmAll w (gains8 x) (xdqAll x) wc ws := by
  funext y
  have h0 : y 0 = (0 : Fin 1) := Fin.ext (by have h : (y 0).val < 1 := (y 0).isLt; show (y 0).val = 0; omega)
  have e : y = ix3 0 (y 1) (y 2) := by
    funext a
    match a with
    | ⟨0, _⟩ => exact h0
    | ⟨1, _⟩ => rfl
    | ⟨2, _⟩ => rfl
  refine (congrArg _ e).trans ?_
  have h (r : Fin 2048) (o : Fin 4608) : resultA (productA (xR x) (wR wc ws)) (gR x) w (ix3 0 r o) = mmAll w (gains8 x) (xdqAll x) wc ws (ix3 0 r o) := by
    rw [resultA_apply, sum_elems, gain_apply]
    refine congrArg (fun z : EReal => z * gain x (sg r) * w (ix1 0)) (Finset.sum_congr rfl fun t _ => Finset.sum_congr rfl fun l _ => ?_)
    have hl := l.isLt
    rw [xR_apply, wR_apply]
    have e1 : (elemOf t l).val = 2 * (128 * t.val + l.val % 128) + l.val / 128 := rfl
    have e2 : (⟨(elemOf t l).val / 16, by omega⟩ : Fin 448) = ⟨16 * t.val + l.val % 128 / 8, by omega⟩ := Fin.ext (by show (elemOf t l).val / 16 = 16 * t.val + l.val % 128 / 8; omega)
    have e3 : (⟨(elemOf t l).val / 2, by omega⟩ : Fin 3584) = ⟨128 * t.val + l.val % 128, by omega⟩ := Fin.ext (by show (elemOf t l).val / 2 = 128 * t.val + l.val % 128; omega)
    have e4 : ((elemOf t l).val % 2 < 1) = (l.val < 128) := propext (by omega)
    rw [e2, e3]
    simp only [e4]
    rfl
  exact h (y 1) (y 2)

end Cert.Equal
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.KRun
public import proofs.«01_k».proof.Proof.RRun
public import proofs.«01_k».proof.Proof.EqC

@[expose] public section

noncomputable section

namespace Cert.Proof

open Idealize.ShloMosaic Idealize.SL.Sem

/-- Kernel and reference, from the same arguments, end with the same four results. -/
theorem algebraic : algebraic_KernelIdeal_ReferenceIdeal (hKernelIdeal := Cert.KernelIdeal.Gen.facts) (hReferenceIdeal := Cert.ReferenceIdeal.Gen.facts) := by
  intro m g m' g' _ hargs
  refine ⟨fun c => KernelIdeal.Gen.W3 m g c (Proc.devRef .tc KernelIdeal.main_v3), fun c => KernelIdeal.Gen.W3 m g c (Proc.devRef .tc KernelIdeal.main_v0_0),
    fun c => KernelIdeal.Gen.W3 m g c (Proc.devRef .tc KernelIdeal.main_v0_1), fun c => KernelIdeal.Gen.W3 m g c (Proc.devRef .tc KernelIdeal.main_v2), ?_, ?_⟩
  · exact (θ_run _ _ _).mono (fun _ h c => ⟨(h.1 c).1, (h.1 c).2.1, (h.1 c).2.2.1, (h.1 c).2.2.2, (h.2.1 c).1, (h.2.1 c).2.1, (h.2.1 c).2.2.1, (h.2.1 c).2.2.2⟩)
      (θ_run_and (KernelIdeal.Out.run m g) (KernelIdeal.Gen.frame m g))
  · refine (θ_run _ _ _).mono (fun _ h c => ⟨(h.1 c).1.trans ?_, (h.1 c).2.1.trans ?_, (h.1 c).2.2.1.trans ?_, (h.1 c).2.2.2.trans ?_, (h.2.1 c).1, (h.2.1 c).2.1, (h.2.1 c).2.2.1, (h.2.1 c).2.2.2⟩)
      (θ_run_and (ReferenceIdeal.Val.run m' g') (ReferenceIdeal.Gen.frame m' g'))
    · have e0 : ReferenceIdeal.Val.argX m' c = KernelIdeal.Out.argX m c := (hargs c).1
      have e1 : ReferenceIdeal.Val.argC m' c = m ((c.tc : Thread KernelIdeal.nD KernelIdeal.τ).loc KernelIdeal.main_arg1) := (hargs c).2.1
      have e2 : ReferenceIdeal.Val.argS m' c = m ((c.tc : Thread KernelIdeal.nD KernelIdeal.τ).loc KernelIdeal.main_arg2) := (hargs c).2.2.1
      have e3 : ReferenceIdeal.Val.argG m' c = m ((c.tc : Thread KernelIdeal.nD KernelIdeal.τ).loc KernelIdeal.main_arg3) := (hargs c).2.2.2
      rw [e0, e1, e2, e3]
      exact (Equal.out_eq _ _ _ _).trans (KernelIdeal.Out.W3_out m g c).symm
    · have e0 : ReferenceIdeal.Val.argX m' c = KernelIdeal.Out.argX m c := (hargs c).1
      rw [e0]
      exact (Equal.codes_eq _).trans (KernelIdeal.Out.W3_codes m g c).symm
    · have e0 : ReferenceIdeal.Val.argX m' c = KernelIdeal.Out.argX m c := (hargs c).1
      rw [e0]
      exact (Equal.scales_eq _).trans (KernelIdeal.Out.W3_scales m g c).symm
    · have e0 : ReferenceIdeal.Val.argX m' c = KernelIdeal.Out.argX m c := (hargs c).1
      rw [e0]
      exact (Equal.gain_eq _).trans (KernelIdeal.Out.W3_gains m g c).symm

/-- The claims, one by one: the three frames, the (empty) list of rewrites, and the equality of the results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
